-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_and_keys [hPre_finite_queries_and_keys : Cert.Pre_finite_queries_and_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_and_keys [hPre_finite_queries_and_keys : Cert.Pre_finite_queries_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_KvB (m : (ℓ : Loc Cert.KvB.nD Cert.KvB.τ Cert.KvB.sig) → Buf (Elt Bits) ℓ) : Prop :=
  True

def Pre_KvBIdeal (m : (ℓ : Loc Cert.KvBIdeal.nD Cert.KvBIdeal.τ Cert.KvBIdeal.sig) → Buf (Elt Ideal) ℓ) : Prop :=
  True

def Pre_KvBRefIdeal (m : (ℓ : Loc Cert.KvBRefIdeal.nD Cert.KvBRefIdeal.τ Cert.KvBRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_KvBS (m : (ℓ : Loc Cert.KvBS.nD Cert.KvBS.τ Cert.KvBS.sig) → Buf (Elt Bits) ℓ) : Prop :=
  True

def Pre_KvBSIdeal (m : (ℓ : Loc Cert.KvBSIdeal.nD Cert.KvBSIdeal.τ Cert.KvBSIdeal.sig) → Buf (Elt Ideal) ℓ) : Prop :=
  True

def Pre_KvBSRefIdeal (m : (ℓ : Loc Cert.KvBSRefIdeal.nD Cert.KvBSRefIdeal.τ Cert.KvBSRefIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_MlaInS (m : (ℓ : Loc Cert.MlaInS.nD Cert.MlaInS.τ Cert.MlaInS.sig) → Buf (Elt Bits) ℓ) : Prop :=
  True

def Pre_MlaInSIdeal (m : (ℓ : Loc Cert.MlaInSIdeal.nD Cert.MlaInSIdeal.τ Cert.MlaInSIdeal.sig) → Buf (Elt Ideal) ℓ) : Prop :=
  True

def Pre_MlaInSRefIdeal (m : (ℓ : Loc Cert.MlaInSRefIdeal.nD Cert.MlaInSRefIdeal.τ Cert.MlaInSRefIdeal.sig) → Buf (Elt Ideal) ℓ) : Prop :=
  True

def Pre_QB (m : (ℓ : Loc Cert.QB.nD Cert.QB.τ Cert.QB.sig) → Buf (Elt Bits) ℓ) : Prop :=
  True

def Pre_QBIdeal (m : (ℓ : Loc Cert.QBIdeal.nD Cert.QBIdeal.τ Cert.QBIdeal.sig) → Buf (Elt Ideal) ℓ) : Prop :=
  True

def Pre_QBRefIdeal (m : (ℓ : Loc Cert.QBRefIdeal.nD Cert.QBRefIdeal.τ Cert.QBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_queries_and_keys [hAttnIdeal : Cert.AttnIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_and_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_queries_and_keys [hAttnRefIdeal : Cert.AttnRefIdeal.Facts] [hPre_finite_queries_and_keys : Cert.Pre_finite_queries_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_KvB [hKvB : Cert.KvB.Facts] : Prop :=
  ∀ (m : (ℓ : Loc Cert.KvB.nD Cert.KvB.τ Cert.KvB.sig) → Buf (Elt Bits) ℓ) (g : Dev Cert.KvB.nD → PrngReg), Pre_KvB m →
    θ_run (Cert.KvB.defs (F := Bits)) (onTc (τ := Cert.KvB.τ) (Cert.KvB.main (F := Bits))) ⟨m, fun _ => 0, g⟩ (fun r => (∀ c : Dev Cert.KvB.nD,
      r.2.mem ((c.tc : Thread Cert.KvB.nD Cert.KvB.τ).loc Cert.KvB.main_arg0) = m ((c.tc : Thread Cert.KvB.nD Cert.KvB.τ).loc Cert.KvB.main_arg0)
      ∧ r.2.mem ((c.tc : Thread Cert.KvB.nD Cert.KvB.τ).loc Cert.KvB.main_arg1) = m ((c.tc : Thread Cert.KvB.nD Cert.KvB.τ).loc Cert.KvB.main_arg1)
      ∧ r.2.mem ((c.tc : Thread Cert.KvB.nD Cert.KvB.τ).loc Cert.KvB.main_arg2) = m ((c.tc : Thread Cert.KvB.nD Cert.KvB.τ).loc Cert.KvB.main_arg2))
      ∧ r.2.sem = fun _ => 0)

def quiescent_KvBIdeal [hKvBIdeal : Cert.KvBIdeal.Facts] : Prop :=
  ∀ (m : (ℓ : Loc Cert.KvBIdeal.nD Cert.KvBIdeal.τ Cert.KvBIdeal.sig) → Buf (Elt Ideal) ℓ) (g : Dev Cert.KvBIdeal.nD → PrngReg), Pre_KvBIdeal m →
    θ_run (Cert.KvBIdeal.defs (F := Ideal)) (onTc (τ := Cert.KvBIdeal.τ) (Cert.KvBIdeal.main (F := Ideal))) ⟨m, fun _ => 0, g⟩ (fun r => (∀ c : Dev Cert.KvBIdeal.nD,
      r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
      ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
      ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2))
      ∧ r.2.sem = fun _ => 0)

def quiescent_KvBRefIdeal [hKvBRefIdeal : Cert.KvBRefIdeal.Facts] : Prop :=
  ∀ (m : (ℓ : Loc Cert.KvBRefIdeal.nD Cert.KvBRefIdeal.τ Cert.KvBRefIdeal.sig) → Buf (Elt Ideal) ℓ) (g : Dev Cert.KvBRefIdeal.nD → PrngReg), Pre_KvBRefIdeal m →
    θ_run (Cert.KvBRefIdeal.defs (F := Ideal)) (onTc (τ := Cert.KvBRefIdeal.τ) (Cert.KvBRefIdeal.main (F := Ideal))) ⟨m, fun _ => 0, g⟩ (fun r => (∀ c : Dev Cert.KvBRefIdeal.nD,
      r.2.mem ((c.tc : Thread Cert.KvBRefIdeal.nD Cert.KvBRefIdeal.τ).loc Cert.KvBRefIdeal.main_arg0) = m ((c.tc : Thread Cert.KvBRefIdeal.nD Cert.KvBRefIdeal.τ).loc Cert.KvBRefIdeal.main_arg0)
      ∧ r.2.mem ((c.tc : Thread Cert.KvBRefIdeal.nD Cert.KvBRefIdeal.τ).loc Cert.KvBRefIdeal.main_arg1) = m ((c.tc : Thread Cert.KvBRefIdeal.nD Cert.KvBRefIdeal.τ).loc Cert.KvBRefIdeal.main_arg1)
      ∧ r.2.mem ((c.tc : Thread Cert.KvBRefIdeal.nD Cert.KvBRefIdeal.τ).loc Cert.KvBRefIdeal.main_arg2) = m ((c.tc : Thread Cert.KvBRefIdeal.nD Cert.KvBRefIdeal.τ).loc Cert.KvBRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_KvBS [hKvBS : Cert.KvBS.Facts] : Prop :=
  ∀ (m : (ℓ : Loc Cert.KvBS.nD Cert.KvBS.τ Cert.KvBS.sig) → Buf (Elt Bits) ℓ) (g : Dev Cert.KvBS.nD → PrngReg), Pre_KvBS m →
    θ_run (Cert.KvBS.defs (F := Bits)) (onTc (τ := Cert.KvBS.τ) (Cert.KvBS.main (F := Bits))) ⟨m, fun _ => 0, g⟩ (fun r => (∀ c : Dev Cert.KvBS.nD,
      r.2.mem ((c.tc : Thread Cert.KvBS.nD Cert.KvBS.τ).loc Cert.KvBS.main_arg0) = m ((c.tc : Thread Cert.KvBS.nD Cert.KvBS.τ).loc Cert.KvBS.main_arg0)
      ∧ r.2.mem ((c.tc : Thread Cert.KvBS.nD Cert.KvBS.τ).loc Cert.KvBS.main_arg1) = m ((c.tc : Thread Cert.KvBS.nD Cert.KvBS.τ).loc Cert.KvBS.main_arg1)
      ∧ r.2.mem ((c.tc : Thread Cert.KvBS.nD Cert.KvBS.τ).loc Cert.KvBS.main_arg2) = m ((c.tc : Thread Cert.KvBS.nD Cert.KvBS.τ).loc Cert.KvBS.main_arg2))
      ∧ r.2.sem = fun _ => 0)

def quiescent_KvBSIdeal [hKvBSIdeal : Cert.KvBSIdeal.Facts] : Prop :=
  ∀ (m : (ℓ : Loc Cert.KvBSIdeal.nD Cert.KvBSIdeal.τ Cert.KvBSIdeal.sig) → Buf (Elt Ideal) ℓ) (g : Dev Cert.KvBSIdeal.nD → PrngReg), Pre_KvBSIdeal m →
    θ_run (Cert.KvBSIdeal.defs (F := Ideal)) (onTc (τ := Cert.KvBSIdeal.τ) (Cert.KvBSIdeal.main (F := Ideal))) ⟨m, fun _ => 0, g⟩ (fun r => (∀ c : Dev Cert.KvBSIdeal.nD,
      r.2.mem ((c.tc : Thread Cert.KvBSIdeal.nD Cert.KvBSIdeal.τ).loc Cert.KvBSIdeal.main_arg0) = m ((c.tc : Thread Cert.KvBSIdeal.nD Cert.KvBSIdeal.τ).loc Cert.KvBSIdeal.main_arg0)
      ∧ r.2.mem ((c.tc : Thread Cert.KvBSIdeal.nD Cert.KvBSIdeal.τ).loc Cert.KvBSIdeal.main_arg1) = m ((c.tc : Thread Cert.KvBSIdeal.nD Cert.KvBSIdeal.τ).loc Cert.KvBSIdeal.main_arg1)
      ∧ r.2.mem ((c.tc : Thread Cert.KvBSIdeal.nD Cert.KvBSIdeal.τ).loc Cert.KvBSIdeal.main_arg2) = m ((c.tc : Thread Cert.KvBSIdeal.nD Cert.KvBSIdeal.τ).loc Cert.KvBSIdeal.main_arg2))
      ∧ r.2.sem = fun _ => 0)

def quiescent_KvBSRefIdeal [hKvBSRefIdeal : Cert.KvBSRefIdeal.Facts] : Prop :=
  ∀ (m : (ℓ : Loc Cert.KvBSRefIdeal.nD Cert.KvBSRefIdeal.τ Cert.KvBSRefIdeal.sig) → Buf (Elt Ideal) ℓ) (g : Dev Cert.KvBSRefIdeal.nD → PrngReg), Pre_KvBSRefIdeal m →
    θ_run (Cert.KvBSRefIdeal.defs (F := Ideal)) (onTc (τ := Cert.KvBSRefIdeal.τ) (Cert.KvBSRefIdeal.main (F := Ideal))) ⟨m, fun _ => 0, g⟩ (fun r => (∀ c : Dev Cert.KvBSRefIdeal.nD,
      r.2.mem ((c.tc : Thread Cert.KvBSRefIdeal.nD Cert.KvBSRefIdeal.τ).loc Cert.KvBSRefIdeal.main_arg0) = m ((c.tc : Thread Cert.KvBSRefIdeal.nD Cert.KvBSRefIdeal.τ).loc Cert.KvBSRefIdeal.main_arg0)
      ∧ r.2.mem ((c.tc : Thread Cert.KvBSRefIdeal.nD Cert.KvBSRefIdeal.τ).loc Cert.KvBSRefIdeal.main_arg1) = m ((c.tc : Thread Cert.KvBSRefIdeal.nD Cert.KvBSRefIdeal.τ).loc Cert.KvBSRefIdeal.main_arg1)
      ∧ r.2.mem ((c.tc : Thread Cert.KvBSRefIdeal.nD Cert.KvBSRefIdeal.τ).loc Cert.KvBSRefIdeal.main_arg2) = m ((c.tc : Thread Cert.KvBSRefIdeal.nD Cert.KvBSRefIdeal.τ).loc Cert.KvBSRefIdeal.main_arg2))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3)
      ∧ r.2.mem ((c.tc : Thread Cert.MlaIn.nD Cert.MlaIn.τ).loc Cert.MlaIn.main_arg4) = m ((c.tc : Thread Cert.MlaIn.nD Cert.MlaIn.τ).loc Cert.MlaIn.main_arg4))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1)
      ∧ r.2.mem ((c.tc : Thread Cert.MlaInRefIdeal.nD Cert.MlaInRefIdeal.τ).loc Cert.MlaInRefIdeal.main_arg2) = m ((c.tc : Thread Cert.MlaInRefIdeal.nD Cert.MlaInRefIdeal.τ).loc Cert.MlaInRefIdeal.main_arg2)
      ∧ r.2.mem ((c.tc : Thread Cert.MlaInRefIdeal.nD Cert.MlaInRefIdeal.τ).loc Cert.MlaInRefIdeal.main_arg3) = m ((c.tc : Thread Cert.MlaInRefIdeal.nD Cert.MlaInRefIdeal.τ).loc Cert.MlaInRefIdeal.main_arg3)
      ∧ r.2.mem ((c.tc : Thread Cert.MlaInRefIdeal.nD Cert.MlaInRefIdeal.τ).loc Cert.MlaInRefIdeal.main_arg4) = m ((c.tc : Thread Cert.MlaInRefIdeal.nD Cert.MlaInRefIdeal.τ).loc Cert.MlaInRefIdeal.main_arg4))
      ∧ r.2.sem = fun _ => 0)

def quiescent_MlaInS [hMlaInS : Cert.MlaInS.Facts] : Prop :=
  ∀ (m : (ℓ : Loc Cert.MlaInS.nD Cert.MlaInS.τ Cert.MlaInS.sig) → Buf (Elt Bits) ℓ) (g : Dev Cert.MlaInS.nD → PrngReg), Pre_MlaInS m →
    θ_run (Cert.MlaInS.defs (F := Bits)) (onTc (τ := Cert.MlaInS.τ) (Cert.MlaInS.main (F := Bits))) ⟨m, fun _ => 0, g⟩ (fun r => (∀ c : Dev Cert.MlaInS.nD,
      r.2.mem ((c.tc : Thread Cert.MlaInS.nD Cert.MlaInS.τ).loc Cert.MlaInS.main_arg0) = m ((c.tc : Thread Cert.MlaInS.nD Cert.MlaInS.τ).loc Cert.MlaInS.main_arg0)
      ∧ r.2.mem ((c.tc : Thread Cert.MlaInS.nD Cert.MlaInS.τ).loc Cert.MlaInS.main_arg1) = m ((c.tc : Thread Cert.MlaInS.nD Cert.MlaInS.τ).loc Cert.MlaInS.main_arg1)
      ∧ r.2.mem ((c.tc : Thread Cert.MlaInS.nD Cert.MlaInS.τ).loc Cert.MlaInS.main_arg2) = m ((c.tc : Thread Cert.MlaInS.nD Cert.MlaInS.τ).loc Cert.MlaInS.main_arg2)
      ∧ r.2.mem ((c.tc : Thread Cert.MlaInS.nD Cert.MlaInS.τ).loc Cert.MlaInS.main_arg3) = m ((c.tc : Thread Cert.MlaInS.nD Cert.MlaInS.τ).loc Cert.MlaInS.main_arg3)
      ∧ r.2.mem ((c.tc : Thread Cert.MlaInS.nD Cert.MlaInS.τ).loc Cert.MlaInS.main_arg4) = m ((c.tc : Thread Cert.MlaInS.nD Cert.MlaInS.τ).loc Cert.MlaInS.main_arg4))
      ∧ r.2.sem = fun _ => 0)

def quiescent_MlaInSIdeal [hMlaInSIdeal : Cert.MlaInSIdeal.Facts] : Prop :=
  ∀ (m : (ℓ : Loc Cert.MlaInSIdeal.nD Cert.MlaInSIdeal.τ Cert.MlaInSIdeal.sig) → Buf (Elt Ideal) ℓ) (g : Dev Cert.MlaInSIdeal.nD → PrngReg), Pre_MlaInSIdeal m →
    θ_run (Cert.MlaInSIdeal.defs (F := Ideal)) (onTc (τ := Cert.MlaInSIdeal.τ) (Cert.MlaInSIdeal.main (F := Ideal))) ⟨m, fun _ => 0, g⟩ (fun r => (∀ c : Dev Cert.MlaInSIdeal.nD,
      r.2.mem ((c.tc : Thread Cert.MlaInSIdeal.nD Cert.MlaInSIdeal.τ).loc Cert.MlaInSIdeal.main_arg0) = m ((c.tc : Thread Cert.MlaInSIdeal.nD Cert.MlaInSIdeal.τ).loc Cert.MlaInSIdeal.main_arg0)
      ∧ r.2.mem ((c.tc : Thread Cert.MlaInSIdeal.nD Cert.MlaInSIdeal.τ).loc Cert.MlaInSIdeal.main_arg1) = m ((c.tc : Thread Cert.MlaInSIdeal.nD Cert.MlaInSIdeal.τ).loc Cert.MlaInSIdeal.main_arg1)
      ∧ r.2.mem ((c.tc : Thread Cert.MlaInSIdeal.nD Cert.MlaInSIdeal.τ).loc Cert.MlaInSIdeal.main_arg2) = m ((c.tc : Thread Cert.MlaInSIdeal.nD Cert.MlaInSIdeal.τ).loc Cert.MlaInSIdeal.main_arg2)
      ∧ r.2.mem ((c.tc : Thread Cert.MlaInSIdeal.nD Cert.MlaInSIdeal.τ).loc Cert.MlaInSIdeal.main_arg3) = m ((c.tc : Thread Cert.MlaInSIdeal.nD Cert.MlaInSIdeal.τ).loc Cert.MlaInSIdeal.main_arg3)
      ∧ r.2.mem ((c.tc : Thread Cert.MlaInSIdeal.nD Cert.MlaInSIdeal.τ).loc Cert.MlaInSIdeal.main_arg4) = m ((c.tc : Thread Cert.MlaInSIdeal.nD Cert.MlaInSIdeal.τ).loc Cert.MlaInSIdeal.main_arg4))
      ∧ r.2.sem = fun _ => 0)

def quiescent_MlaInSRefIdeal [hMlaInSRefIdeal : Cert.MlaInSRefIdeal.Facts] : Prop :=
  ∀ (m : (ℓ : Loc Cert.MlaInSRefIdeal.nD Cert.MlaInSRefIdeal.τ Cert.MlaInSRefIdeal.sig) → Buf (Elt Ideal) ℓ) (g : Dev Cert.MlaInSRefIdeal.nD → PrngReg), Pre_MlaInSRefIdeal m →
    θ_run (Cert.MlaInSRefIdeal.defs (F := Ideal)) (onTc (τ := Cert.MlaInSRefIdeal.τ) (Cert.MlaInSRefIdeal.main (F := Ideal))) ⟨m, fun _ => 0, g⟩ (fun r => (∀ c : Dev Cert.MlaInSRefIdeal.nD,
      r.2.mem ((c.tc : Thread Cert.MlaInSRefIdeal.nD Cert.MlaInSRefIdeal.τ).loc Cert.MlaInSRefIdeal.main_arg0) = m ((c.tc : Thread Cert.MlaInSRefIdeal.nD Cert.MlaInSRefIdeal.τ).loc Cert.MlaInSRefIdeal.main_arg0)
      ∧ r.2.mem ((c.tc : Thread Cert.MlaInSRefIdeal.nD Cert.MlaInSRefIdeal.τ).loc Cert.MlaInSRefIdeal.main_arg1) = m ((c.tc : Thread Cert.MlaInSRefIdeal.nD Cert.MlaInSRefIdeal.τ).loc Cert.MlaInSRefIdeal.main_arg1)
      ∧ r.2.mem ((c.tc : Thread Cert.MlaInSRefIdeal.nD Cert.MlaInSRefIdeal.τ).loc Cert.MlaInSRefIdeal.main_arg2) = m ((c.tc : Thread Cert.MlaInSRefIdeal.nD Cert.MlaInSRefIdeal.τ).loc Cert.MlaInSRefIdeal.main_arg2)
      ∧ r.2.mem ((c.tc : Thread Cert.MlaInSRefIdeal.nD Cert.MlaInSRefIdeal.τ).loc Cert.MlaInSRefIdeal.main_arg3) = m ((c.tc : Thread Cert.MlaInSRefIdeal.nD Cert.MlaInSRefIdeal.τ).loc Cert.MlaInSRefIdeal.main_arg3)
      ∧ r.2.mem ((c.tc : Thread Cert.MlaInSRefIdeal.nD Cert.MlaInSRefIdeal.τ).loc Cert.MlaInSRefIdeal.main_arg4) = m ((c.tc : Thread Cert.MlaInSRefIdeal.nD Cert.MlaInSRefIdeal.τ).loc Cert.MlaInSRefIdeal.main_arg4))
      ∧ r.2.sem = fun _ => 0)

def quiescent_QB [hQB : Cert.QB.Facts] : Prop :=
  ∀ (m : (ℓ : Loc Cert.QB.nD Cert.QB.τ Cert.QB.sig) → Buf (Elt Bits) ℓ) (g : Dev Cert.QB.nD → PrngReg), Pre_QB m →
    θ_run (Cert.QB.defs (F := Bits)) (onTc (τ := Cert.QB.τ) (Cert.QB.main (F := Bits))) ⟨m, fun _ => 0, g⟩ (fun r => (∀ c : Dev Cert.QB.nD,
      r.2.mem ((c.tc : Thread Cert.QB.nD Cert.QB.τ).loc Cert.QB.main_arg0) = m ((c.tc : Thread Cert.QB.nD Cert.QB.τ).loc Cert.QB.main_arg0)
      ∧ r.2.mem ((c.tc : Thread Cert.QB.nD Cert.QB.τ).loc Cert.QB.main_arg1) = m ((c.tc : Thread Cert.QB.nD Cert.QB.τ).loc Cert.QB.main_arg1)
      ∧ r.2.mem ((c.tc : Thread Cert.QB.nD Cert.QB.τ).loc Cert.QB.main_arg2) = m ((c.tc : Thread Cert.QB.nD Cert.QB.τ).loc Cert.QB.main_arg2))
      ∧ r.2.sem = fun _ => 0)

def quiescent_QBIdeal [hQBIdeal : Cert.QBIdeal.Facts] : Prop :=
  ∀ (m : (ℓ : Loc Cert.QBIdeal.nD Cert.QBIdeal.τ Cert.QBIdeal.sig) → Buf (Elt Ideal) ℓ) (g : Dev Cert.QBIdeal.nD → PrngReg), Pre_QBIdeal m →
    θ_run (Cert.QBIdeal.defs (F := Ideal)) (onTc (τ := Cert.QBIdeal.τ) (Cert.QBIdeal.main (F := Ideal))) ⟨m, fun _ => 0, g⟩ (fun r => (∀ c : Dev Cert.QBIdeal.nD,
      r.2.mem ((c.tc : Thread Cert.QBIdeal.nD Cert.QBIdeal.τ).loc Cert.QBIdeal.main_arg0) = m ((c.tc : Thread Cert.QBIdeal.nD Cert.QBIdeal.τ).loc Cert.QBIdeal.main_arg0)
      ∧ r.2.mem ((c.tc : Thread Cert.QBIdeal.nD Cert.QBIdeal.τ).loc Cert.QBIdeal.main_arg1) = m ((c.tc : Thread Cert.QBIdeal.nD Cert.QBIdeal.τ).loc Cert.QBIdeal.main_arg1)
      ∧ r.2.mem ((c.tc : Thread Cert.QBIdeal.nD Cert.QBIdeal.τ).loc Cert.QBIdeal.main_arg2) = m ((c.tc : Thread Cert.QBIdeal.nD Cert.QBIdeal.τ).loc Cert.QBIdeal.main_arg2))
      ∧ r.2.sem = fun _ => 0)

def quiescent_QBRefIdeal [hQBRefIdeal : Cert.QBRefIdeal.Facts] : Prop :=
  ∀ (m : (ℓ : Loc Cert.QBRefIdeal.nD Cert.QBRefIdeal.τ Cert.QBRefIdeal.sig) → Buf (Elt Ideal) ℓ) (g : Dev Cert.QBRefIdeal.nD → PrngReg), Pre_QBRefIdeal m →
    θ_run (Cert.QBRefIdeal.defs (F := Ideal)) (onTc (τ := Cert.QBRefIdeal.τ) (Cert.QBRefIdeal.main (F := Ideal))) ⟨m, fun _ => 0, g⟩ (fun r => (∀ c : Dev Cert.QBRefIdeal.nD,
      r.2.mem ((c.tc : Thread Cert.QBRefIdeal.nD Cert.QBRefIdeal.τ).loc Cert.QBRefIdeal.main_arg0) = m ((c.tc : Thread Cert.QBRefIdeal.nD Cert.QBRefIdeal.τ).loc Cert.QBRefIdeal.main_arg0)
      ∧ r.2.mem ((c.tc : Thread Cert.QBRefIdeal.nD Cert.QBRefIdeal.τ).loc Cert.QBRefIdeal.main_arg1) = m ((c.tc : Thread Cert.QBRefIdeal.nD Cert.QBRefIdeal.τ).loc Cert.QBRefIdeal.main_arg1)
      ∧ r.2.mem ((c.tc : Thread Cert.QBRefIdeal.nD Cert.QBRefIdeal.τ).loc Cert.QBRefIdeal.main_arg2) = m ((c.tc : Thread Cert.QBRefIdeal.nD Cert.QBRefIdeal.τ).loc Cert.QBRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_queries_and_keys [hAttnIdeal : Cert.AttnIdeal.Facts] [hAttnRefIdeal : Cert.AttnRefIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_and_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_KvB_KvBIdeal : Prop :=
  True

def algebraic_KvBIdeal_KvBRefIdeal [hKvBIdeal : Cert.KvBIdeal.Facts] [hKvBRefIdeal : Cert.KvBRefIdeal.Facts] : Prop :=
  ∀ (m : (ℓ : Loc Cert.KvBIdeal.nD Cert.KvBIdeal.τ Cert.KvBIdeal.sig) → Buf (Elt Ideal) ℓ) (g : Dev Cert.KvBIdeal.nD → PrngReg)
    (m' : (ℓ : Loc Cert.KvBRefIdeal.nD Cert.KvBRefIdeal.τ Cert.KvBRefIdeal.sig) → Buf (Elt Ideal) ℓ) (g' : Dev Cert.KvBRefIdeal.nD → PrngReg), Pre_KvBIdeal m →
    (∀ c : Dev Cert.KvBIdeal.nD,
      m' ((c.tc : Thread Cert.KvBRefIdeal.nD Cert.KvBRefIdeal.τ).loc Cert.KvBRefIdeal.main_arg0) = m ((c.tc : Thread Cert.KvBIdeal.nD Cert.KvBIdeal.τ).loc Cert.KvBIdeal.main_arg0)
      ∧ m' ((c.tc : Thread Cert.KvBRefIdeal.nD Cert.KvBRefIdeal.τ).loc Cert.KvBRefIdeal.main_arg1) = m ((c.tc : Thread Cert.KvBIdeal.nD Cert.KvBIdeal.τ).loc Cert.KvBIdeal.main_arg1)
      ∧ m' ((c.tc : Thread Cert.KvBRefIdeal.nD Cert.KvBRefIdeal.τ).loc Cert.KvBRefIdeal.main_arg2) = m ((c.tc : Thread Cert.KvBIdeal.nD Cert.KvBIdeal.τ).loc Cert.KvBIdeal.main_arg2)) →
    ∃ (v0 : (c : Dev Cert.KvBIdeal.nD) → Buf (Elt Ideal) ((c.tc : Thread Cert.KvBIdeal.nD Cert.KvBIdeal.τ).loc Cert.KvBIdeal.main_v2)),
      θ_run (Cert.KvBIdeal.defs (F := Ideal)) (onTc (τ := Cert.KvBIdeal.τ) (Cert.KvBIdeal.main (F := Ideal))) ⟨m, fun _ => 0, g⟩ (fun r => ∀ c : Dev Cert.KvBIdeal.nD,
          r.2.mem ((c.tc : Thread Cert.KvBIdeal.nD Cert.KvBIdeal.τ).loc Cert.KvBIdeal.main_v2) = v0 c
          ∧ r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
          ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
          ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2))
      ∧ θ_run (Cert.KvBRefIdeal.defs (F := Ideal)) (onTc (τ := Cert.KvBRefIdeal.τ) (Cert.KvBRefIdeal.main (F := Ideal))) ⟨m', fun _ => 0, g'⟩ (fun r => ∀ c : Dev Cert.KvBRefIdeal.nD,
          r.2.mem ((c.tc : Thread Cert.KvBRefIdeal.nD Cert.KvBRefIdeal.τ).loc Cert.KvBRefIdeal.main_v13) = v0 c
          ∧ r.2.mem ((c.tc : Thread Cert.KvBRefIdeal.nD Cert.KvBRefIdeal.τ).loc Cert.KvBRefIdeal.main_arg0) = m' ((c.tc : Thread Cert.KvBRefIdeal.nD Cert.KvBRefIdeal.τ).loc Cert.KvBRefIdeal.main_arg0)
          ∧ r.2.mem ((c.tc : Thread Cert.KvBRefIdeal.nD Cert.KvBRefIdeal.τ).loc Cert.KvBRefIdeal.main_arg1) = m' ((c.tc : Thread Cert.KvBRefIdeal.nD Cert.KvBRefIdeal.τ).loc Cert.KvBRefIdeal.main_arg1)
          ∧ r.2.mem ((c.tc : Thread Cert.KvBRefIdeal.nD Cert.KvBRefIdeal.τ).loc Cert.KvBRefIdeal.main_arg2) = m' ((c.tc : Thread Cert.KvBRefIdeal.nD Cert.KvBRefIdeal.τ).loc Cert.KvBRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v4)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v4) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v32) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_KvBS_KvBSIdeal : Prop :=
  True

def algebraic_KvBSIdeal_KvBSRefIdeal [hKvBSIdeal : Cert.KvBSIdeal.Facts] [hKvBSRefIdeal : Cert.KvBSRefIdeal.Facts] : Prop :=
  ∀ (m : (ℓ : Loc Cert.KvBSIdeal.nD Cert.KvBSIdeal.τ Cert.KvBSIdeal.sig) → Buf (Elt Ideal) ℓ) (g : Dev Cert.KvBSIdeal.nD → PrngReg)
    (m' : (ℓ : Loc Cert.KvBSRefIdeal.nD Cert.KvBSRefIdeal.τ Cert.KvBSRefIdeal.sig) → Buf (Elt Ideal) ℓ) (g' : Dev Cert.KvBSRefIdeal.nD → PrngReg), Pre_KvBSIdeal m →
    (∀ c : Dev Cert.KvBSIdeal.nD,
      m' ((c.tc : Thread Cert.KvBSRefIdeal.nD Cert.KvBSRefIdeal.τ).loc Cert.KvBSRefIdeal.main_arg0) = m ((c.tc : Thread Cert.KvBSIdeal.nD Cert.KvBSIdeal.τ).loc Cert.KvBSIdeal.main_arg0)
      ∧ m' ((c.tc : Thread Cert.KvBSRefIdeal.nD Cert.KvBSRefIdeal.τ).loc Cert.KvBSRefIdeal.main_arg1) = m ((c.tc : Thread Cert.KvBSIdeal.nD Cert.KvBSIdeal.τ).loc Cert.KvBSIdeal.main_arg1)
      ∧ m' ((c.tc : Thread Cert.KvBSRefIdeal.nD Cert.KvBSRefIdeal.τ).loc Cert.KvBSRefIdeal.main_arg2) = m ((c.tc : Thread Cert.KvBSIdeal.nD Cert.KvBSIdeal.τ).loc Cert.KvBSIdeal.main_arg2)) →
    ∃ (v0 : (c : Dev Cert.KvBSIdeal.nD) → Buf (Elt Ideal) ((c.tc : Thread Cert.KvBSIdeal.nD Cert.KvBSIdeal.τ).loc Cert.KvBSIdeal.main_v2)),
      θ_run (Cert.KvBSIdeal.defs (F := Ideal)) (onTc (τ := Cert.KvBSIdeal.τ) (Cert.KvBSIdeal.main (F := Ideal))) ⟨m, fun _ => 0, g⟩ (fun r => ∀ c : Dev Cert.KvBSIdeal.nD,
          r.2.mem ((c.tc : Thread Cert.KvBSIdeal.nD Cert.KvBSIdeal.τ).loc Cert.KvBSIdeal.main_v2) = v0 c
          ∧ r.2.mem ((c.tc : Thread Cert.KvBSIdeal.nD Cert.KvBSIdeal.τ).loc Cert.KvBSIdeal.main_arg0) = m ((c.tc : Thread Cert.KvBSIdeal.nD Cert.KvBSIdeal.τ).loc Cert.KvBSIdeal.main_arg0)
          ∧ r.2.mem ((c.tc : Thread Cert.KvBSIdeal.nD Cert.KvBSIdeal.τ).loc Cert.KvBSIdeal.main_arg1) = m ((c.tc : Thread Cert.KvBSIdeal.nD Cert.KvBSIdeal.τ).loc Cert.KvBSIdeal.main_arg1)
          ∧ r.2.mem ((c.tc : Thread Cert.KvBSIdeal.nD Cert.KvBSIdeal.τ).loc Cert.KvBSIdeal.main_arg2) = m ((c.tc : Thread Cert.KvBSIdeal.nD Cert.KvBSIdeal.τ).loc Cert.KvBSIdeal.main_arg2))
      ∧ θ_run (Cert.KvBSRefIdeal.defs (F := Ideal)) (onTc (τ := Cert.KvBSRefIdeal.τ) (Cert.KvBSRefIdeal.main (F := Ideal))) ⟨m', fun _ => 0, g'⟩ (fun r => ∀ c : Dev Cert.KvBSRefIdeal.nD,
          r.2.mem ((c.tc : Thread Cert.KvBSRefIdeal.nD Cert.KvBSRefIdeal.τ).loc Cert.KvBSRefIdeal.main_v13) = v0 c
          ∧ r.2.mem ((c.tc : Thread Cert.KvBSRefIdeal.nD Cert.KvBSRefIdeal.τ).loc Cert.KvBSRefIdeal.main_arg0) = m' ((c.tc : Thread Cert.KvBSRefIdeal.nD Cert.KvBSRefIdeal.τ).loc Cert.KvBSRefIdeal.main_arg0)
          ∧ r.2.mem ((c.tc : Thread Cert.KvBSRefIdeal.nD Cert.KvBSRefIdeal.τ).loc Cert.KvBSRefIdeal.main_arg1) = m' ((c.tc : Thread Cert.KvBSRefIdeal.nD Cert.KvBSRefIdeal.τ).loc Cert.KvBSRefIdeal.main_arg1)
          ∧ r.2.mem ((c.tc : Thread Cert.KvBSRefIdeal.nD Cert.KvBSRefIdeal.τ).loc Cert.KvBSRefIdeal.main_arg2) = m' ((c.tc : Thread Cert.KvBSRefIdeal.nD Cert.KvBSRefIdeal.τ).loc Cert.KvBSRefIdeal.main_arg2))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)
      ∧ m' ((c.tc : Thread Cert.MlaInRefIdeal.nD Cert.MlaInRefIdeal.τ).loc Cert.MlaInRefIdeal.main_arg2) = m ((c.tc : Thread Cert.MlaInIdeal.nD Cert.MlaInIdeal.τ).loc Cert.MlaInIdeal.main_arg2)
      ∧ m' ((c.tc : Thread Cert.MlaInRefIdeal.nD Cert.MlaInRefIdeal.τ).loc Cert.MlaInRefIdeal.main_arg3) = m ((c.tc : Thread Cert.MlaInIdeal.nD Cert.MlaInIdeal.τ).loc Cert.MlaInIdeal.main_arg3)
      ∧ m' ((c.tc : Thread Cert.MlaInRefIdeal.nD Cert.MlaInRefIdeal.τ).loc Cert.MlaInRefIdeal.main_arg4) = m ((c.tc : Thread Cert.MlaInIdeal.nD Cert.MlaInIdeal.τ).loc Cert.MlaInIdeal.main_arg4)) →
    ∃ (v0 : (c : Dev Cert.MlaInIdeal.nD) → Buf (Elt Ideal) ((c.tc : Thread Cert.MlaInIdeal.nD Cert.MlaInIdeal.τ).loc Cert.MlaInIdeal.main_v31_0)) (v1 : (c : Dev Cert.MlaInIdeal.nD) → Buf (Elt Ideal) ((c.tc : Thread Cert.MlaInIdeal.nD Cert.MlaInIdeal.τ).loc Cert.MlaInIdeal.main_v31_1)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v31_0) = v0 c
          ∧ r.2.mem ((c.tc : Thread Cert.MlaInIdeal.nD Cert.MlaInIdeal.τ).loc Cert.MlaInIdeal.main_v31_1) = v1 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
          ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v77) = v0 c
          ∧ r.2.mem ((c.tc : Thread Cert.MlaInRefIdeal.nD Cert.MlaInRefIdeal.τ).loc Cert.MlaInRefIdeal.main_v78) = v1 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1)
          ∧ r.2.mem ((c.tc : Thread Cert.MlaInRefIdeal.nD Cert.MlaInRefIdeal.τ).loc Cert.MlaInRefIdeal.main_arg2) = m' ((c.tc : Thread Cert.MlaInRefIdeal.nD Cert.MlaInRefIdeal.τ).loc Cert.MlaInRefIdeal.main_arg2)
          ∧ r.2.mem ((c.tc : Thread Cert.MlaInRefIdeal.nD Cert.MlaInRefIdeal.τ).loc Cert.MlaInRefIdeal.main_arg3) = m' ((c.tc : Thread Cert.MlaInRefIdeal.nD Cert.MlaInRefIdeal.τ).loc Cert.MlaInRefIdeal.main_arg3)
          ∧ r.2.mem ((c.tc : Thread Cert.MlaInRefIdeal.nD Cert.MlaInRefIdeal.τ).loc Cert.MlaInRefIdeal.main_arg4) = m' ((c.tc : Thread Cert.MlaInRefIdeal.nD Cert.MlaInRefIdeal.τ).loc Cert.MlaInRefIdeal.main_arg4))

def preserves_MlaInS_MlaInSIdeal : Prop :=
  True

def algebraic_MlaInSIdeal_MlaInSRefIdeal [hMlaInSIdeal : Cert.MlaInSIdeal.Facts] [hMlaInSRefIdeal : Cert.MlaInSRefIdeal.Facts] : Prop :=
  ∀ (m : (ℓ : Loc Cert.MlaInSIdeal.nD Cert.MlaInSIdeal.τ Cert.MlaInSIdeal.sig) → Buf (Elt Ideal) ℓ) (g : Dev Cert.MlaInSIdeal.nD → PrngReg)
    (m' : (ℓ : Loc Cert.MlaInSRefIdeal.nD Cert.MlaInSRefIdeal.τ Cert.MlaInSRefIdeal.sig) → Buf (Elt Ideal) ℓ) (g' : Dev Cert.MlaInSRefIdeal.nD → PrngReg), Pre_MlaInSIdeal m →
    (∀ c : Dev Cert.MlaInSIdeal.nD,
      m' ((c.tc : Thread Cert.MlaInSRefIdeal.nD Cert.MlaInSRefIdeal.τ).loc Cert.MlaInSRefIdeal.main_arg0) = m ((c.tc : Thread Cert.MlaInSIdeal.nD Cert.MlaInSIdeal.τ).loc Cert.MlaInSIdeal.main_arg0)
      ∧ m' ((c.tc : Thread Cert.MlaInSRefIdeal.nD Cert.MlaInSRefIdeal.τ).loc Cert.MlaInSRefIdeal.main_arg1) = m ((c.tc : Thread Cert.MlaInSIdeal.nD Cert.MlaInSIdeal.τ).loc Cert.MlaInSIdeal.main_arg1)
      ∧ m' ((c.tc : Thread Cert.MlaInSRefIdeal.nD Cert.MlaInSRefIdeal.τ).loc Cert.MlaInSRefIdeal.main_arg2) = m ((c.tc : Thread Cert.MlaInSIdeal.nD Cert.MlaInSIdeal.τ).loc Cert.MlaInSIdeal.main_arg2)
      ∧ m' ((c.tc : Thread Cert.MlaInSRefIdeal.nD Cert.MlaInSRefIdeal.τ).loc Cert.MlaInSRefIdeal.main_arg3) = m ((c.tc : Thread Cert.MlaInSIdeal.nD Cert.MlaInSIdeal.τ).loc Cert.MlaInSIdeal.main_arg3)
      ∧ m' ((c.tc : Thread Cert.MlaInSRefIdeal.nD Cert.MlaInSRefIdeal.τ).loc Cert.MlaInSRefIdeal.main_arg4) = m ((c.tc : Thread Cert.MlaInSIdeal.nD Cert.MlaInSIdeal.τ).loc Cert.MlaInSIdeal.main_arg4)) →
    ∃ (v0 : (c : Dev Cert.MlaInSIdeal.nD) → Buf (Elt Ideal) ((c.tc : Thread Cert.MlaInSIdeal.nD Cert.MlaInSIdeal.τ).loc Cert.MlaInSIdeal.main_v28_0)) (v1 : (c : Dev Cert.MlaInSIdeal.nD) → Buf (Elt Ideal) ((c.tc : Thread Cert.MlaInSIdeal.nD Cert.MlaInSIdeal.τ).loc Cert.MlaInSIdeal.main_v28_1)),
      θ_run (Cert.MlaInSIdeal.defs (F := Ideal)) (onTc (τ := Cert.MlaInSIdeal.τ) (Cert.MlaInSIdeal.main (F := Ideal))) ⟨m, fun _ => 0, g⟩ (fun r => ∀ c : Dev Cert.MlaInSIdeal.nD,
          r.2.mem ((c.tc : Thread Cert.MlaInSIdeal.nD Cert.MlaInSIdeal.τ).loc Cert.MlaInSIdeal.main_v28_0) = v0 c
          ∧ r.2.mem ((c.tc : Thread Cert.MlaInSIdeal.nD Cert.MlaInSIdeal.τ).loc Cert.MlaInSIdeal.main_v28_1) = v1 c
          ∧ r.2.mem ((c.tc : Thread Cert.MlaInSIdeal.nD Cert.MlaInSIdeal.τ).loc Cert.MlaInSIdeal.main_arg0) = m ((c.tc : Thread Cert.MlaInSIdeal.nD Cert.MlaInSIdeal.τ).loc Cert.MlaInSIdeal.main_arg0)
          ∧ r.2.mem ((c.tc : Thread Cert.MlaInSIdeal.nD Cert.MlaInSIdeal.τ).loc Cert.MlaInSIdeal.main_arg1) = m ((c.tc : Thread Cert.MlaInSIdeal.nD Cert.MlaInSIdeal.τ).loc Cert.MlaInSIdeal.main_arg1)
          ∧ r.2.mem ((c.tc : Thread Cert.MlaInSIdeal.nD Cert.MlaInSIdeal.τ).loc Cert.MlaInSIdeal.main_arg2) = m ((c.tc : Thread Cert.MlaInSIdeal.nD Cert.MlaInSIdeal.τ).loc Cert.MlaInSIdeal.main_arg2)
          ∧ r.2.mem ((c.tc : Thread Cert.MlaInSIdeal.nD Cert.MlaInSIdeal.τ).loc Cert.MlaInSIdeal.main_arg3) = m ((c.tc : Thread Cert.MlaInSIdeal.nD Cert.MlaInSIdeal.τ).loc Cert.MlaInSIdeal.main_arg3)
          ∧ r.2.mem ((c.tc : Thread Cert.MlaInSIdeal.nD Cert.MlaInSIdeal.τ).loc Cert.MlaInSIdeal.main_arg4) = m ((c.tc : Thread Cert.MlaInSIdeal.nD Cert.MlaInSIdeal.τ).loc Cert.MlaInSIdeal.main_arg4))
      ∧ θ_run (Cert.MlaInSRefIdeal.defs (F := Ideal)) (onTc (τ := Cert.MlaInSRefIdeal.τ) (Cert.MlaInSRefIdeal.main (F := Ideal))) ⟨m', fun _ => 0, g'⟩ (fun r => ∀ c : Dev Cert.MlaInSRefIdeal.nD,
          r.2.mem ((c.tc : Thread Cert.MlaInSRefIdeal.nD Cert.MlaInSRefIdeal.τ).loc Cert.MlaInSRefIdeal.main_v78) = v0 c
          ∧ r.2.mem ((c.tc : Thread Cert.MlaInSRefIdeal.nD Cert.MlaInSRefIdeal.τ).loc Cert.MlaInSRefIdeal.main_v79) = v1 c
          ∧ r.2.mem ((c.tc : Thread Cert.MlaInSRefIdeal.nD Cert.MlaInSRefIdeal.τ).loc Cert.MlaInSRefIdeal.main_arg0) = m' ((c.tc : Thread Cert.MlaInSRefIdeal.nD Cert.MlaInSRefIdeal.τ).loc Cert.MlaInSRefIdeal.main_arg0)
          ∧ r.2.mem ((c.tc : Thread Cert.MlaInSRefIdeal.nD Cert.MlaInSRefIdeal.τ).loc Cert.MlaInSRefIdeal.main_arg1) = m' ((c.tc : Thread Cert.MlaInSRefIdeal.nD Cert.MlaInSRefIdeal.τ).loc Cert.MlaInSRefIdeal.main_arg1)
          ∧ r.2.mem ((c.tc : Thread Cert.MlaInSRefIdeal.nD Cert.MlaInSRefIdeal.τ).loc Cert.MlaInSRefIdeal.main_arg2) = m' ((c.tc : Thread Cert.MlaInSRefIdeal.nD Cert.MlaInSRefIdeal.τ).loc Cert.MlaInSRefIdeal.main_arg2)
          ∧ r.2.mem ((c.tc : Thread Cert.MlaInSRefIdeal.nD Cert.MlaInSRefIdeal.τ).loc Cert.MlaInSRefIdeal.main_arg3) = m' ((c.tc : Thread Cert.MlaInSRefIdeal.nD Cert.MlaInSRefIdeal.τ).loc Cert.MlaInSRefIdeal.main_arg3)
          ∧ r.2.mem ((c.tc : Thread Cert.MlaInSRefIdeal.nD Cert.MlaInSRefIdeal.τ).loc Cert.MlaInSRefIdeal.main_arg4) = m' ((c.tc : Thread Cert.MlaInSRefIdeal.nD Cert.MlaInSRefIdeal.τ).loc Cert.MlaInSRefIdeal.main_arg4))

def preserves_QB_QBIdeal : Prop :=
  True

def algebraic_QBIdeal_QBRefIdeal [hQBIdeal : Cert.QBIdeal.Facts] [hQBRefIdeal : Cert.QBRefIdeal.Facts] : Prop :=
  ∀ (m : (ℓ : Loc Cert.QBIdeal.nD Cert.QBIdeal.τ Cert.QBIdeal.sig) → Buf (Elt Ideal) ℓ) (g : Dev Cert.QBIdeal.nD → PrngReg)
    (m' : (ℓ : Loc Cert.QBRefIdeal.nD Cert.QBRefIdeal.τ Cert.QBRefIdeal.sig) → Buf (Elt Ideal) ℓ) (g' : Dev Cert.QBRefIdeal.nD → PrngReg), Pre_QBIdeal m →
    (∀ c : Dev Cert.QBIdeal.nD,
      m' ((c.tc : Thread Cert.QBRefIdeal.nD Cert.QBRefIdeal.τ).loc Cert.QBRefIdeal.main_arg0) = m ((c.tc : Thread Cert.QBIdeal.nD Cert.QBIdeal.τ).loc Cert.QBIdeal.main_arg0)
      ∧ m' ((c.tc : Thread Cert.QBRefIdeal.nD Cert.QBRefIdeal.τ).loc Cert.QBRefIdeal.main_arg1) = m ((c.tc : Thread Cert.QBIdeal.nD Cert.QBIdeal.τ).loc Cert.QBIdeal.main_arg1)
      ∧ m' ((c.tc : Thread Cert.QBRefIdeal.nD Cert.QBRefIdeal.τ).loc Cert.QBRefIdeal.main_arg2) = m ((c.tc : Thread Cert.QBIdeal.nD Cert.QBIdeal.τ).loc Cert.QBIdeal.main_arg2)) →
    ∃ (v0 : (c : Dev Cert.QBIdeal.nD) → Buf (Elt Ideal) ((c.tc : Thread Cert.QBIdeal.nD Cert.QBIdeal.τ).loc Cert.QBIdeal.main_v2)),
      θ_run (Cert.QBIdeal.defs (F := Ideal)) (onTc (τ := Cert.QBIdeal.τ) (Cert.QBIdeal.main (F := Ideal))) ⟨m, fun _ => 0, g⟩ (fun r => ∀ c : Dev Cert.QBIdeal.nD,
          r.2.mem ((c.tc : Thread Cert.QBIdeal.nD Cert.QBIdeal.τ).loc Cert.QBIdeal.main_v2) = v0 c
          ∧ r.2.mem ((c.tc : Thread Cert.QBIdeal.nD Cert.QBIdeal.τ).loc Cert.QBIdeal.main_arg0) = m ((c.tc : Thread Cert.QBIdeal.nD Cert.QBIdeal.τ).loc Cert.QBIdeal.main_arg0)
          ∧ r.2.mem ((c.tc : Thread Cert.QBIdeal.nD Cert.QBIdeal.τ).loc Cert.QBIdeal.main_arg1) = m ((c.tc : Thread Cert.QBIdeal.nD Cert.QBIdeal.τ).loc Cert.QBIdeal.main_arg1)
          ∧ r.2.mem ((c.tc : Thread Cert.QBIdeal.nD Cert.QBIdeal.τ).loc Cert.QBIdeal.main_arg2) = m ((c.tc : Thread Cert.QBIdeal.nD Cert.QBIdeal.τ).loc Cert.QBIdeal.main_arg2))
      ∧ θ_run (Cert.QBRefIdeal.defs (F := Ideal)) (onTc (τ := Cert.QBRefIdeal.τ) (Cert.QBRefIdeal.main (F := Ideal))) ⟨m', fun _ => 0, g'⟩ (fun r => ∀ c : Dev Cert.QBRefIdeal.nD,
          r.2.mem ((c.tc : Thread Cert.QBRefIdeal.nD Cert.QBRefIdeal.τ).loc Cert.QBRefIdeal.main_v14) = v0 c
          ∧ r.2.mem ((c.tc : Thread Cert.QBRefIdeal.nD Cert.QBRefIdeal.τ).loc Cert.QBRefIdeal.main_arg0) = m' ((c.tc : Thread Cert.QBRefIdeal.nD Cert.QBRefIdeal.τ).loc Cert.QBRefIdeal.main_arg0)
          ∧ r.2.mem ((c.tc : Thread Cert.QBRefIdeal.nD Cert.QBRefIdeal.τ).loc Cert.QBRefIdeal.main_arg1) = m' ((c.tc : Thread Cert.QBRefIdeal.nD Cert.QBRefIdeal.τ).loc Cert.QBRefIdeal.main_arg1)
          ∧ r.2.mem ((c.tc : Thread Cert.QBRefIdeal.nD Cert.QBRefIdeal.τ).loc Cert.QBRefIdeal.main_arg2) = m' ((c.tc : Thread Cert.QBRefIdeal.nD Cert.QBRefIdeal.τ).loc Cert.QBRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hKvB : Cert.KvB.Facts) (hKvBIdeal : Cert.KvBIdeal.Facts) (hKvBRefIdeal : Cert.KvBRefIdeal.Facts) (hFfnS : Cert.FfnS.Facts) (hFfnSIdeal : Cert.FfnSIdeal.Facts) (hFfnSRefIdeal : Cert.FfnSRefIdeal.Facts) (hKvBS : Cert.KvBS.Facts) (hKvBSIdeal : Cert.KvBSIdeal.Facts) (hKvBSRefIdeal : Cert.KvBSRefIdeal.Facts) (hMlaIn : Cert.MlaIn.Facts) (hMlaInIdeal : Cert.MlaInIdeal.Facts) (hMlaInRefIdeal : Cert.MlaInRefIdeal.Facts) (hMlaInS : Cert.MlaInS.Facts) (hMlaInSIdeal : Cert.MlaInSIdeal.Facts) (hMlaInSRefIdeal : Cert.MlaInSRefIdeal.Facts) (hQB : Cert.QB.Facts) (hQBIdeal : Cert.QBIdeal.Facts) (hQBRefIdeal : Cert.QBRefIdeal.Facts) (hOut : Cert.Out.Facts) (hOutIdeal : Cert.OutIdeal.Facts) (hOutRefIdeal : Cert.OutRefIdeal.Facts) (hPre_finite_queries_and_keys : Cert.Pre_finite_queries_and_keys.Facts),
    quiescent_Attn (hAttn := hAttn)
    ∧ quiescent_AttnIdeal (hAttnIdeal := hAttnIdeal)
    ∧ quiescent_AttnIdeal_pre_finite_queries_and_keys (hAttnIdeal := hAttnIdeal) (hPre_finite_queries_and_keys := hPre_finite_queries_and_keys)
    ∧ quiescent_AttnRefIdeal (hAttnRefIdeal := hAttnRefIdeal)
    ∧ quiescent_AttnRefIdeal_pre_finite_queries_and_keys (hAttnRefIdeal := hAttnRefIdeal) (hPre_finite_queries_and_keys := hPre_finite_queries_and_keys)
    ∧ quiescent_Ffn (hFfn := hFfn)
    ∧ quiescent_FfnIdeal (hFfnIdeal := hFfnIdeal)
    ∧ quiescent_FfnRefIdeal (hFfnRefIdeal := hFfnRefIdeal)
    ∧ quiescent_KvB (hKvB := hKvB)
    ∧ quiescent_KvBIdeal (hKvBIdeal := hKvBIdeal)
    ∧ quiescent_KvBRefIdeal (hKvBRefIdeal := hKvBRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_KvBS (hKvBS := hKvBS)
    ∧ quiescent_KvBSIdeal (hKvBSIdeal := hKvBSIdeal)
    ∧ quiescent_KvBSRefIdeal (hKvBSRefIdeal := hKvBSRefIdeal)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_MlaInS (hMlaInS := hMlaInS)
    ∧ quiescent_MlaInSIdeal (hMlaInSIdeal := hMlaInSIdeal)
    ∧ quiescent_MlaInSRefIdeal (hMlaInSRefIdeal := hMlaInSRefIdeal)
    ∧ quiescent_QB (hQB := hQB)
    ∧ quiescent_QBIdeal (hQBIdeal := hQBIdeal)
    ∧ quiescent_QBRefIdeal (hQBRefIdeal := hQBRefIdeal)
    ∧ quiescent_Out (hOut := hOut)
    ∧ quiescent_OutIdeal (hOutIdeal := hOutIdeal)
    ∧ quiescent_OutRefIdeal (hOutRefIdeal := hOutRefIdeal)
    ∧ preserves_Attn_AttnIdeal
    ∧ algebraic_AttnIdeal_AttnRefIdeal_pre_finite_queries_and_keys (hAttnIdeal := hAttnIdeal) (hAttnRefIdeal := hAttnRefIdeal) (hPre_finite_queries_and_keys := hPre_finite_queries_and_keys)
    ∧ preserves_Ffn_FfnIdeal
    ∧ algebraic_FfnIdeal_FfnRefIdeal (hFfnIdeal := hFfnIdeal) (hFfnRefIdeal := hFfnRefIdeal)
    ∧ preserves_KvB_KvBIdeal
    ∧ algebraic_KvBIdeal_KvBRefIdeal (hKvBIdeal := hKvBIdeal) (hKvBRefIdeal := hKvBRefIdeal)
    ∧ preserves_FfnS_FfnSIdeal
    ∧ algebraic_FfnSIdeal_FfnSRefIdeal (hFfnSIdeal := hFfnSIdeal) (hFfnSRefIdeal := hFfnSRefIdeal)
    ∧ preserves_KvBS_KvBSIdeal
    ∧ algebraic_KvBSIdeal_KvBSRefIdeal (hKvBSIdeal := hKvBSIdeal) (hKvBSRefIdeal := hKvBSRefIdeal)
    ∧ preserves_MlaIn_MlaInIdeal
    ∧ algebraic_MlaInIdeal_MlaInRefIdeal (hMlaInIdeal := hMlaInIdeal) (hMlaInRefIdeal := hMlaInRefIdeal)
    ∧ preserves_MlaInS_MlaInSIdeal
    ∧ algebraic_MlaInSIdeal_MlaInSRefIdeal (hMlaInSIdeal := hMlaInSIdeal) (hMlaInSRefIdeal := hMlaInSRefIdeal)
    ∧ preserves_QB_QBIdeal
    ∧ algebraic_QBIdeal_QBRefIdeal (hQBIdeal := hQBIdeal) (hQBRefIdeal := hQBRefIdeal)
    ∧ preserves_Out_OutIdeal
    ∧ algebraic_OutIdeal_OutRefIdeal (hOutIdeal := hOutIdeal) (hOutRefIdeal := hOutRefIdeal)
-- ==== Pre_finite_queries_and_keys.lean ====
abbrev S8192x4096 : Shape := ⟨2, ![8192, 4096]⟩
abbrev S8192x6144 : Shape := ⟨2, ![8192, 6144]⟩
abbrev S_ : Shape := ⟨0, ![]⟩

class Facts : Prop where
  bcast_S_S8192x4096 : S_.BroadcastsInDim S8192x4096 (![] : Fin 0 → Fin S8192x4096.rank)
  slices_S8192x6144_S8192x4096_0_0 : S8192x6144.Slices ![0, 0] S8192x4096

variable [Facts]

def fn {F : FTy → Type} [FloatOps F] (main_arg0 : FVec F S8192x4096 .bf16) (main_arg1 : FVec F S8192x6144 .bf16) : IVec S8192x4096 1 × IVec S8192x4096 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_v3 : FVec F S8192x4096 .bf16 := (extractStridedSlice S8192x4096 ![0, 0] · slices_S8192x6144_S8192x4096_0_0) main_arg1
  let main_v4 : FVec F S8192x4096 .bf16 := Host.absf main_v3
  let main_cst_0 : FVec F S_ .bf16 := constant S_ .bf16 0x7F80#16
  let main_v5 : FVec F S8192x4096 .bf16 := broadcastInDim S8192x4096 ![] bcast_S_S8192x4096 main_cst_0
  let main_v6 : IVec S8192x4096 1 := cmpf .olt main_v4 main_v5
  (main_v2, main_v6)
-- ==== Attn.lean ====
abbrev S8192x4096 : Shape := ⟨2, ![8192, 4096]⟩
abbrev S8192x6144 : Shape := ⟨2, ![8192, 6144]⟩
abbrev S8192x2048 : Shape := ⟨2, ![8192, 2048]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 3
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x6144, .bf16⟩
  | .hbm, ⟨2, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

@[reducible] def k0_t1_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_10 : BitVec 32 := 1#32
  ⟨c0_i32_9, v17, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c512_i32_38 : BitVec 32 := 512#32
  let v67 : BitVec 32 := Scalar.muli arg10 c512_i32_38
  v67
def k0_off1 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c512_i32_38 : BitVec 32 := 512#32
  let v67 : BitVec 32 := Scalar.muli arg10 c512_i32_38
  let v68 : BitVec 32 := v67
  let v69 : Index := Scalar.indexCast v68
  let c0_39 : Index := 0#32
  ![v69.toNat, 0]
def k0_off2 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c512_i32_38 : BitVec 32 := 512#32
  let v67 : BitVec 32 := Scalar.muli arg10 c512_i32_38
  let v68 : BitVec 32 := v67
  let v71 : Index := Scalar.indexCast v68
  let c0_40 : Index := 0#32
  ![v71.toNat, 0]
@[reducible] def k0_t2_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let v14 : BitVec 32 := Scalar.addi c0_i32_9 v13
  let c1_i32_11 : BitVec 32 := 1#32
  ⟨v17, v14, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c512_i32_38 : BitVec 32 := 512#32
  let v67 : BitVec 32 := Scalar.muli arg10 c512_i32_38
  v67
def k0_off3 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c512_i32_38 : BitVec 32 := 512#32
  let v67 : BitVec 32 := Scalar.muli arg10 c512_i32_38
  let v68 : BitVec 32 := v67
  let v69 : Index := Scalar.indexCast v68
  let c0_39 : Index := 0#32
  ![v69.toNat, 0]
def k0_off4 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c512_i32_38 : BitVec 32 := 512#32
  let v67 : BitVec 32 := Scalar.muli arg10 c512_i32_38
  let v68 : BitVec 32 := v67
  let v71 : Index := Scalar.indexCast v68
  let c0_40 : Index := 0#32
  ![v71.toNat, 0]
def k0_mult3 (i : grid0.Coords) : BitVec 32 :=
  let arg2 : BitVec 32 := BitVec.ofNat 32 (i 2).val
  let c512_i32 : BitVec 32 := 512#32
  let v18 : BitVec 32 := Scalar.muli arg2 c512_i32
  v18
def k0_off5 (i : grid0.Coords) : Fin 2 → Nat :=
  let arg2 : BitVec 32 := BitVec.ofNat 32 (i 2).val
  let c512_i32 : BitVec 32 := 512#32
  let v18 : BitVec 32 := Scalar.muli arg2 c512_i32
  let v19 : BitVec 32 := v18
  let v20 : Index := Scalar.indexCast v19
  let c0_12 : Index := 0#32
  ![v20.toNat, 0]
def k0_off6 (i : grid0.Coords) : Fin 2 → Nat :=
  let arg2 : BitVec 32 := BitVec.ofNat 32 (i 2).val
  let c512_i32 : BitVec 32 := 512#32
  let v18 : BitVec 32 := Scalar.muli arg2 c512_i32
  let v19 : BitVec 32 := v18
  let v22 : Index := Scalar.indexCast v19
  let c0_13 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8192x4096 : Shape := ⟨2, ![8192, 4096]⟩
abbrev S8192x6144 : Shape := ⟨2, ![8192, 6144]⟩
abbrev S2x4096x16x256 : Shape := ⟨4, ![2, 4096, 16, 256]⟩
abbrev S8192x2048 : Shape := ⟨2, ![8192, 2048]⟩
abbrev S2x4096x16x128 : Shape := ⟨4, ![2, 4096, 16, 128]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x6144, .bf16⟩
  | .hbm, ⟨2, _⟩ => ⟨S8192x4096, .f32⟩
  | .hbm, ⟨3, _⟩ => ⟨S2x4096x16x256, .f32⟩
  | .hbm, ⟨4, _⟩ => ⟨S8192x4096, .bf16⟩
  | .hbm, ⟨5, _⟩ => ⟨S8192x4096, .f32⟩
  | .hbm, ⟨6, _⟩ => ⟨S2x4096x16x256, .f32⟩
  | .hbm, ⟨7, _⟩ => ⟨S8192x2048, .bf16⟩
  | .hbm, ⟨8, _⟩ => ⟨S8192x2048, .f32⟩
  | .hbm, ⟨9, _⟩ => ⟨S2x4096x16x128, .f32⟩
  | .hbm, ⟨10, _⟩ => ⟨S2x4096x16x128, .f32⟩
  | .hbm, ⟨11, _⟩ => ⟨S2x4096x16x128, .f32⟩
  | .hbm, ⟨12, _⟩ => ⟨S2x16x4096x4096, .f32⟩
  | .hbm, ⟨13, _⟩ => ⟨S2x4096x16x128, .f32⟩
  | .hbm, ⟨14, _⟩ => ⟨S2x4096x16x128, .f32⟩
  | .hbm, ⟨15, _⟩ => ⟨S2x16x4096x4096, .f32⟩
  | .hbm, ⟨16, _⟩ => ⟨S2x16x4096x4096, .f32⟩
  | .hbm, ⟨17, _⟩ => ⟨S_, .f32⟩
  | .hbm, ⟨18, _⟩ => ⟨S2x16x4096x4096, .f32⟩
  | .hbm, ⟨19, _⟩ => ⟨S2x16x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S_, .f32⟩
  | .hbm, ⟨32, _⟩ => ⟨S2x16x4096, .f32⟩
  | .hbm, ⟨33, _⟩ => ⟨S_, .f32⟩
  | .hbm, ⟨34, _⟩ => ⟨S2x16x4096, .f32⟩
  | .hbm, ⟨35, _⟩ => ⟨S2x16x4096, .f32⟩
  | .hbm, ⟨36, _⟩ => ⟨S2x16x4096x1, .f32⟩
  | .hbm, ⟨37, _⟩ => ⟨S2x16x4096x4096, .f32⟩
  | .hbm, ⟨38, _⟩ => ⟨S2x16x4096x4096, .f32⟩
  | .hbm, ⟨39, _⟩ => ⟨S2x16x4096x4096, .f32⟩
  | .hbm, ⟨40, _⟩ => ⟨S_, .f32⟩
  | .hbm, ⟨41, _⟩ => ⟨S2x16x4096, .f32⟩
  | .hbm, ⟨42, _⟩ => ⟨S2x16x4096x1, .f32⟩
  | .hbm, ⟨43, _⟩ => ⟨S2x16x4096x4096, .f32⟩
  | .hbm, ⟨44, _⟩ => ⟨S2x16x4096x4096, .f32⟩
  | .hbm, ⟨45, _⟩ => ⟨S2x16x128x4096, .f32⟩
  | .hbm, ⟨46, _⟩ => ⟨S2x4096x16x128, .f32⟩
  | .hbm, ⟨47, _⟩ => ⟨S8192x2048, .f32⟩
  | .hbm, ⟨48, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S1x2048, .f32⟩
  | .hbm, ⟨6, _⟩ => ⟨S1x2048, .f32⟩
  | .hbm, ⟨7, _⟩ => ⟨S2048x11264, .bf16⟩
  | .hbm, ⟨8, _⟩ => ⟨S5632x2048, .bf16⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c0_i32_10 : BitVec 32 := 0#32
  let v17 : BitVec 1 := Scalar.cmpi .eq arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c0_i32_12 : BitVec 32 := 0#32
  let v20 : BitVec 1 := Scalar.cmpi .sgt arg1 c0_i32_12
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11264 : Shape := ⟨2, ![8192, 11264]⟩
abbrev S8192x5632 : Shape := ⟨2, ![8192, 5632]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x11264, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== KvB.lean ====
abbrev S8192x2048 : Shape := ⟨2, ![8192, 2048]⟩
abbrev S2048 : Shape := ⟨1, ![2048]⟩
abbrev S2048x4608 : Shape := ⟨2, ![2048, 4608]⟩
abbrev S1x2048 : Shape := ⟨2, ![1, 2048]⟩
abbrev S8192x4608 : Shape := ⟨2, ![8192, 4608]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .f32⟩
  | .hbm, ⟨3, _⟩ => ⟨S1x2048, .f32⟩
  | .hbm, ⟨4, _⟩ => ⟨S2048x4608, .bf16⟩
  | .hbm, ⟨5, _⟩ => ⟨S8192x4608, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvBRefIdeal.lean ====
abbrev S8192x2048 : Shape := ⟨2, ![8192, 2048]⟩
abbrev S2048 : Shape := ⟨1, ![2048]⟩
abbrev S2048x4608 : Shape := ⟨2, ![2048, 4608]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4608 : Shape := ⟨2, ![8192, 4608]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4608, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnS.lean ====
abbrev S128x2048 : Shape := ⟨2, ![128, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S128x512 : Shape := ⟨2, ![128, 512]⟩

abbrev nBuf : Space → Nat
  | .hbm => 10
  | .vmem => 11
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S1x2048, .f32⟩
  | .hbm, ⟨6, _⟩ => ⟨S1x2048, .f32⟩
  | .hbm, ⟨7, _⟩ => ⟨S2048x11264, .bf16⟩
  | .hbm, ⟨8, _⟩ => ⟨S5632x2048, .bf16⟩
  | .hbm, ⟨9, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S128x2048, .f32⟩
  | .local _ .vmem, ⟨10, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c0_i32_10 : BitVec 32 := 0#32
  let v17 : BitVec 1 := Scalar.cmpi .eq arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c0_i32_12 : BitVec 32 := 0#32
  let v20 : BitVec 1 := Scalar.cmpi .sgt arg1 c0_i32_12
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S128x2048 : Shape := ⟨2, ![128, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x11264 : Shape := ⟨2, ![128, 11264]⟩
abbrev S128x5632 : Shape := ⟨2, ![128, 5632]⟩

abbrev nBuf : Space → Nat
  | .hbm => 52
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S128x2048, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x2048, .f32⟩
  | .hbm, ⟨17, _⟩ => ⟨S128x2048, .f32⟩
  | .hbm, ⟨18, _⟩ => ⟨S1x2048, .f32⟩
  | .hbm, ⟨19, _⟩ => ⟨S128x2048, .f32⟩
  | .hbm, ⟨20, _⟩ => ⟨S128x2048, .f32⟩
  | .hbm, ⟨21, _⟩ => ⟨S128x11264, .f32⟩
  | .hbm, ⟨22, _⟩ => ⟨S128x5632, .f32⟩
  | .hbm, ⟨23, _⟩ => ⟨S128x5632, .f32⟩
  | .hbm, ⟨24, _⟩ => ⟨S128x5632, .f32⟩
  | .hbm, ⟨25, _⟩ => ⟨S128x5632, .f32⟩
  | .hbm, ⟨26, _⟩ => ⟨S_, .f32⟩
  | .hbm, ⟨27, _⟩ => ⟨S128x5632, .f32⟩
  | .hbm, ⟨28, _⟩ => ⟨S128x5632, .f32⟩
  | .hbm, ⟨29, _⟩ => ⟨S_, .f32⟩
  | .hbm, ⟨30, _⟩ => ⟨S128x5632, .f32⟩
  | .hbm, ⟨31, _⟩ => ⟨S128x5632, .f32⟩
  | .hbm, ⟨32, _⟩ => ⟨S128x5632, .f32⟩
  | .hbm, ⟨33, _⟩ => ⟨S128x5632, .f32⟩
  | .hbm, ⟨34, _⟩ => ⟨S128x2048, .f32⟩
  | .hbm, ⟨35, _⟩ => ⟨S128x2048, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x2048, .f32⟩
  | .hbm, ⟨47, _⟩ => ⟨S128x2048, .f32⟩
  | .hbm, ⟨48, _⟩ => ⟨S1x2048, .f32⟩
  | .hbm, ⟨49, _⟩ => ⟨S128x2048, .f32⟩
  | .hbm, ⟨50, _⟩ => ⟨S128x2048, .f32⟩
  | .hbm, ⟨51, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== KvBS.lean ====
abbrev S128x2048 : Shape := ⟨2, ![128, 2048]⟩
abbrev S2048 : Shape := ⟨1, ![2048]⟩
abbrev S2048x4608 : Shape := ⟨2, ![2048, 4608]⟩
abbrev S1x2048 : Shape := ⟨2, ![1, 2048]⟩
abbrev S128x4608 : Shape := ⟨2, ![128, 4608]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x4608, .f32⟩
  | .hbm, ⟨3, _⟩ => ⟨S1x2048, .f32⟩
  | .hbm, ⟨4, _⟩ => ⟨S2048x4608, .bf16⟩
  | .hbm, ⟨5, _⟩ => ⟨S128x4608, .f32⟩
  | .local _ .vmem, ⟨0, _⟩ => ⟨S128x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S128x512, .f32⟩
  | .local _ .vmem, ⟨5, _⟩ => ⟨S128x512, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvBSRefIdeal.lean ====
abbrev S128x2048 : Shape := ⟨2, ![128, 2048]⟩
abbrev S2048 : Shape := ⟨1, ![2048]⟩
abbrev S2048x4608 : Shape := ⟨2, ![2048, 4608]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x4608 : Shape := ⟨2, ![128, 4608]⟩

abbrev nBuf : Space → Nat
  | .hbm => 20
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x4608, .f32⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S1x2048, .f32⟩
  | .hbm, ⟨17, _⟩ => ⟨S128x2048, .f32⟩
  | .hbm, ⟨18, _⟩ => ⟨S128x2048, .f32⟩
  | .hbm, ⟨19, _⟩ => ⟨S128x4608, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MlaIn.lean ====
abbrev S2x4096x2048 : Shape := ⟨3, ![2, 4096, 2048]⟩
abbrev S2048 : Shape := ⟨1, ![2048]⟩
abbrev S2048x1088 : Shape := ⟨2, ![2048, 1088]⟩
abbrev S512 : Shape := ⟨1, ![512]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8192x2048 : Shape := ⟨2, ![8192, 2048]⟩
abbrev S1x2048 : Shape := ⟨2, ![1, 2048]⟩
abbrev S2048x64 : Shape := ⟨2, ![2048, 64]⟩
abbrev S2048x128 : Shape := ⟨2, ![2048, 128]⟩
abbrev S2048x1024 : Shape := ⟨2, ![2048, 1024]⟩
abbrev S2048x1152 : Shape := ⟨2, ![2048, 1152]⟩
abbrev S1x512 : Shape := ⟨2, ![1, 512]⟩
abbrev S8192x512 : Shape := ⟨2, ![8192, 512]⟩
abbrev S8192x576 : Shape := ⟨2, ![8192, 576]⟩
abbrev S512x2048 : Shape := ⟨2, ![512, 2048]⟩
abbrev S512x128 : Shape := ⟨2, ![512, 128]⟩
abbrev S512x512 : Shape := ⟨2, ![512, 512]⟩
abbrev S512x576 : Shape := ⟨2, ![512, 576]⟩
abbrev S512x1 : Shape := ⟨2, ![512, 1]⟩
abbrev S512x1152 : Shape := ⟨2, ![512, 1152]⟩
abbrev S512x64 : Shape := ⟨2, ![512, 64]⟩

abbrev nBuf : Space → Nat
  | .hbm => 43
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S4096, .i32⟩
  | .hbm, ⟨6, _⟩ => ⟨S1x4096, .i32⟩
  | .hbm, ⟨7, _⟩ => ⟨S2x4096, .i32⟩
  | .hbm, ⟨8, _⟩ => ⟨S8192, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S_, .f32⟩
  | .hbm, ⟨26, _⟩ => ⟨S8192x64, .f32⟩
  | .hbm, ⟨27, _⟩ => ⟨S8192x128, .f32⟩
  | .hbm, ⟨28, _⟩ => ⟨S8192x32, .f32⟩
  | .hbm, ⟨29, _⟩ => ⟨S8192x128, .f32⟩
  | .hbm, ⟨30, _⟩ => ⟨S8192x2048, .f32⟩
  | .hbm, ⟨31, _⟩ => ⟨S1x2048, .f32⟩
  | .hbm, ⟨32, _⟩ => ⟨S2048x64, .f32⟩
  | .hbm, ⟨33, _⟩ => ⟨S_, .i32⟩
  | .hbm, ⟨34, _⟩ => ⟨S_, .f32⟩
  | .hbm, ⟨35, _⟩ => ⟨S2048x128, .f32⟩
  | .hbm, ⟨36, _⟩ => ⟨S2048x1024, .f32⟩
  | .hbm, ⟨37, _⟩ => ⟨S2048x1152, .f32⟩
  | .hbm, ⟨38, _⟩ => ⟨S2048x1152, .bf16⟩
  | .hbm, ⟨39, _⟩ => ⟨S1x512, .f32⟩
  | .hbm, ⟨40, _⟩ => ⟨S1x512, .f32⟩
  | .hbm, ⟨41, _⟩ => ⟨S8192x512, .bf16⟩
  | .hbm, ⟨42, _⟩ => ⟨S8192x576, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1152, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x576, .f32⟩
  | .local _ .vmem, ⟨13, _⟩ => ⟨S512x576, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlaInRefIdeal.lean ====
abbrev S2x4096x2048 : Shape := ⟨3, ![2, 4096, 2048]⟩
abbrev S2048 : Shape := ⟨1, ![2048]⟩
abbrev S2048x1088 : Shape := ⟨2, ![2048, 1088]⟩
abbrev S512 : Shape := ⟨1, ![512]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x1088 : Shape := ⟨3, ![2, 4096, 1088]⟩
abbrev S2x4096x512 : Shape := ⟨3, ![2, 4096, 512]⟩
abbrev S1x1x512 : Shape := ⟨3, ![1, 1, 512]⟩
abbrev S2x4096x64 : Shape := ⟨3, ![2, 4096, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S2x4096x32 : Shape := ⟨3, ![2, 4096, 32]⟩
abbrev S1x4096x32 : Shape := ⟨3, ![1, 4096, 32]⟩
abbrev S2x4096x576 : Shape := ⟨3, ![2, 4096, 576]⟩
abbrev S8192x512 : Shape := ⟨2, ![8192, 512]⟩
abbrev S8192x576 : Shape := ⟨2, ![8192, 576]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S4096, .i32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x1088, .f32⟩
  | .hbm, ⟨23, _⟩ => ⟨S2x4096x512, .f32⟩
  | .hbm, ⟨24, _⟩ => ⟨S2x4096x512, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x512, .f32⟩
  | .hbm, ⟨36, _⟩ => ⟨S2x4096x512, .f32⟩
  | .hbm, ⟨37, _⟩ => ⟨S1x1x512, .f32⟩
  | .hbm, ⟨38, _⟩ => ⟨S2x4096x512, .f32⟩
  | .hbm, ⟨39, _⟩ => ⟨S2x4096x512, .f32⟩
  | .hbm, ⟨40, _⟩ => ⟨S2x4096x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S4096, .f32⟩
  | .hbm, ⟨50, _⟩ => ⟨S4096x1, .f32⟩
  | .hbm, ⟨51, _⟩ => ⟨S1x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S2x4096x32, .f32⟩
  | .hbm, ⟨58, _⟩ => ⟨S2x4096x32, .f32⟩
  | .hbm, ⟨59, _⟩ => ⟨S1x4096x32, .f32⟩
  | .hbm, ⟨60, _⟩ => ⟨S2x4096x32, .f32⟩
  | .hbm, ⟨61, _⟩ => ⟨S2x4096x32, .f32⟩
  | .hbm, ⟨62, _⟩ => ⟨S1x4096x32, .f32⟩
  | .hbm, ⟨63, _⟩ => ⟨S2x4096x32, .f32⟩
  | .hbm, ⟨64, _⟩ => ⟨S2x4096x32, .f32⟩
  | .hbm, ⟨65, _⟩ => ⟨S2x4096x32, .f32⟩
  | .hbm, ⟨66, _⟩ => ⟨S1x4096x32, .f32⟩
  | .hbm, ⟨67, _⟩ => ⟨S2x4096x32, .f32⟩
  | .hbm, ⟨68, _⟩ => ⟨S2x4096x32, .f32⟩
  | .hbm, ⟨69, _⟩ => ⟨S1x4096x32, .f32⟩
  | .hbm, ⟨70, _⟩ => ⟨S2x4096x32, .f32⟩
  | .hbm, ⟨71, _⟩ => ⟨S2x4096x32, .f32⟩
  | .hbm, ⟨72, _⟩ => ⟨S2x4096x32, .f32⟩
  | .hbm, ⟨73, _⟩ => ⟨S2x4096x64, .f32⟩
  | .hbm, ⟨74, _⟩ => ⟨S2x4096x576, .f32⟩
  | .hbm, ⟨75, _⟩ => ⟨S2x4096x512, .f32⟩
  | .hbm, ⟨76, _⟩ => ⟨S2x4096x512, .f32⟩
  | .hbm, ⟨77, _⟩ => ⟨S_, .f32⟩
  | .hbm, ⟨78, _⟩ => ⟨S2x4096, .f32⟩
  | .hbm, ⟨79, _⟩ => ⟨S2x4096x1, .f32⟩
  | .hbm, ⟨80, _⟩ => ⟨S_, .f32⟩
  | .hbm, ⟨81, _⟩ => ⟨S2x4096x1, .f32⟩
  | .hbm, ⟨82, _⟩ => ⟨S2x4096x1, .f32⟩
  | .hbm, ⟨83, _⟩ => ⟨S_, .f32⟩
  | .hbm, ⟨84, _⟩ => ⟨S2x4096x1, .f32⟩
  | .hbm, ⟨85, _⟩ => ⟨S2x4096x1, .f32⟩
  | .hbm, ⟨86, _⟩ => ⟨S2x4096x1, .f32⟩
  | .hbm, ⟨87, _⟩ => ⟨S2x4096x512, .f32⟩
  | .hbm, ⟨88, _⟩ => ⟨S2x4096x512, .f32⟩
  | .hbm, ⟨89, _⟩ => ⟨S1x1x512, .f32⟩
  | .hbm, ⟨90, _⟩ => ⟨S2x4096x512, .f32⟩
  | .hbm, ⟨91, _⟩ => ⟨S2x4096x512, .f32⟩
  | .hbm, ⟨92, _⟩ => ⟨S8192x512, .f32⟩
  | .hbm, ⟨93, _⟩ => ⟨S8192x512, .bf16⟩
  | .hbm, ⟨94, _⟩ => ⟨S8192x576, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== MlaInS.lean ====
abbrev S128x1x2048 : Shape := ⟨3, ![128, 1, 2048]⟩
abbrev S2048 : Shape := ⟨1, ![2048]⟩
abbrev S2048x1088 : Shape := ⟨2, ![2048, 1088]⟩
abbrev S512 : Shape := ⟨1, ![512]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S128x128 : Shape := ⟨2, ![128, 128]⟩
abbrev S128x2048 : Shape := ⟨2, ![128, 2048]⟩
abbrev S1x2048 : Shape := ⟨2, ![1, 2048]⟩
abbrev S2048x64 : Shape := ⟨2, ![2048, 64]⟩
abbrev S2048x128 : Shape := ⟨2, ![2048, 128]⟩
abbrev S2048x1024 : Shape := ⟨2, ![2048, 1024]⟩
abbrev S2048x1152 : Shape := ⟨2, ![2048, 1152]⟩
abbrev S1x512 : Shape := ⟨2, ![1, 512]⟩
abbrev S128x512 : Shape := ⟨2, ![128, 512]⟩
abbrev S128x576 : Shape := ⟨2, ![128, 576]⟩
abbrev S128x1152 : Shape := ⟨2, ![128, 1152]⟩

abbrev nBuf : Space → Nat
  | .hbm => 41
  | .vmem => 9
  | .smem => 0
  | _ => 0

abbrev bufTy : (tb : Table) → Fin (tcTables nBuf tb) → BufTy
  | .hbm, ⟨0, _⟩ => ⟨S128x1x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S128, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S128, .f32⟩
  | .hbm, ⟨16, _⟩ => ⟨S128x1, .f32⟩
  | .hbm, ⟨17, _⟩ => ⟨S1x32, .f32⟩
  | .hbm, ⟨18, _⟩ => ⟨S128x32, .f32⟩
  | .hbm, ⟨19, _⟩ => ⟨S128x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S_, .f32⟩
  | .hbm, ⟨24, _⟩ => ⟨S128x64, .f32⟩
  | .hbm, ⟨25, _⟩ => ⟨S128x128, .f32⟩
  | .hbm, ⟨26, _⟩ => ⟨S128x32, .f32⟩
  | .hbm, ⟨27, _⟩ => ⟨S128x128, .f32⟩
  | .hbm, ⟨28, _⟩ => ⟨S128x2048, .f32⟩
  | .hbm, ⟨29, _⟩ => ⟨S1x2048, .f32⟩
  | .hbm, ⟨30, _⟩ => ⟨S2048x64, .f32⟩
  | .hbm, ⟨31, _⟩ => ⟨S_, .i32⟩
  | .hbm, ⟨32, _⟩ => ⟨S_, .f32⟩
  | .hbm, ⟨33, _⟩ => ⟨S2048x128, .f32⟩
  | .hbm, ⟨34, _⟩ => ⟨S2048x1024, .f32⟩
  | .hbm, ⟨35, _⟩ => ⟨S2048x1152, .f32⟩
  | .hbm, ⟨36, _⟩ => ⟨S2048x1152, .bf16⟩
  | .hbm, ⟨37, _⟩ => ⟨S1x512, .f32⟩
  | .hbm, ⟨38, _⟩ => ⟨S1x512, .f32⟩
  | .hbm, ⟨39, _⟩ => ⟨S128x512, .bf16⟩
  | .hbm, ⟨40, _⟩ => ⟨S128x576, .f32⟩
  | .local _ .vmem, ⟨0, _⟩ => ⟨S128x2048, .f32⟩
  | .local _ .vmem, ⟨1, _⟩ => ⟨S1x2048, .f32⟩
  | .local _ .vmem, ⟨2, _⟩ => ⟨S2048x1152, .bf16⟩
  | .local _ .vmem, ⟨3, _⟩ => ⟨S1x512, .f32⟩
  | .local _ .vmem, ⟨4, _⟩ => ⟨S1x512, .f32⟩
  | .local _ .vmem, ⟨5, _⟩ => ⟨S128x128, .f32⟩
  | .local _ .vmem, ⟨6, _⟩ => ⟨S128x128, .f32⟩
  | .local _ .vmem, ⟨7, _⟩ => ⟨S128x512, .bf16⟩
  | .local _ .vmem, ⟨8, _⟩ => ⟨S128x576, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MlaInSRefIdeal.lean ====
abbrev S128x1x2048 : Shape := ⟨3, ![128, 1, 2048]⟩
abbrev S2048 : Shape := ⟨1, ![2048]⟩
abbrev S2048x1088 : Shape := ⟨2, ![2048, 1088]⟩
abbrev S512 : Shape := ⟨1, ![512]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S128x1x1088 : Shape := ⟨3, ![128, 1, 1088]⟩
abbrev S128x1x512 : Shape := ⟨3, ![128, 1, 512]⟩
abbrev S1x1x512 : Shape := ⟨3, ![1, 1, 512]⟩
abbrev S128x1x64 : Shape := ⟨3, ![128, 1, 64]⟩
abbrev S32 : Shape := ⟨1, ![32]⟩
abbrev S1x1 : Shape := ⟨2, ![1, 1]⟩
abbrev S1x32 : Shape := ⟨2, ![1, 32]⟩
abbrev S128x1x32 : Shape := ⟨3, ![128, 1, 32]⟩
abbrev S1x1x32 : Shape := ⟨3, ![1, 1, 32]⟩
abbrev S128x1x576 : Shape := ⟨3, ![128, 1, 576]⟩
abbrev S128x512 : Shape := ⟨2, ![128, 512]⟩
abbrev S128x576 : Shape := ⟨2, ![128, 576]⟩

abbrev nBuf : Space → Nat
  | .hbm => 97
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S128x1x2048, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x2048, .f32⟩
  | .hbm, ⟨21, _⟩ => ⟨S128x1x2048, .f32⟩
  | .hbm, ⟨22, _⟩ => ⟨S1x1x2048, .f32⟩
  | .hbm, ⟨23, _⟩ => ⟨S128x1x2048, .f32⟩
  | .hbm, ⟨24, _⟩ => ⟨S128x1x2048, .f32⟩
  | .hbm, ⟨25, _⟩ => ⟨S128x1x1088, .f32⟩
  | .hbm, ⟨26, _⟩ => ⟨S128x1x512, .f32⟩
  | .hbm, ⟨27, _⟩ => ⟨S128x1x512, .f32⟩
  | .hbm, ⟨28, _⟩ => ⟨S_, .f32⟩
  | .hbm, ⟨29, _⟩ => ⟨S128x1, .f32⟩
  | .hbm, ⟨30, _⟩ => ⟨S128x1x1, .f32⟩
  | .hbm, ⟨31, _⟩ => ⟨S_, .f32⟩
  | .hbm, ⟨32, _⟩ => ⟨S128x1x1, .f32⟩
  | .hbm, ⟨33, _⟩ => ⟨S128x1x1, .f32⟩
  | .hbm, ⟨34, _⟩ => ⟨S_, .f32⟩
  | .hbm, ⟨35, _⟩ => ⟨S128x1x1, .f32⟩
  | .hbm, ⟨36, _⟩ => ⟨S128x1x1, .f32⟩
  | .hbm, ⟨37, _⟩ => ⟨S128x1x1, .f32⟩
  | .hbm, ⟨38, _⟩ => ⟨S128x1x512, .f32⟩
  | .hbm, ⟨39, _⟩ => ⟨S128x1x512, .f32⟩
  | .hbm, ⟨40, _⟩ => ⟨S1x1x512, .f32⟩
  | .hbm, ⟨41, _⟩ => ⟨S128x1x512, .f32⟩
  | .hbm, ⟨42, _⟩ => ⟨S128x1x512, .f32⟩
  | .hbm, ⟨43, _⟩ => ⟨S128x1x64, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S1, .f32⟩
  | .hbm, ⟨53, _⟩ => ⟨S1x1, .f32⟩
  | .hbm, ⟨54, _⟩ => ⟨S1x32, .f32⟩
  | .hbm, ⟨55, _⟩ => ⟨S1x32, .f32⟩
  | .hbm, ⟨56, _⟩ => ⟨S1x32, .f32⟩
  | .hbm, ⟨57, _⟩ => ⟨S1x32, .f32⟩
  | .hbm, ⟨58, _⟩ => ⟨S1x32, .f32⟩
  | .hbm, ⟨59, _⟩ => ⟨S128x1x32, .f32⟩
  | .hbm, ⟨60, _⟩ => ⟨S128x1x32, .f32⟩
  | .hbm, ⟨61, _⟩ => ⟨S1x1x32, .f32⟩
  | .hbm, ⟨62, _⟩ => ⟨S128x1x32, .f32⟩
  | .hbm, ⟨63, _⟩ => ⟨S128x1x32, .f32⟩
  | .hbm, ⟨64, _⟩ => ⟨S1x1x32, .f32⟩
  | .hbm, ⟨65, _⟩ => ⟨S128x1x32, .f32⟩
  | .hbm, ⟨66, _⟩ => ⟨S128x1x32, .f32⟩
  | .hbm, ⟨67, _⟩ => ⟨S128x1x32, .f32⟩
  | .hbm, ⟨68, _⟩ => ⟨S1x1x32, .f32⟩
  | .hbm, ⟨69, _⟩ => ⟨S128x1x32, .f32⟩
  | .hbm, ⟨70, _⟩ => ⟨S128x1x32, .f32⟩
  | .hbm, ⟨71, _⟩ => ⟨S1x1x32, .f32⟩
  | .hbm, ⟨72, _⟩ => ⟨S128x1x32, .f32⟩
  | .hbm, ⟨73, _⟩ => ⟨S128x1x32, .f32⟩
  | .hbm, ⟨74, _⟩ => ⟨S128x1x32, .f32⟩
  | .hbm, ⟨75, _⟩ => ⟨S128x1x64, .f32⟩
  | .hbm, ⟨76, _⟩ => ⟨S128x1x576, .f32⟩
  | .hbm, ⟨77, _⟩ => ⟨S128x1x512, .f32⟩
  | .hbm, ⟨78, _⟩ => ⟨S128x1x512, .f32⟩
  | .hbm, ⟨79, _⟩ => ⟨S_, .f32⟩
  | .hbm, ⟨80, _⟩ => ⟨S128x1, .f32⟩
  | .hbm, ⟨81, _⟩ => ⟨S128x1x1, .f32⟩
  | .hbm, ⟨82, _⟩ => ⟨S_, .f32⟩
  | .hbm, ⟨83, _⟩ => ⟨S128x1x1, .f32⟩
  | .hbm, ⟨84, _⟩ => ⟨S128x1x1, .f32⟩
  | .hbm, ⟨85, _⟩ => ⟨S_, .f32⟩
  | .hbm, ⟨86, _⟩ => ⟨S128x1x1, .f32⟩
  | .hbm, ⟨87, _⟩ => ⟨S128x1x1, .f32⟩
  | .hbm, ⟨88, _⟩ => ⟨S128x1x1, .f32⟩
  | .hbm, ⟨89, _⟩ => ⟨S128x1x512, .f32⟩
  | .hbm, ⟨90, _⟩ => ⟨S128x1x512, .f32⟩
  | .hbm, ⟨91, _⟩ => ⟨S1x1x512, .f32⟩
  | .hbm, ⟨92, _⟩ => ⟨S128x1x512, .f32⟩
  | .hbm, ⟨93, _⟩ => ⟨S128x1x512, .f32⟩
  | .hbm, ⟨94, _⟩ => ⟨S128x512, .f32⟩
  | .hbm, ⟨95, _⟩ => ⟨S128x512, .bf16⟩
  | .hbm, ⟨96, _⟩ => ⟨S128x576, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== QB.lean ====
abbrev S8192x2048 : Shape := ⟨2, ![8192, 2048]⟩
abbrev S2048 : Shape := ⟨1, ![2048]⟩
abbrev S2048x2304 : Shape := ⟨2, ![2048, 2304]⟩
abbrev S1x2048 : Shape := ⟨2, ![1, 2048]⟩
abbrev S8192x2304 : Shape := ⟨2, ![8192, 2304]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2304, .f32⟩
  | .hbm, ⟨3, _⟩ => ⟨S1x2048, .f32⟩
  | .hbm, ⟨4, _⟩ => ⟨S2048x2304, .bf16⟩
  | .hbm, ⟨5, _⟩ => ⟨S8192x2304, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .bf16⟩
  | .local _ .vmem, ⟨6, _⟩ => ⟨S1024x768, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QBRefIdeal.lean ====
abbrev S8192x2048 : Shape := ⟨2, ![8192, 2048]⟩
abbrev S2048 : Shape := ⟨1, ![2048]⟩
abbrev S2048x2304 : Shape := ⟨2, ![2048, 2304]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x2304 : Shape := ⟨2, ![8192, 2304]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2304, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2304, .f32⟩
  | .hbm, ⟨20, _⟩ => ⟨S8192x2304, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.AttnSoftmax.lean ====
/-
  A weighted mean with exponential weights over the extended reals, and the running form of it: the largest score so
  far, the mass of the weights and the weighted sum, both taken relative to that largest score and rescaled when it
  grows.
-/
module

public import Idealize.ShloMosaic.PureOps.Ideal
public import Idealize.ShloMosaic.Lib.Pointwise

@[expose] public section

noncomputable section

namespace Cert.Layer

open Idealize.ShloMosaic
open scoped BigOperators

/-- The largest of the first `n` scores (`⊥` when there is none). -/
def top (s : ℕ → EReal) (n : ℕ) : EReal := (Finset.range n).sup s

/-- The mass of the first `n` weights relative to the level `M`. -/
def mass (s : ℕ → EReal) (M : EReal) (n : ℕ) : EReal := ∑ j ∈ Finset.range n, Ideal.exp (s j - M)

/-- The weighted sum of the first `n` values relative to the level `M`. -/
def pull (s v : ℕ → EReal) (M : EReal) (n : ℕ) : EReal := ∑ j ∈ Finset.range n, Ideal.exp (s j - M) * v j

/-! ## The exponential -/

theorem exp_bot : Ideal.exp ⊥ = 0 := rfl

theorem exp_coe (x : ℝ) : Ideal.exp (x : EReal) = (Real.exp x : EReal) := rfl

theorem exp_nonneg (x : EReal) : 0 ≤ Ideal.exp x := by
  induction x with
  | bot => exact le_refl _
  | top => exact le_top
  | coe r => rw [exp_coe]; exact_mod_cast (Real.exp_pos r).le

theorem exp_ne_top {x : EReal} (h : x ≠ ⊤) : Ideal.exp x ≠ ⊤ := by
  induction x with
  | bot => exact EReal.zero_ne_top
  | top => exact absurd rfl h
  | coe r => rw [exp_coe]; exact EReal.coe_ne_top _

theorem sub_ne_top {x M : EReal} (hx : x ≤ M) (hM : M ≠ ⊤) : x - M ≠ ⊤ := by
  induction M with
  | bot => rw [le_bot_iff.mp hx]; simp
  | top => exact absurd rfl hM
  | coe r =>
    induction x with
    | bot => simp
    | top => simp at hx
    | coe q => rw [← EReal.coe_sub]; exact EReal.coe_ne_top _

/-- Moving a weight from the level `M` to a higher level. -/
theorem exp_rescale {x M M' : EReal} (h : x ≤ M) (h' : M ≤ M') (ht : M' ≠ ⊤) :
    Ideal.exp (M - M') * Ideal.exp (x - M) = Ideal.exp (x - M') := by
  induction M' with
  | bot =>
    have e := le_bot_iff.mp h'
    subst e
    rw [le_bot_iff.mp h]
    simp [exp_bot]
  | top => exact absurd rfl ht
  | coe r' =>
    induction M with
    | bot => rw [le_bot_iff.mp h]; simp [exp_bot]
    | top => simp at h'
    | coe r =>
      induction x with
      | bot => simp [exp_bot]
      | top => simp at h
      | coe q =>
        rw [← EReal.coe_sub, ← EReal.coe_sub, ← EReal.coe_sub, exp_coe, exp_coe, exp_coe, ← EReal.coe_mul, ← Real.exp_add]
        congr 2
        ring

/-- A nonnegative finite factor goes into a sum. -/
theorem mul_sum_of_nonneg {ι : Type*} (S : Finset ι) {c : EReal} (h0 : 0 ≤ c) (ht : c ≠ ⊤) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top h0 ht, ih]

/-! ## The largest score -/

theorem le_top {s : ℕ → EReal} {n j : ℕ} (h : j < n) : s j ≤ top s n :=
  Finset.le_sup (f := s) (Finset.mem_range.mpr h)

theorem top_ne_top {s : ℕ → EReal} (h : ∀ j, s j ≠ ⊤) (n : ℕ) : top s n ≠ ⊤ := by
  refine ne_of_lt ?_
  rw [top, Finset.sup_lt_iff (bot_lt_top)]
  exact fun j _ => lt_top_iff_ne_top.mpr (h j)

theorem top_mono (s : ℕ → EReal) {m n : ℕ} (h : m ≤ n) : top s m ≤ top s n :=
  Finset.sup_mono (Finset.range_mono h)

/-- The largest of the first `n + k` is the larger of the largest of the first `n` and of the next `k`. -/
theorem top_add (s : ℕ → EReal) (n k : ℕ) :
    top s (n + k) = max (top s n) ((Finset.univ : Finset (Fin k)).fold max ⊥ fun j => s (n + j.val)) := by
  have e : (Finset.univ : Finset (Fin k)).fold max ⊥ (fun j => s (n + j.val))
      = (Finset.univ : Finset (Fin k)).sup fun j => s (n + j.val) := rfl
  rw [e]
  apply le_antisymm
  · refine Finset.sup_le fun j hj => ?_
    by_cases hn : j < n
    · exact le_max_of_le_left (le_top hn)
    · have hj' := Finset.mem_range.mp hj
      refine le_max_of_le_right ?_
      have := Finset.le_sup (f := fun j : Fin k => s (n + j.val)) (Finset.mem_univ (⟨j - n, by omega⟩ : Fin k))
      simpa [show n + (j - n) = j by omega] using this
  · refine max_le (top_mono s (by omega)) (Finset.sup_le fun j _ => le_top (by omega))

/-- The largest of all `n`, indexed by `Fin n`. -/
theorem fold_eq_top (s : ℕ → EReal) (n : ℕ) : ((Finset.univ : Finset (Fin n)).fold max ⊥ fun j => s j.val) = top s n := by
  have h := top_add s 0 n
  simp only [Nat.zero_add] at h
  rw [h]
  simp [top]

/-- Scores `⊥` past the first `n` do not change the largest. -/
theorem top_extend {s : ℕ → EReal} {n m : ℕ} (hnm : n ≤ m) (h : ∀ j, n ≤ j → s j = ⊥) : top s m = top s n := by
  refine le_antisymm (Finset.sup_le fun j _ => ?_) (top_mono s hnm)
  by_cases hj : j < n
  · exact le_top hj
  · rw [h j (by omega)]; exact bot_le

/-! ## One step of the running form -/

theorem mass_step {s : ℕ → EReal} (h : ∀ j, s j ≠ ⊤) (n k : ℕ) :
    Ideal.exp (top s n - top s (n + k)) * mass s (top s n) n + ∑ j : Fin k, Ideal.exp (s (n + j.val) - top s (n + k))
      = mass s (top s (n + k)) (n + k) := by
  have hm := top_mono s (Nat.le_add_right n k)
  have ht := top_ne_top h (n + k)
  rw [mass, mass, Finset.sum_range_add, mul_sum_of_nonneg _ (exp_nonneg _) (exp_ne_top (sub_ne_top hm ht))]
  congr 1
  · exact Finset.sum_congr rfl fun j hj => exp_rescale (le_top (Finset.mem_range.mp hj)) hm ht
  · exact (Finset.sum_range (fun j => Ideal.exp (s (n + j) - top s (n + k)))).symm

theorem pull_step {s : ℕ → EReal} (h : ∀ j, s j ≠ ⊤) (v : ℕ → EReal) (n k : ℕ) :
    Ideal.exp (top s n - top s (n + k)) * pull s v (top s n) n
        + ∑ j : Fin k, Ideal.exp (s (n + j.val) - top s (n + k)) * v (n + j.val)
      = pull s v (top s (n + k)) (n + k) := by
  have hm := top_mono s (Nat.le_add_right n k)
  have ht := top_ne_top h (n + k)
  rw [pull, pull, Finset.sum_range_add, mul_sum_of_nonneg _ (exp_nonneg _) (exp_ne_top (sub_ne_top hm ht))]
  congr 1
  · refine Finset.sum_congr rfl fun j hj => ?_
    rw [← mul_assoc, exp_rescale (le_top (Finset.mem_range.mp hj)) hm ht]
  · exact (Finset.sum_range (fun j => Ideal.exp (s (n + j) - top s (n + k)) * v (n + j))).symm

/-! ## The mean -/

theorem mass_ne_zero {s : ℕ → EReal} (h : ∀ j, s j ≠ ⊤) {n j0 : ℕ} (hj0 : j0 < n) (hb : s j0 ≠ ⊥) :
    mass s (top s n) n ≠ 0 := by
  intro hz
  have hx := le_top (s := s) hj0
  have hle : Ideal.exp (s j0 - top s n) ≤ mass s (top s n) n :=
    Finset.single_le_sum (f := fun j => Ideal.exp (s j - top s n)) (fun j _ => exp_nonneg _) (Finset.mem_range.mpr hj0)
  rw [hz] at hle
  have ht := top_ne_top h n
  generalize top s n = M at hx hle ht
  generalize s j0 = x at hx hle hb
  induction M with
  | bot => exact hb (le_bot_iff.mp hx)
  | top => exact ht rfl
  | coe r =>
    induction x with
    | bot => exact hb rfl
    | top => simp at hx
    | coe q =>
      rw [← EReal.coe_sub, exp_coe] at hle
      have : Real.exp (q - r) ≤ 0 := by exact_mod_cast hle
      exact absurd this (not_le.mpr (Real.exp_pos _))

theorem inv_ne_top (x : EReal) : x⁻¹ ≠ ⊤ := by
  induction x with
  | bot => simp
  | top => simp
  | coe r => rw [← EReal.coe_inv]; exact EReal.coe_ne_top _

/-- The weighted sum over the mass is the sum with the weights divided by the mass, over any longer stretch whose
    further scores are `⊥`. -/
theorem mean_eq {s : ℕ → EReal} (h : ∀ j, s j ≠ ⊤) (v : ℕ → EReal) {n m j0 : ℕ} (hnm : n ≤ m)
    (hbot : ∀ j, n ≤ j → s j = ⊥) (hj0 : j0 < n) (hb : s j0 ≠ ⊥) :
    Ideal.div (pull s v (top s n) n) (mass s (top s n) n)
      = ∑ j : Fin m, v j.val * Ideal.div (Ideal.exp (s j.val - top s m)) (mass s (top s m) m) := by
  have hext : ∀ f : ℕ → EReal, (∀ j, n ≤ j → f j = 0) → ∑ j ∈ Finset.range m, f j = ∑ j ∈ Finset.range n, f j := by
    intro f hf
    obtain ⟨d, rfl⟩ := Nat.exists_eq_add_of_le hnm
    rw [Finset.sum_range_add, Finset.sum_eq_zero (s := Finset.range d) (fun j _ => hf (n + j) (by omega)), add_zero]
  have hM : top s m = top s n := top_extend hnm hbot
  have h0 : ∀ j, n ≤ j → Ideal.exp (s j - top s n) = 0 := fun j hj => by rw [hbot j hj]; simp [exp_bot]
  have hmass : mass s (top s m) m = mass s (top s n) n := by
    rw [hM]; exact hext _ h0
  rw [hmass, hM]
  have hz := mass_ne_zero h hj0 hb
  have hnn : 0 ≤ (mass s (top s n) n)⁻¹ :=
    EReal.inv_nonneg_of_nonneg (Finset.sum_nonneg fun j _ => exp_nonneg _)
  have hit := inv_ne_top (mass s (top s n) n)
  have hdiv : ∀ x, Ideal.div x (mass s (top s n) n) = x * (mass s (top s n) n)⁻¹ := fun x => by
    rw [Ideal.div, if_neg hz]
  simp only [hdiv]
  rw [← Finset.sum_range (fun j => v j * (Ideal.exp (s j - top s n) * (mass s (top s n) n)⁻¹)),
    hext _ (fun j hj => by rw [h0 j hj]; simp), mul_comm, pull, mul_sum_of_nonneg _ hnn hit]
  refine Finset.sum_congr rfl fun j _ => ?_
  rw [mul_comm, mul_comm (v j), mul_right_comm]

end Cert.Layer

end
-- ==== Proof.AttnEntry.lean ====
/-
  The attention call, entry by entry: the values of the body, the scores of one query row, and the block on the
  diagonal under the mask.
-/
module

public import proofs.«01_k».proof.Proof.AttnSoftmax
public import proofs.«01_k».proof.Proof.Gen.AttnIdeal.Frame
public import Idealize.ShloMosaic.Lib.Tactic
public import Idealize.ShloMosaic.Lib.WordCmp
public import Idealize.ShloMosaic.Lib.Pipeline.ValueKit.Point

@[expose] public section

noncomputable section

namespace Cert.AttnIdeal.Band

open Cert.AttnIdeal Cert.AttnIdeal.Gen Idealize.ShloMosaic Idealize.ShloMosaic.TcCoe Idealize.ShloMosaic.Tactic Idealize.SL.Sem
open Cert.Layer

theorem hz2 : (![0, 0] : Fin 2 → Nat) = fun _ => 0 := funext fun a => by fin_cases a <;> rfl

/-! ## The body's values, one entry -/

theorem neg_inf : (Ideal.ofBits .f32 0xFF800000#32 : EReal) = ⊥ := by
  simp [Ideal.ofBits, Ideal.ieee]

theorem pay1_apply (v0 : Vec Ideal S512x256 .bf16) (v70 : Vec Ideal S512x256 .bf16) (r j : Fin 512) :
    k0_pay1 v0 v70 (ix2 r j) = (∑ n : Fin 256, v0 (ix2 r n) * v70 (ix2 j n)) * Ideal.ofBits .f32 0x3D93CD3A#32 := by
  pointwise [k0_pay1]

theorem pay2_apply (v0 : Vec Ideal S512x256 .bf16) (v70 : Vec Ideal S512x256 .bf16) (m : Vec Ideal S512x1 .f32) (r : Fin 512) :
    k0_pay2 v0 v70 m (ix2 r 0) = max (m (ix2 r 0)) ((Finset.univ : Finset (Fin 512)).fold max ⊥ fun j => k0_pay1 v0 v70 (ix2 r j)) := by
  pointwise [k0_pay2]; rw [neg_inf]

theorem pay5_apply (v0 : Vec Ideal S512x256 .bf16) (v70 : Vec Ideal S512x256 .bf16) (m l : Vec Ideal S512x1 .f32) (r : Fin 512) :
    k0_pay5 v0 v70 m l (ix2 r 0) = Ideal.exp (m (ix2 r 0) - k0_pay2 v0 v70 m (ix2 r 0)) * l (ix2 r 0)
      + ∑ j : Fin 512, Ideal.exp (k0_pay1 v0 v70 (ix2 r j) - k0_pay2 v0 v70 m (ix2 r 0)) := by
  pointwise [k0_pay5, k0_pay3, k0_pay4]

theorem pay6_apply (v0 : Vec Ideal S512x256 .bf16) (v70 : Vec Ideal S512x256 .bf16) (v72 : Vec Ideal S512x128 .bf16) (m : Vec Ideal S512x1 .f32) (a : Vec Ideal S512x128 .f32) (r : Fin 512) (l : Fin 128) :
    k0_pay6 v0 v70 v72 m a (ix2 r l) = Ideal.exp (m (ix2 r 0) - k0_pay2 v0 v70 m (ix2 r 0)) * a (ix2 r l)
      + ∑ j : Fin 512, Ideal.exp (k0_pay1 v0 v70 (ix2 r j) - k0_pay2 v0 v70 m (ix2 r 0)) * v72 (ix2 j l) := by
  pointwise [k0_pay6, k0_pay3, k0_pay4]

theorem pay16_apply (m : Vec Ideal S512x1 .f32) (r : Fin 512) : k0_pay16 (F := Ideal) m (ix2 r 0) = m (ix2 r 0) := by
  pointwise [k0_pay16]

theorem pay18_apply (v0 : Vec Ideal S512x256 .bf16) (v21 : Vec Ideal S512x256 .bf16) (r j : Fin 512) :
    k0_pay18 v0 v21 (ix2 r j) = (∑ n : Fin 256, v0 (ix2 r n) * v21 (ix2 j n)) * Ideal.ofBits .f32 0x3D93CD3A#32 := by
  pointwise [k0_pay18]

theorem pay20_apply (v26 : FVec Ideal S512x512 .f32) (b : Ideal .f32) (r j : Fin 512) :
    k0_pay20 v26 k0_pay19 b (ix2 r j) = if j.val ≤ r.val then v26 (ix2 r j) else b := by
  pointwise [k0_pay20, k0_pay19]
  rw [WordCmp.cmpi_sle_ofNat (by have := j.isLt; simp; omega) (by have := r.isLt; simp; omega), WordCmp.select_decide]

theorem pay21_apply (v26 : FVec Ideal S512x512 .f32) (v29 : IVec S512x512 1) (b : Ideal .f32) (m : Vec Ideal S512x1 .f32) (r : Fin 512) :
    k0_pay21 v26 v29 b m (ix2 r 0) = max (m (ix2 r 0)) ((Finset.univ : Finset (Fin 512)).fold max ⊥ fun j => k0_pay20 v26 v29 b (ix2 r j)) := by
  pointwise [k0_pay21]; rw [neg_inf]

theorem pay24_apply (v26 : FVec Ideal S512x512 .f32) (v29 : IVec S512x512 1) (b : Ideal .f32) (m l : Vec Ideal S512x1 .f32) (r : Fin 512) :
    k0_pay24 v26 v29 b m l (ix2 r 0) = Ideal.exp (m (ix2 r 0) - k0_pay21 v26 v29 b m (ix2 r 0)) * l (ix2 r 0)
      + ∑ j : Fin 512, Ideal.exp (k0_pay20 v26 v29 b (ix2 r j) - k0_pay21 v26 v29 b m (ix2 r 0)) := by
  pointwise [k0_pay24, k0_pay22, k0_pay23]

theorem pay25_apply (v23 : Vec Ideal S512x128 .bf16) (v26 : FVec Ideal S512x512 .f32) (v29 : IVec S512x512 1) (b : Ideal .f32)
    (m : Vec Ideal S512x1 .f32) (a : Vec Ideal S512x128 .f32) (r : Fin 512) (l : Fin 128) :
    k0_pay25 v23 v26 v29 b m a (ix2 r l) = Ideal.exp (m (ix2 r 0) - k0_pay21 v26 v29 b m (ix2 r 0)) * a (ix2 r l)
      + ∑ j : Fin 512, Ideal.exp (k0_pay20 v26 v29 b (ix2 r j) - k0_pay21 v26 v29 b m (ix2 r 0)) * v23 (ix2 j l) := by
  pointwise [k0_pay25, k0_pay22, k0_pay23]

theorem pay27_apply (a : Vec Ideal S512x128 .f32) (l : Vec Ideal S512x1 .f32) (r : Fin 512) (k : Fin 128) :
    k0_pay27 a l (ix2 r k) = Ideal.div (a (ix2 r k)) (l (ix2 r 0)) := by
  pointwise [k0_pay27]

theorem pay13_apply (r : Fin 512) : k0_pay13 (F := Ideal) (ix2 r 0) = ⊥ := by
  pointwise [k0_pay13]; exact neg_inf

theorem pay14_apply (r : Fin 512) : k0_pay14 (F := Ideal) (ix2 r 0) = 0 := by
  pointwise [k0_pay14]

theorem pay15_apply (r : Fin 512) (l : Fin 128) : k0_pay15 (F := Ideal) (ix2 r l) = 0 := by
  pointwise [k0_pay15]

/-! ## The scores of one query row and the values of one column -/

/-- The score of query row `r` of block `q` against key row `j`: the scaled inner product, `⊥` past the query's own
    position. -/
def msc (q : ℕ) (x0 : Vec Ideal S512x256 .bf16) (x1 : Vec Ideal S4096x256 .bf16) (r : Fin 512) (j : ℕ) : EReal :=
  if h : j < 4096 then
    (if j ≤ 512 * q + r.val then (∑ n : Fin 256, x0 (ix2 r n) * x1 (ix2 ⟨j, h⟩ n)) * Ideal.ofBits .f32 0x3D93CD3A#32 else ⊥)
  else ⊥

/-- Column `l` of the values at key row `j`. -/
def col (x2 : Vec Ideal S4096x128 .bf16) (l : Fin 128) (j : ℕ) : EReal :=
  if h : j < 4096 then x2 (ix2 ⟨j, h⟩ l) else 0

theorem ld_key (x1 : Vec Ideal S4096x256 .bf16) (off : Fin 2 → Nat) (inb) (b : ℕ) (ho : off = ![b, 0]) (j : Fin 512) (n : Fin 256) (hj : b + j.val < 4096) :
    View.ld x1 (Rect.unit (s := S4096x256) off S512x256.size inb) (ix2 j n) = x1 (ix2 ⟨b + j.val, hj⟩ n) := by
  subst ho
  exact View.ld_unit_apply_of x1 _ _ _ _ _ (fun a => by fin_cases a <;> simp)

theorem ld_val (x2 : Vec Ideal S4096x128 .bf16) (off : Fin 2 → Nat) (inb) (b : ℕ) (ho : off = ![b, 0]) (j : Fin 512) (n : Fin 128) (hj : b + j.val < 4096) :
    View.ld x2 (Rect.unit (s := S4096x128) off S512x128.size inb) (ix2 j n) = x2 (ix2 ⟨b + j.val, hj⟩ n) := by
  subst ho
  exact View.ld_unit_apply_of x2 _ _ _ _ _ (fun a => by fin_cases a <;> simp)

theorem trips_eq (i : grid0.Coords) : (k0_t1_loop i).trips = (i 2).val :=
  (by decide +kernel : ∀ q : Fin 8, Scf.trips 0#32 (Scalar.addi 0#32 (Scalar.muli (Scalar.divsi (Scalar.subi (BitVec.ofNat 32 q.val) 0#32) 1#32) 1#32)) 1#32 = q.val) (i 2)

theorem trips2_eq (i : grid0.Coords) : (k0_t2_loop i).trips = 0 := Nat.le_zero.mp (k0_t2_abs i).2.1

/-! ## The block on the diagonal -/

section Diag
variable {q : ℕ} (hq : q < 8) (v0 : Vec Ideal S512x256 .bf16) (x1 : Vec Ideal S4096x256 .bf16) (x2 : Vec Ideal S4096x128 .bf16)
  (K : Vec Ideal S512x256 .bf16) (V : Vec Ideal S512x128 .bf16) (m lm : Vec Ideal S512x1 .f32) (am : Vec Ideal S512x128 .f32) (b : Ideal .f32)
  (hb : b = (⊥ : EReal))
  (hK : ∀ (j : Fin 512) (n : Fin 256) (hj : 512 * q + j.val < 4096), K (ix2 j n) = x1 (ix2 ⟨512 * q + j.val, hj⟩ n))
  (hV : ∀ (j : Fin 512) (n : Fin 128) (hj : 512 * q + j.val < 4096), V (ix2 j n) = x2 (ix2 ⟨512 * q + j.val, hj⟩ n))
  (hs : ∀ r j, msc q v0 x1 r j ≠ ⊤)
  (hm : ∀ r : Fin 512, m (ix2 r 0) = top (msc q v0 x1 r) (512 * q))
  (hl : ∀ r : Fin 512, lm (ix2 r 0) = mass (msc q v0 x1 r) (top (msc q v0 x1 r) (512 * q)) (512 * q))
  (ha : ∀ (r : Fin 512) (l : Fin 128), am (ix2 r l) = pull (msc q v0 x1 r) (col x2 l) (top (msc q v0 x1 r) (512 * q)) (512 * q))

include hq hb hK in
theorem diag_score (r j : Fin 512) : k0_pay20 (k0_pay18 v0 K) k0_pay19 b (ix2 r j) = msc q v0 x1 r (512 * q + j.val) := by
  have hj : 512 * q + j.val < 4096 := by omega
  rw [pay20_apply, pay18_apply, hb, msc, dif_pos hj]
  simp only [hK _ _ hj, Nat.add_le_add_iff_left]

include hq hb hK hm in
theorem diag_top (r : Fin 512) : k0_pay21 (k0_pay18 v0 K) k0_pay19 b m (ix2 r 0) = top (msc q v0 x1 r) (512 * q + 512) := by
  rw [pay21_apply, top_add]
  simp only [diag_score hq v0 x1 K b hb hK, hm]

include hq hb hK hm hl hs in
theorem diag_mass (r : Fin 512) : k0_pay24 (k0_pay18 v0 K) k0_pay19 b m lm (ix2 r 0)
    = mass (msc q v0 x1 r) (top (msc q v0 x1 r) (512 * q + 512)) (512 * q + 512) := by
  rw [pay24_apply]
  simp only [diag_score hq v0 x1 K b hb hK, hm, hl, diag_top hq v0 x1 K m b hb hK hm]
  exact mass_step (hs r) _ _

include hq hb hK hV hm ha hs in
theorem diag_pull (r : Fin 512) (l : Fin 128) : k0_pay25 V (k0_pay18 v0 K) k0_pay19 b m am (ix2 r l)
    = pull (msc q v0 x1 r) (col x2 l) (top (msc q v0 x1 r) (512 * q + 512)) (512 * q + 512) := by
  have hv : ∀ j : Fin 512, V (ix2 j l) = col x2 l (512 * q + j.val) := fun j => by
    have hj : 512 * q + j.val < 4096 := by omega
    rw [hV j l hj, col, dif_pos hj]
  rw [pay25_apply]
  simp only [diag_score hq v0 x1 K b hb hK, hm, ha, diag_top hq v0 x1 K m b hb hK hm, hv]
  exact pull_step (hs r) _ _ _

end Diag

end Cert.AttnIdeal.Band

end
-- ==== Proof.AttnLoop.lean ====
/-
  The attention call, the loop over the key blocks before the query block: what the three running buffers hold after
  each trip.
-/
module

public import proofs.«01_k».proof.Proof.AttnEntry
public import proofs.«01_k».proof.Proof.Gen.AttnIdeal.Frame
public import Idealize.ShloMosaic.Lib.Tactic
public import Idealize.ShloMosaic.Lib.VecWindow
public import Idealize.ShloMosaic.Lib.Pipeline.ValueKit.Point

@[expose] public section

noncomputable section

namespace Cert.AttnIdeal.Band

open Cert.AttnIdeal Cert.AttnIdeal.Gen Idealize.ShloMosaic Idealize.ShloMosaic.TcCoe Idealize.ShloMosaic.Tactic Idealize.SL.Sem
open Cert.Layer

/-- What is read after a list of stores that begins with one store and ends with none. -/
theorem read_pieces {s : Shape} {e : EltTy} {sp : Space} (v : View sig .tc sp s e) (L1 L2 : List (View.Piece (Elt Ideal) s e)) (p : View.Piece (Elt Ideal) s e)
    (h1 : L1 = []) {off : Fin s.rank → ℕ} (inb : ∀ a, off a + s.size a ≤ s.size a) :
    v.readCov (L1 ++ (L2 ++ [p])) (Rect.unit off s.size inb).toLoadRect
      = v.read (Elt Ideal) (v.writes (Elt Ideal) (v.writes (Elt Ideal) v.junk [p]) L2) := by
  subst h1
  rw [List.nil_append, View.readCov, View.readAt_full, View.writes_append]

/-! ## The loop over the key blocks before the query block -/

section Found
variable (c : Dev nD) (i : grid0.Coords) (arg3 : Memref sig .tc .vmem S512x256 .bf16) (harg3 : arg3.IsWhole)
  (arg4 : Memref sig .tc .vmem S4096x256 .bf16) (harg4 : arg4.IsWhole) (arg5 : Memref sig .tc .vmem S4096x128 .bf16)
  (harg5 : arg5.IsWhole) (arg6 : Memref sig .tc .vmem S512x128 .bf16) (harg6 : arg6.IsWhole)
  (arg7 : Memref sig .tc .vmem S512x1 .f32) (harg7 : arg7.IsWhole) (arg8 : Memref sig .tc .vmem S512x1 .f32)
  (harg8 : arg8.IsWhole) (arg9 : Memref sig .tc .vmem S512x128 .f32) (harg9 : arg9.IsWhole)
variable (v0 : Vec Ideal S512x256 .bf16) (x1 : Vec Ideal S4096x256 .bf16) (x2 : Vec Ideal S4096x128 .bf16)

theorem trip_eq (k : Fin (k0_t1_loop i).trips) (f7 : BufTy.Contents (Elt Ideal) arg7.view.ty) (f8 : BufTy.Contents (Elt Ideal) arg8.view.ty) (f9 : BufTy.Contents (Elt Ideal) arg9.view.ty) :
   tripL_k0_t1 Variants.none c none i arg3 harg3 arg4 harg4 arg5 harg5 arg6 harg6 arg7 harg7 arg8 harg8 arg9 harg9 v0 (harg4.unread x1) (harg5.unread x2) k f7 f8 f9
     = ([⟨Rect.unit ![0, 0] S512x1.size inb_S512x1_S512x1_0_0, k0_pay16 (k0_pay2 v0 (View.ld x1 (Rect.unit (k0_off1 i k) S512x256.size (k0_off1_inb i k))) (arg7.view.read (Elt Ideal) f7))⟩],
        [⟨Rect.unit ![0, 0] S512x1.size inb_S512x1_S512x1_0_0, k0_pay5 v0 (View.ld x1 (Rect.unit (k0_off1 i k) S512x256.size (k0_off1_inb i k))) (arg7.view.read (Elt Ideal) f7) (arg8.view.read (Elt Ideal) f8)⟩],
        [⟨Rect.unit ![0, 0] S512x128.size inb_S512x128_S512x128_0_0, k0_pay6 v0 (View.ld x1 (Rect.unit (k0_off1 i k) S512x256.size (k0_off1_inb i k))) (View.ld x2 (Rect.unit (k0_off2 i k) S512x128.size (k0_off2_inb i k))) (arg7.view.read (Elt Ideal) f7) (arg9.view.read (Elt Ideal) f9)⟩]) := by
  unfold tripL_k0_t1 trip_k0_t1
  dsimp only
  sl_unfold_words
  simp only [View.readAt_eq_ld, harg4.read_unread, harg5.read_unread, View.ld_unit_zero (S := S512x1) hz2, View.ld_unit_zero (S := S512x128) hz2]
  rfl

set_option maxHeartbeats 1000000 in
theorem loop_inv (G7 : BufTy.Contents (Elt Ideal) arg7.view.ty) (G8 : BufTy.Contents (Elt Ideal) arg8.view.ty) (G9 : BufTy.Contents (Elt Ideal) arg9.view.ty)
    (h7 : ∀ r : Fin 512, arg7.view.read (Elt Ideal) G7 (ix2 r 0) = (⊥ : EReal))
    (h8 : ∀ r : Fin 512, arg8.view.read (Elt Ideal) G8 (ix2 r 0) = (0 : EReal))
    (h9 : ∀ (r : Fin 512) (l : Fin 128), arg9.view.read (Elt Ideal) G9 (ix2 r l) = (0 : EReal))
    (hs : ∀ r j, msc (i 2).val v0 x1 r j ≠ ⊤) (n : ℕ) (hn : n ≤ (k0_t1_loop i).trips) :
    (∀ r : Fin 512, arg7.view.read (Elt Ideal) (arg7.view.writes (Elt Ideal) G7 (pb_k0_t1 Variants.none c none i arg3 harg3 arg4 harg4 arg5 harg5 arg6 harg6 arg7 harg7 arg8 harg8 arg9 harg9 v0 (harg4.unread x1) (harg5.unread x2) G7 G8 G9 n).1) (ix2 r 0)
        = top (msc (i 2).val v0 x1 r) (512 * n))
    ∧ (∀ r : Fin 512, arg8.view.read (Elt Ideal) (arg8.view.writes (Elt Ideal) G8 (pb_k0_t1 Variants.none c none i arg3 harg3 arg4 harg4 arg5 harg5 arg6 harg6 arg7 harg7 arg8 harg8 arg9 harg9 v0 (harg4.unread x1) (harg5.unread x2) G7 G8 G9 n).2.1) (ix2 r 0)
        = mass (msc (i 2).val v0 x1 r) (top (msc (i 2).val v0 x1 r) (512 * n)) (512 * n))
    ∧ (∀ (r : Fin 512) (l : Fin 128), arg9.view.read (Elt Ideal) (arg9.view.writes (Elt Ideal) G9 (pb_k0_t1 Variants.none c none i arg3 harg3 arg4 harg4 arg5 harg5 arg6 harg6 arg7 harg7 arg8 harg8 arg9 harg9 v0 (harg4.unread x1) (harg5.unread x2) G7 G8 G9 n).2.2) (ix2 r l)
        = pull (msc (i 2).val v0 x1 r) (col x2 l) (top (msc (i 2).val v0 x1 r) (512 * n)) (512 * n)) := by
  induction n with
  | zero =>
    refine ⟨fun r => (h7 r).trans ?_, fun r => (h8 r).trans ?_, fun r l => (h9 r l).trans ?_⟩
    · simp [top]
    · simp [mass]
    · simp [pull]
  | succ n ih =>
    obtain ⟨i7, i8, i9⟩ := ih (by omega)
    have hq : n < (i 2).val := by have := trips_eq i; omega
    have hq8 : (i 2).val < 8 := (i 2).isLt
    rw [pb_k0_t1_succ (k := ⟨n, hn⟩), trip_eq]
    dsimp only [List.cons_append, List.nil_append]
    rw [View.read_writes_full, View.read_writes_full, View.read_writes_full]
    generalize arg7.view.read (Elt Ideal) (arg7.view.writes (Elt Ideal) G7 _) = m at i7 ⊢
    generalize arg8.view.read (Elt Ideal) (arg8.view.writes (Elt Ideal) G8 _) = lm at i8 ⊢
    generalize arg9.view.read (Elt Ideal) (arg9.view.writes (Elt Ideal) G9 _) = am at i9 ⊢
    have hsc : ∀ (r j : Fin 512), k0_pay1 v0 (View.ld x1 (Rect.unit (k0_off1 i ⟨n, hn⟩) S512x256.size (k0_off1_inb i ⟨n, hn⟩))) (ix2 r j)
        = msc (i 2).val v0 x1 r (512 * n + j.val) := by
      intro r j
      have hj : 512 * n + j.val < 4096 := by omega
      rw [pay1_apply, msc, dif_pos hj, if_pos (by omega)]
      refine congrArg (· * _) (Finset.sum_congr rfl fun k _ => ?_)
      rw [ld_key x1 _ _ (512 * n) (k0_off1_eq i ⟨n, hn⟩) j k hj]
    have hv : ∀ (j : Fin 512) (l : Fin 128), View.ld x2 (Rect.unit (k0_off2 i ⟨n, hn⟩) S512x128.size (k0_off2_inb i ⟨n, hn⟩)) (ix2 j l)
        = col x2 l (512 * n + j.val) := by
      intro j l
      have hj : 512 * n + j.val < 4096 := by omega
      rw [ld_val x2 _ _ (512 * n) (k0_off2_eq i ⟨n, hn⟩) j l hj, col, dif_pos hj]
    have hm : ∀ r, k0_pay2 v0 (View.ld x1 (Rect.unit (k0_off1 i ⟨n, hn⟩) S512x256.size (k0_off1_inb i ⟨n, hn⟩))) m (ix2 r 0)
        = top (msc (i 2).val v0 x1 r) (512 * n + 512) := by
      intro r
      rw [pay2_apply, top_add]
      simp only [hsc, i7]
    rw [Nat.mul_succ]
    refine ⟨fun r => ?_, fun r => ?_, fun r l => ?_⟩
    · rw [pay16_apply, hm]
    · rw [pay5_apply]
      simp only [hsc, i7, i8, hm]
      exact mass_step (hs r) _ _
    · rw [pay6_apply]
      simp only [hsc, i7, i9, hm, hv]
      exact pull_step (hs r) _ _ _

end Found

end Cert.AttnIdeal.Band

end
-- ==== Proof.AttnBody.lean ====
/-
  The attention call, one grid point: the running form over the key blocks before the query block, then the block on
  the diagonal under the mask, then the weighted sum over the mass.
-/
module

public import proofs.«01_k».proof.Proof.AttnLoop
public import proofs.«01_k».proof.Proof.Gen.AttnIdeal.Frame
public import Idealize.ShloMosaic.Lib.Tactic
public import Idealize.ShloMosaic.Lib.VecWindow
public import Idealize.ShloMosaic.Lib.Pipeline.ValueKit.Point

@[expose] public section

noncomputable section

namespace Cert.AttnIdeal.Band

open Cert.AttnIdeal Cert.AttnIdeal.Gen Idealize.ShloMosaic Idealize.ShloMosaic.TcCoe Idealize.ShloMosaic.Tactic Idealize.SL.Sem
open Cert.Layer

section Found
variable (c : Dev nD) (i : grid0.Coords) (arg3 : Memref sig .tc .vmem S512x256 .bf16) (harg3 : arg3.IsWhole)
  (arg4 : Memref sig .tc .vmem S4096x256 .bf16) (harg4 : arg4.IsWhole) (arg5 : Memref sig .tc .vmem S4096x128 .bf16)
  (harg5 : arg5.IsWhole) (arg6 : Memref sig .tc .vmem S512x128 .bf16) (harg6 : arg6.IsWhole)
  (arg7 : Memref sig .tc .vmem S512x1 .f32) (harg7 : arg7.IsWhole) (arg8 : Memref sig .tc .vmem S512x1 .f32)
  (harg8 : arg8.IsWhole) (arg9 : Memref sig .tc .vmem S512x128 .f32) (harg9 : arg9.IsWhole)
variable (v0 : Vec Ideal S512x256 .bf16) (x1 : Vec Ideal S4096x256 .bf16) (x2 : Vec Ideal S4096x128 .bf16)

/-- The second loop takes no trip. -/
theorem second_nil (v17 : BitVec 32) (X4 : BufTy.Contents (Elt Ideal) arg4.view.ty) (X5 : BufTy.Contents (Elt Ideal) arg5.view.ty)
    (G7 : BufTy.Contents (Elt Ideal) arg7.view.ty) (G8 : BufTy.Contents (Elt Ideal) arg8.view.ty) (G9 : BufTy.Contents (Elt Ideal) arg9.view.ty) :
    pb_k0_t2 Variants.none c none i arg3 harg3 arg4 harg4 arg5 harg5 arg6 harg6 arg7 harg7 arg8 harg8 arg9 harg9 v0 v17 X4 X5 G7 G8 G9
      (k0_t2_loop i).trips = ([], [], []) := by
  rw [trips2_eq]; rfl

set_option maxHeartbeats 1000000 in
/-- The output block: the weighted sum over the mass, over the keys up to the end of the diagonal block. -/
theorem out_eq (hs : ∀ r j, msc (i 2).val v0 x1 r j ≠ ⊤) (r : Fin 512) (l : Fin 128) :
  out0_A_3 (F := Ideal) c i arg3 harg3 arg4 harg4 arg5 harg5 arg6 harg6 arg7 harg7 arg8 harg8 arg9 harg9 v0 x1 x2 (ix2 r l)
    = Ideal.div (pull (msc (i 2).val v0 x1 r) (col x2 l) (top (msc (i 2).val v0 x1 r) (512 * (i 2).val + 512)) (512 * (i 2).val + 512))
        (mass (msc (i 2).val v0 x1 r) (top (msc (i 2).val v0 x1 r) (512 * (i 2).val + 512)) (512 * (i 2).val + 512)) := by
  have e0 : arg3.view.readAt (Elt Ideal) (Rect.unit ![0, 0] S512x256.size inb_S512x256_S512x256_0_0).toLoadRect (harg3.unread v0) = v0 := by
    rw [View.readAt_full, harg3.read_unread]
  obtain ⟨w, hw⟩ : ∃ w, w = arg3.view.readAt (Elt Ideal) (Rect.unit ![0, 0] S512x256.size inb_S512x256_S512x256_0_0).toLoadRect (harg3.unread v0) := ⟨_, rfl⟩
  have hwv : w = v0 := hw.trans e0
  have hs' : ∀ r j, msc (i 2).val w x1 r j ≠ ⊤ := by rw [hwv]; exact hs
  obtain ⟨i7, i8, i9⟩ := loop_inv c i arg3 harg3 arg4 harg4 arg5 harg5 arg6 harg6 arg7 harg7 arg8 harg8 arg9 harg9 w x1 x2
    (arg7.view.writes (Elt Ideal) arg7.view.junk [⟨Rect.unit ![0, 0] S512x1.size inb_S512x1_S512x1_0_0, k0_pay13 (F := Ideal)⟩])
    (arg8.view.writes (Elt Ideal) arg8.view.junk [⟨Rect.unit ![0, 0] S512x1.size inb_S512x1_S512x1_0_0, k0_pay14 (F := Ideal)⟩])
    (arg9.view.writes (Elt Ideal) arg9.view.junk [⟨Rect.unit ![0, 0] S512x128.size inb_S512x128_S512x128_0_0, k0_pay15 (F := Ideal)⟩])
    (fun r => by rw [View.read_writes_full]; exact pay13_apply r) (fun r => by rw [View.read_writes_full]; exact pay14_apply r)
    (fun r l => by rw [View.read_writes_full]; exact pay15_apply r l) hs' (k0_t1_loop i).trips (le_refl _)
  have eT := trips_eq i
  have hq8 : (i 2).val < 8 := (i 2).isLt
  have hb : Named.named (F := Ideal) (φ := .f32) κ "mask" 0xF149F2CA#32 = (⊥ : EReal) := rfl
  have kK : ∀ (j : Fin 512) (n : Fin 256) (hj : 512 * (i 2).val + j.val < 4096),
      arg4.view.readAt (Elt Ideal) (Rect.unit (s := S4096x256) (k0_off5 i) S512x256.size (k0_off5_inb i)).toLoadRect (harg4.unread x1) (ix2 j n)
        = x1 (ix2 ⟨512 * (i 2).val + j.val, hj⟩ n) := fun j n hj => by
    rw [View.readAt_eq_ld, harg4.read_unread, ld_key x1 _ _ _ (k0_off5_eq i) j n hj]
  have kV : ∀ (j : Fin 512) (n : Fin 128) (hj : 512 * (i 2).val + j.val < 4096),
      arg5.view.readAt (Elt Ideal) (Rect.unit (s := S4096x128) (k0_off6 i) S512x128.size (k0_off6_inb i)).toLoadRect (harg5.unread x2) (ix2 j n)
        = x2 (ix2 ⟨512 * (i 2).val + j.val, hj⟩ n) := fun j n hj => by
    rw [View.readAt_eq_ld, harg5.read_unread, ld_val x2 _ _ _ (k0_off6_eq i) j n hj]
  unfold out0_A_3
  rw [View.read_writes_eq_canon _ _ _ (cover0_A_3 c i arg3 harg3 arg4 harg4 arg5 harg5 arg6 harg6 arg7 harg7 arg8 harg8 arg9 harg9 v0 x1 x2)]
  unfold kernelRun0_A
  dsimp only
  sl_unfold_run_names
  rw [View.canon_unit_zero hz2]
  refine Eq.trans ?_ (congrArg (fun w => Ideal.div
    (pull (msc (i 2).val w x1 r) (col x2 l) (top (msc (i 2).val w x1 r) (512 * (i 2).val + 512)) (512 * (i 2).val + 512))
    (mass (msc (i 2).val w x1 r) (top (msc (i 2).val w x1 r) (512 * (i 2).val + 512)) (512 * (i 2).val + 512))) hwv)
  subst hw
  rw [pay27_apply]
  rw [View.readCov_full, View.readCov_full]
  refine congrArg₂ Ideal.div ?_ ?_
  · refine diag_pull hq8 _ x1 x2 _ _ _ _ _ hb kK kV hs' ?_ ?_ r l
    · intro r
      refine (congrFun (read_pieces arg7.view _ _ _ ?_ inb_S512x1_S512x1_0_0) (ix2 r 0)).trans ((i7 r).trans (by rw [eT]))
      exact congrArg (·.1) (second_nil c i arg3 harg3 arg4 harg4 arg5 harg5 arg6 harg6 arg7 harg7 arg8 harg8 arg9 harg9 _ _ _ _ _ _ _)
    · intro r l
      refine (congrFun (read_pieces arg9.view _ _ _ ?_ inb_S512x128_S512x128_0_0) (ix2 r l)).trans ((i9 r l).trans (by rw [eT]))
      exact congrArg (·.2.2) (second_nil c i arg3 harg3 arg4 harg4 arg5 harg5 arg6 harg6 arg7 harg7 arg8 harg8 arg9 harg9 _ _ _ _ _ _ _)
  · refine diag_mass hq8 _ x1 _ _ _ _ hb kK hs' ?_ ?_ r
    · intro r
      refine (congrFun (read_pieces arg7.view _ _ _ ?_ inb_S512x1_S512x1_0_0) (ix2 r 0)).trans ((i7 r).trans (by rw [eT]))
      exact congrArg (·.1) (second_nil c i arg3 harg3 arg4 harg4 arg5 harg5 arg6 harg6 arg7 harg7 arg8 harg8 arg9 harg9 _ _ _ _ _ _ _)
    · intro r
      refine (congrFun (read_pieces arg8.view _ _ _ ?_ inb_S512x1_S512x1_0_0) (ix2 r 0)).trans ((i8 r).trans (by rw [eT]))
      exact congrArg (·.2.1) (second_nil c i arg3 harg3 arg4 harg4 arg5 harg5 arg6 harg6 arg7 harg7 arg8 harg8 arg9 harg9 _ _ _ _ _ _ _)

end Found

end Cert.AttnIdeal.Band

end
-- ==== Proof.AttnRef.lean ====
/-
  The causal latent attention as a formula over the extended reals, and the reference's result as that formula.
-/
module

public import proofs.«01_k».proof.Proof.AttnSoftmax
public import proofs.«01_k».proof.Proof.Gen.AttnRefIdeal.Read
public import Idealize.ShloMosaic.Lib.KernelVsHost
public import Idealize.ShloMosaic.Lib.WordCmp

@[expose] public section

noncomputable section

namespace Cert.Layer

open Idealize.ShloMosaic
open scoped BigOperators

/-- The scaled product of the query at position `p` and the key at position `j` of head `h` of sequence `b`. -/
def raw (Q : Fin 8192 → Fin 4096 → EReal) (KV : Fin 8192 → Fin 6144 → EReal) (b : Fin 2) (h : Fin 16)
    (p j : Fin 4096) : EReal :=
  (∑ n : Fin 256, Q ⟨4096 * b.val + p.val, by omega⟩ ⟨256 * h.val + n.val, by omega⟩
    * KV ⟨4096 * b.val + j.val, by omega⟩ ⟨256 * h.val + n.val, by omega⟩) * Ideal.ofBits .f32 0x3D93CD3A#32

/-- The causal score: the scaled product up to the query's own position, `⊥` beyond it. -/
def score (Q : Fin 8192 → Fin 4096 → EReal) (KV : Fin 8192 → Fin 6144 → EReal) (b : Fin 2) (h : Fin 16)
    (p : Fin 4096) (j : ℕ) : EReal :=
  if hj : j < 4096 then (if j ≤ p.val then raw Q KV b h p ⟨j, hj⟩ else ⊥) else ⊥

/-- The attention's result: the values' mean under the softmax of the causal scores. -/
def attend (Q : Fin 8192 → Fin 4096 → EReal) (KV : Fin 8192 → Fin 6144 → EReal) (b : Fin 2) (h : Fin 16)
    (p : Fin 4096) (l : Fin 128) : EReal :=
  ∑ j : Fin 4096, KV ⟨4096 * b.val + j.val, by omega⟩ ⟨4096 + (128 * h.val + l.val), by omega⟩
    * Ideal.div (Ideal.exp (score Q KV b h p j.val - top (score Q KV b h p) 4096))
        (mass (score Q KV b h p) (top (score Q KV b h p) 4096) 4096)

end Cert.Layer

namespace Cert.AttnRefIdeal.Softmax

open Cert.AttnRefIdeal Cert.AttnRefIdeal.Gen Cert.AttnRefIdeal.Read Cert.Layer
open Idealize.ShloMosaic Idealize.ShloMosaic.TcCoe Idealize.ShloMosaic.Tactic
open scoped BigOperators

variable (x0 : (⟨S8192x4096, .bf16⟩ : BufTy).Contents (Elt Ideal)) (x1 : (⟨S8192x6144, .bf16⟩ : BufTy).Contents (Elt Ideal))

/-- The queries by row and column. -/
abbrev rowsQ (x0 : (⟨S8192x4096, .bf16⟩ : BufTy).Contents (Elt Ideal)) : Fin 8192 → Fin 4096 → EReal := fun r c => x0 (ix2 r c)
/-- The keys and values by row and column. -/
abbrev rowsKV (x1 : (⟨S8192x6144, .bf16⟩ : BufTy).Contents (Elt Ideal)) : Fin 8192 → Fin 6144 → EReal := fun r c => x1 (ix2 r c)

theorem query_eq (b : Fin 2) (p : Fin 4096) (h : Fin 16) (n : Fin 256) :
    val_main_v1 (F := Ideal) x0 (ix4 b p h n)
      = rowsQ x0 ⟨4096 * b.val + p.val, by omega⟩ ⟨256 * h.val + n.val, by omega⟩ := by
  rw [val_main_v1_apply, val_main_v0_apply]
  refine congrArg x0 (funext fun a => Fin.ext ?_)
  match a with
  | ⟨0, _⟩ => show (((b.val * 4096 + p.val) * 16 + h.val) * 256 + n.val) / 4096 = 4096 * b.val + p.val; omega
  | ⟨1, _⟩ => show (((b.val * 4096 + p.val) * 16 + h.val) * 256 + n.val) % 4096 = 256 * h.val + n.val; omega

theorem key_eq (b : Fin 2) (p : Fin 4096) (h : Fin 16) (n : Fin 256) :
    val_main_v4 (F := Ideal) x1 (ix4 b p h n)
      = rowsKV x1 ⟨4096 * b.val + p.val, by omega⟩ ⟨256 * h.val + n.val, by omega⟩ := by
  rw [val_main_v4_apply, val_main_v3_apply, val_main_v2_apply]
  refine congrArg x1 (funext fun a => Fin.ext ?_)
  match a with
  | ⟨0, _⟩ => show (((b.val * 4096 + p.val) * 16 + h.val) * 256 + n.val) / 4096 = 4096 * b.val + p.val; omega
  | ⟨1, _⟩ => show (((b.val * 4096 + p.val) * 16 + h.val) * 256 + n.val) % 4096 = 256 * h.val + n.val; omega

theorem value_eq (b : Fin 2) (p : Fin 4096) (h : Fin 16) (l : Fin 128) :
    val_main_v7 (F := Ideal) x1 (ix4 b p h l)
      = rowsKV x1 ⟨4096 * b.val + p.val, by omega⟩ ⟨4096 + (128 * h.val + l.val), by omega⟩ := by
  rw [val_main_v7_apply, val_main_v6_apply, val_main_v5_apply]
  refine congrArg x1 (funext fun a => Fin.ext ?_)
  match a with
  | ⟨0, _⟩ => show (((b.val * 4096 + p.val) * 16 + h.val) * 128 + l.val) / 2048 = 4096 * b.val + p.val; omega
  | ⟨1, _⟩ => show 4096 + (((b.val * 4096 + p.val) * 16 + h.val) * 128 + l.val) % 2048 = 4096 + (128 * h.val + l.val); omega

/-- The scaled logits: the two products over 128 features are one over 256. -/
theorem logit_eq (b : Fin 2) (h : Fin 16) (p j : Fin 4096) :
    val_main_v16 (F := Ideal) x0 x1 (ix4 b h p j) = raw (rowsQ x0) (rowsKV x1) b h p j := by
  have e10 : val_main_v10 (F := Ideal) x0 x1 (ix4 b h p j)
      = ∑ n : Fin 128, rowsQ x0 ⟨4096 * b.val + p.val, by omega⟩ ⟨256 * h.val + n.val, by omega⟩
        * rowsKV x1 ⟨4096 * b.val + j.val, by omega⟩ ⟨256 * h.val + n.val, by omega⟩ := by
    rw [val_main_v10_apply]
    refine Finset.sum_congr rfl fun n _ => ?_
    rw [val_main_v8_apply, val_main_v9_apply]
    refine congrArg₂ (· * ·) (Eq.trans (congrArg _ (funext fun a => ?_)) (query_eq x0 b p h ⟨n.val, by omega⟩))
      (Eq.trans (congrArg _ (funext fun a => ?_)) (key_eq x1 b j h ⟨n.val, by omega⟩)) <;>
    · match a with
      | ⟨0, _⟩ => rfl
      | ⟨1, _⟩ => rfl
      | ⟨2, _⟩ => rfl
      | ⟨3, _⟩ => rfl
  have e13 : val_main_v13 (F := Ideal) x0 x1 (ix4 b h p j)
      = ∑ n : Fin 128, rowsQ x0 ⟨4096 * b.val + p.val, by omega⟩ ⟨256 * h.val + (128 + n.val), by omega⟩
        * rowsKV x1 ⟨4096 * b.val + j.val, by omega⟩ ⟨256 * h.val + (128 + n.val), by omega⟩ := by
    rw [val_main_v13_apply]
    refine Finset.sum_congr rfl fun n _ => ?_
    rw [val_main_v11_apply, val_main_v12_apply]
    refine congrArg₂ (· * ·) (Eq.trans (congrArg _ (funext fun a => ?_)) (query_eq x0 b p h ⟨128 + n.val, by omega⟩))
      (Eq.trans (congrArg _ (funext fun a => ?_)) (key_eq x1 b j h ⟨128 + n.val, by omega⟩)) <;>
    · match a with
      | ⟨0, _⟩ => rfl
      | ⟨1, _⟩ => rfl
      | ⟨2, _⟩ => rfl
      | ⟨3, _⟩ => rfl
  have es : val_main_v15 (F := Ideal) (ix4 b h p j) = Ideal.ofBits .f32 0x3D93CD3A#32 := by
    rw [val_main_v15_apply]; rfl
  rw [val_main_v16_apply, val_main_v14_apply, e10, e13, es]
  unfold raw
  have h2 := Fin.sum_univ_add (a := 128) (b := 128) (fun n : Fin (128 + 128) =>
    rowsQ x0 ⟨4096 * b.val + p.val, by omega⟩ ⟨256 * h.val + n.val, by omega⟩
        * rowsKV x1 ⟨4096 * b.val + j.val, by omega⟩ ⟨256 * h.val + n.val, by omega⟩)
  exact congrArg (· * Ideal.ofBits .f32 0x3D93CD3A#32) h2.symm

theorem neg_inf : (Ideal.ofBits .f32 0xFF800000#32 : EReal) = ⊥ := by simp [Ideal.ofBits, Ideal.ieee]

theorem masked_eq (b : Fin 2) (h : Fin 16) (p j : Fin 4096) :
    val_main_v23 (F := Ideal) x0 x1 (ix4 b h p j) = score (rowsQ x0) (rowsKV x1) b h p j.val := by
  have e1 : val_main_call0_v1 (F := Ideal) (ix4 b h p j)
      = IntOp.cmpi .sle (BitVec.ofNat 32 j.val) (BitVec.ofNat 32 p.val) := by
    rw [val_main_call0_v1_apply, val_main_v22_apply, val_main_v20_apply, val_main_v18_apply, val_main_v17_apply,
      val_main_v21_apply, val_main_v19_apply, val_main_v17_apply]
    rfl
  have e2 : val_main_call0_v2 (F := Ideal) (ix4 b h p j) = (⊥ : EReal) := by
    rw [val_main_call0_v2_apply]; exact neg_inf
  rw [val_main_v23_apply, logit_eq, e1, e2]
  rw [WordCmp.cmpi_sle_ofNat (by omega) (by omega), WordCmp.select_decide]
  unfold score
  rw [dif_pos j.isLt]

theorem largest_eq (b : Fin 2) (h : Fin 16) (p : Fin 4096) :
    val_main_v26 (F := Ideal) x0 x1 (ix3 b h p) = top (score (rowsQ x0) (rowsKV x1) b h p) 4096 := by
  have e24 : val_main_v24 (F := Ideal) x0 x1 (ix3 b h p) = top (score (rowsQ x0) (rowsKV x1) b h p) 4096 := by
    unfold val_main_v24 val_main_cst_1
    have hred : S2x16x4096x4096.Reduces [3] S2x16x4096 := by decide
    have hfmt : FKind.Formats .f32 := by decide
    have hacc : (0xFF800000#32 : BitVec (FTy.bits .f32)) = FKind.maximumf.neutral .f32 hfmt := rfl
    refine (congrFun (hostReduce_maximumf_eq_multiReduction (F := Ideal) (φ := .f32) (val_main_v23 (F := Ideal) x0 x1) 0xFF800000#32
      reducesTo_S2x16x4096x4096_S2x16x4096_d3 h_S_ hred hfmt hacc) _).trans ?_
    refine (Ideal.multiReduction_maximumf_single (φ := .f32) _ _ hred hfmt hacc _).trans ?_
    rw [← fold_eq_top]
    have e0 : (FloatOps.ofBits (F := Ideal) .f32 0xFF800000#32 : EReal) = ⊥ := neg_inf
    rw [e0]
    refine Finset.fold_congr fun j _ => ?_
    have hi : hred.lift (ix3 b h p) j = (ix4 b h p j : S2x16x4096x4096.Idx) := funext fun a => Fin.ext (by
      match a with
      | ⟨0, _⟩ => rfl
      | ⟨1, _⟩ => rfl
      | ⟨2, _⟩ => rfl
      | ⟨3, _⟩ => rfl)
    exact (congrArg (val_main_v23 (F := Ideal) x0 x1) hi).trans (masked_eq x0 x1 b h p j)
  have e25 : val_main_v25 (F := Ideal) (ix3 b h p) = (⊥ : EReal) := by
    rw [val_main_v25_apply]; exact neg_inf
  rw [val_main_v26_apply, e24, e25]
  exact max_eq_right bot_le

theorem weight_eq (b : Fin 2) (h : Fin 16) (p j : Fin 4096) :
    val_main_v30 (F := Ideal) x0 x1 (ix4 b h p j)
      = Ideal.exp (score (rowsQ x0) (rowsKV x1) b h p j.val - top (score (rowsQ x0) (rowsKV x1) b h p) 4096) := by
  have e28 : val_main_v28 (F := Ideal) x0 x1 (ix4 b h p j) = top (score (rowsQ x0) (rowsKV x1) b h p) 4096 := by
    rw [val_main_v28_apply, val_main_v27_apply, ← largest_eq x0 x1 b h p]
    exact congrArg _ (funext fun a => by match a with | ⟨0, _⟩ => rfl | ⟨1, _⟩ => rfl | ⟨2, _⟩ => rfl)
  rw [val_main_v30_apply, val_main_v29_apply, masked_eq, e28]
  rfl

theorem total_eq (b : Fin 2) (h : Fin 16) (p : Fin 4096) :
    val_main_v31 (F := Ideal) x0 x1 (ix3 b h p)
      = mass (score (rowsQ x0) (rowsKV x1) b h p) (top (score (rowsQ x0) (rowsKV x1) b h p) 4096) 4096 := by
  have e0 : val_main_cst_3 (F := Ideal) (Shape.Idx.first h_S_) = (0 : EReal) := by
    show (Ideal.ofBits .f32 0x00000000#32 : EReal) = 0
    simp [Ideal.ofBits, Ideal.ieee]
  rw [val_main_v31_apply, e0, zero_add]
  unfold mass
  rw [Finset.sum_range]
  refine Finset.sum_congr rfl fun j _ => ?_
  refine Eq.trans (congrArg _ (funext fun a => ?_)) (weight_eq x0 x1 b h p j)
  match a with
  | ⟨0, _⟩ => rfl
  | ⟨1, _⟩ => rfl
  | ⟨2, _⟩ => rfl
  | ⟨3, _⟩ => rfl

/-- The reference's result at a position, head and feature is the attention's formula. -/
theorem result_eq (b : Fin 2) (h : Fin 16) (p : Fin 4096) (l : Fin 128) :
    val_main_v38 (F := Ideal) x0 x1 (ix2 ⟨4096 * b.val + p.val, by omega⟩ ⟨128 * h.val + l.val, by omega⟩)
      = attend (rowsQ x0) (rowsKV x1) b h p l := by
  have e37 : val_main_v37 (F := Ideal) x0 x1 (ix2 ⟨4096 * b.val + p.val, by omega⟩ ⟨128 * h.val + l.val, by omega⟩)
      = val_main_v35 (F := Ideal) x0 x1 (ix4 b h l p) := by
    rw [val_main_v37_apply, val_main_v36_apply]
    refine congrArg _ (funext fun a => Fin.ext ?_)
    match a with
    | ⟨0, _⟩ => show ((4096 * b.val + p.val) * 2048 + (128 * h.val + l.val)) / 8388608 = b.val; omega
    | ⟨1, _⟩ => show ((4096 * b.val + p.val) * 2048 + (128 * h.val + l.val)) / 128 % 16 = h.val; omega
    | ⟨2, _⟩ => show ((4096 * b.val + p.val) * 2048 + (128 * h.val + l.val)) % 128 = l.val; omega
    | ⟨3, _⟩ => show ((4096 * b.val + p.val) * 2048 + (128 * h.val + l.val)) / 2048 % 4096 = p.val; omega
  have e38 : val_main_v38 (F := Ideal) x0 x1 (ix2 ⟨4096 * b.val + p.val, by omega⟩ ⟨128 * h.val + l.val, by omega⟩)
      = val_main_v37 (F := Ideal) x0 x1 (ix2 ⟨4096 * b.val + p.val, by omega⟩ ⟨128 * h.val + l.val, by omega⟩) := rfl
  rw [e38, e37, val_main_v35_apply]
  unfold attend
  refine Finset.sum_congr rfl fun j _ => ?_
  refine congrArg₂ (· * ·) (Eq.trans (congrArg _ (funext fun a => ?_)) (value_eq x1 b j h l)) ?_
  · match a with
    | ⟨0, _⟩ => rfl
    | ⟨1, _⟩ => rfl
    | ⟨2, _⟩ => rfl
    | ⟨3, _⟩ => rfl
  have ei : ridx_main_v35 (ix4 b h l p) j = ix4 b h p j := funext fun a => by
    match a with
    | ⟨0, _⟩ => rfl
    | ⟨1, _⟩ => rfl
    | ⟨2, _⟩ => rfl
    | ⟨3, _⟩ => rfl
  have e33 : val_main_v33 (F := Ideal) x0 x1 (ix4 b h p j)
      = mass (score (rowsQ x0) (rowsKV x1) b h p) (top (score (rowsQ x0) (rowsKV x1) b h p) 4096) 4096 := by
    rw [val_main_v33_apply, val_main_v32_apply, ← total_eq x0 x1 b h p]
    exact congrArg _ (funext fun a => by match a with | ⟨0, _⟩ => rfl | ⟨1, _⟩ => rfl | ⟨2, _⟩ => rfl)
  rw [ei, val_main_v34_apply, weight_eq, e33]
  rfl

end Cert.AttnRefIdeal.Softmax

end
-- ==== Proof.AttnValue.lean ====
/-
  The prompt's latent attention, the whole array: every point's block of 512 queries is the attention's formula, so
  the array is the reference's.
-/
module

public import proofs.«01_k».proof.Proof.AttnBody
public import proofs.«01_k».proof.Proof.AttnRef
public import proofs.«01_k».proof.Proof.Gen.AttnIdeal.Value
public import proofs.«01_k».proof.Pre_finite_queries_and_keys

@[expose] public section

noncomputable section

namespace Cert.AttnIdeal.Band

open Cert.AttnIdeal Cert.AttnIdeal.Gen Cert.AttnIdeal.Value Cert.Layer
open Idealize.ShloMosaic Idealize.ShloMosaic.TcCoe Idealize.ShloMosaic.Tactic Idealize.SL.Sem
open scoped BigOperators

variable (m : (ℓ : Loc nD τ sig) → Buf (Elt Ideal) ℓ) (c : Dev nD)

/-- The queries, and the keys and values, as launched. -/
abbrev argQ : Vec Ideal S8192x4096 .bf16 := m ((c : Thread nD τ).loc main_arg0)
abbrev argKV : Vec Ideal S8192x6144 .bf16 := m ((c : Thread nD τ).loc main_arg1)
/-- They by row and column. -/
abbrev rowsQ : Fin 8192 → Fin 4096 → EReal := fun r k => argQ m c (ix2 r k)
abbrev rowsKV : Fin 8192 → Fin 6144 → EReal := fun r k => argKV m c (ix2 r k)

theorem pts (t : Fin cfg0.N) : t.val < 256 := t.isLt.trans_eq N_0

theorem idx0 : ∀ t : Fin cfg0.N, win0_0.index t (0 : Fin 2) = t.val / 128 * 8 + t.val % 8 ∧ win0_0.index t (1 : Fin 2) = t.val % 128 / 8 :=
  (by decide +kernel : ∀ t : Fin grid0.N, _)
theorem idx1 : ∀ t : Fin cfg0.N, win0_1.index t (0 : Fin 2) = t.val / 128 ∧ win0_1.index t (1 : Fin 2) = t.val % 128 / 8 :=
  (by decide +kernel : ∀ t : Fin grid0.N, _)
theorem idx2 : ∀ t : Fin cfg0.N, win0_2.index t (0 : Fin 2) = t.val / 128 ∧ win0_2.index t (1 : Fin 2) = 32 + t.val % 128 / 8 :=
  (by decide +kernel : ∀ t : Fin grid0.N, _)
theorem idx3 : ∀ t : Fin cfg0.N, win0_3.index t (0 : Fin 2) = t.val / 128 * 8 + t.val % 8 ∧ win0_3.index t (1 : Fin 2) = t.val % 128 / 8 :=
  (by decide +kernel : ∀ t : Fin grid0.N, _)
theorem crd2 : ∀ t : Fin cfg0.N, (grid0.coords t 2).val = t.val % 8 :=
  (by decide +kernel : ∀ t : Fin grid0.N, _)

/-- The sequence, head and query position of a row of a point's block. -/
abbrev seqOf (t : Fin cfg0.N) : Fin 2 := ⟨t.val / 128, by have := pts t; omega⟩
abbrev headOf (t : Fin cfg0.N) : Fin 16 := ⟨t.val % 128 / 8, by omega⟩
abbrev posOf (t : Fin cfg0.N) (r : Fin 512) : Fin 4096 := ⟨512 * (t.val % 8) + r.val, by omega⟩

/-- The query block of a point. -/
theorem blkQ (t : Fin cfg0.N) (r : Fin 512) (n : Fin 256) :
    iblk m c 0 t (ix2 r n) = rowsQ m c ⟨4096 * (seqOf t).val + (posOf t r).val, by omega⟩ ⟨256 * (headOf t).val + n.val, by omega⟩ := by
  obtain ⟨e0, e1⟩ := idx0 t
  blk_ext! [iblk, V, e0, e1]

/-- The key block of a point: all the keys of its sequence and head. -/
theorem blkK (t : Fin cfg0.N) (j : Fin 4096) (n : Fin 256) :
    iblk m c 1 t (ix2 j n) = rowsKV m c ⟨4096 * (seqOf t).val + j.val, by omega⟩ ⟨256 * (headOf t).val + n.val, by omega⟩ := by
  obtain ⟨e0, e1⟩ := idx1 t
  blk_ext! [iblk, V, e0, e1]

/-- The value block of a point: all the values of its sequence and head. -/
theorem blkV (t : Fin cfg0.N) (j : Fin 4096) (l : Fin 128) :
    iblk m c 2 t (ix2 j l) = rowsKV m c ⟨4096 * (seqOf t).val + j.val, by omega⟩ ⟨4096 + (128 * (headOf t).val + l.val), by omega⟩ := by
  obtain ⟨e0, e1⟩ := idx2 t
  blk_ext! [iblk, V, e0, e1]

/-- The scores of a row of a point's block are the causal scores of its position. -/
theorem msc_eq (t : Fin cfg0.N) (r : Fin 512) :
    msc (t.val % 8) (iblk m c 0 t) (iblk m c 1 t) r = score (rowsQ m c) (rowsKV m c) (seqOf t) (headOf t) (posOf t r) := by
  funext j
  unfold msc score raw
  simp only [blkQ, blkK]

theorem col_eq (t : Fin cfg0.N) (l : Fin 128) (j : Fin 4096) :
    col (iblk m c 2 t) l j.val = rowsKV m c ⟨4096 * (seqOf t).val + j.val, by omega⟩ ⟨4096 + (128 * (headOf t).val + l.val), by omega⟩ := by
  unfold col
  rw [dif_pos j.isLt, blkV]

/-- A sum of reals is real. -/
theorem real_sum {n : ℕ} (f : Fin n → EReal) (h : ∀ i, ∃ r : ℝ, f i = r) : ∃ r : ℝ, ∑ i, f i = r := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

/-- The scale of the scores is a real number. -/
theorem scale_real : ∃ r : ℝ, (Ideal.ofBits .f32 0x3D93CD3A#32 : EReal) = r := by
  simp [Ideal.ofBits, Ideal.ieee, -EReal.coe_mul]

section Finite

variable {Q : Fin 8192 → Fin 4096 → EReal} {KV : Fin 8192 → Fin 6144 → EReal}
  (hQ : ∀ r k, ∃ x : ℝ, Q r k = x) (hK : ∀ r (k : Fin 6144), k.val < 4096 → ∃ x : ℝ, KV r k = x)
include hQ hK

/-- The scaled products of real queries and keys are real. -/
theorem raw_real (b : Fin 2) (h : Fin 16) (p j : Fin 4096) : ∃ x : ℝ, raw Q KV b h p j = x := by
  obtain ⟨y, hy⟩ := scale_real
  obtain ⟨z, hz⟩ := real_sum (fun n : Fin 256 => Q ⟨4096 * b.val + p.val, by omega⟩ ⟨256 * h.val + n.val, by omega⟩
    * KV ⟨4096 * b.val + j.val, by omega⟩ ⟨256 * h.val + n.val, by omega⟩) (fun n => by
      obtain ⟨x, hx⟩ := hQ ⟨4096 * b.val + p.val, by omega⟩ ⟨256 * h.val + n.val, by omega⟩
      obtain ⟨w, hw⟩ := hK ⟨4096 * b.val + j.val, by omega⟩ ⟨256 * h.val + n.val, by omega⟩ (by dsimp only; omega)
      exact ⟨x * w, by rw [hx, hw, EReal.coe_mul]⟩)
  exact ⟨z * y, by unfold raw; rw [hz, hy, EReal.coe_mul]⟩

theorem score_ne_top (b : Fin 2) (h : Fin 16) (p : Fin 4096) (j : ℕ) : score Q KV b h p j ≠ ⊤ := by
  unfold score
  split_ifs with h1 h2
  · obtain ⟨x, hx⟩ := raw_real hQ hK b h p ⟨j, h1⟩
    rw [hx]; exact EReal.coe_ne_top x
  · exact bot_ne_top
  · exact bot_ne_top

theorem score_first (b : Fin 2) (h : Fin 16) (p : Fin 4096) : score Q KV b h p 0 ≠ ⊥ := by
  unfold score
  rw [dif_pos (by omega), if_pos (Nat.zero_le _)]
  obtain ⟨x, hx⟩ := raw_real hQ hK b h p ⟨0, by omega⟩
  rw [hx]; exact EReal.coe_ne_bot x

end Finite

/-- What the array holds: the attention's formula at the row's sequence and position and the column's head and feature. -/
def G3 : Vec Ideal S8192x2048 .bf16 := fun i =>
  attend (rowsQ m c) (rowsKV m c)
    ⟨(i 0).val / 4096, by have h : (i 0).val < 8192 := (i 0).isLt; omega⟩
    ⟨(i 1).val / 128, by have h : (i 1).val < 2048 := (i 1).isLt; omega⟩
    ⟨(i 0).val % 4096, by omega⟩ ⟨(i 1).val % 128, by omega⟩

section Launch

variable (hQ : ∀ r k, ∃ x : ℝ, rowsQ m c r k = x) (hK : ∀ r (k : Fin 6144), k.val < 4096 → ∃ x : ℝ, rowsKV m c r k = x)
include hQ hK

/-- A point's output block is the attention of its rows. -/
theorem block_eq (t : Fin cfg0.N) (r : Fin 512) (l : Fin 128) :
    out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (ix2 r l)
      = attend (rowsQ m c) (rowsKV m c) (seqOf t) (headOf t) (posOf t r) l := by
  have hq := crd2 t
  have ht : ∀ r j, msc (grid0.coords t 2).val (iblk m c 0 t) (iblk m c 1 t) r j ≠ ⊤ := fun r j => by
    rw [hq, msc_eq]; exact score_ne_top hQ hK _ _ _ _
  rw [out_eq c (grid0.coords t) _ _ _ _ _ _ _ _ _ _ _ _ _ _ (iblk m c 0 t) (iblk m c 1 t) (iblk m c 2 t) ht r l]
  rw [hq, msc_eq]
  rw [mean_eq (fun j => score_ne_top hQ hK _ _ _ j) (col (iblk m c 2 t) l) (m := 4096) (j0 := 0) (by omega)
    (fun j hj => by
      unfold score
      split_ifs with h1 h2
      · exact absurd h2 (by dsimp only [posOf]; omega)
      · rfl
      · rfl)
    (by omega) (score_first hQ hK _ _ _)]
  unfold attend
  exact Finset.sum_congr rfl fun j _ => by rw [col_eq]

/-- The block a point writes back is its block of the array. -/
theorem flushed3_eq (t : Fin cfg0.N) :
    (dats m 0 c).flushed 3 t = ((cfg0.win 3).blk t).view.read (Elt Ideal) (G3 m c) := by
  rw [flushed3_A]
  funext y
  have h0 : (y 0).val < 512 := (y 0).isLt
  have h1 : (y 1).val < 128 := (y 1).isLt
  obtain ⟨e0, e1⟩ := idx3 t
  have hi0 : (((cfg0.win 3).blk t).view.emb y 0).val = win0_3.index t (0 : Fin 2) * 512 + 1 * (y 0).val := rfl
  have hi1 : (((cfg0.win 3).blk t).view.emb y 1).val = win0_3.index t (1 : Fin 2) * 128 + 1 * (y 1).val := rfl
  have hb := block_eq m c hQ hK t ⟨(y 0).val, h0⟩ ⟨(y 1).val, h1⟩
  refine Eq.trans (Eq.trans (congrArg _ ?_) hb) ?_
  · funext a
    match a with
    | ⟨0, _⟩ => rfl
    | ⟨1, _⟩ => rfl
  show _ = G3 m c (((cfg0.win 3).blk t).view.emb y)
  unfold G3
  have hp := pts t
  congr 1 <;> apply Fin.ext <;> dsimp only [seqOf, headOf, posOf]
  · rw [hi0, e0]; omega
  · rw [hi1, e1]; omega
  · rw [hi0, e0]; omega
  · rw [hi1, e1]; omega

/-- The array the call leaves is the attention's formula everywhere. -/
theorem array_eq : (dats m 0 c).arrAt 3 cfg0.N = G3 m c :=
  (dats m 0 c).arrAt_eq_of_cover 3 (G3 m c) (fun t _ => flushed3_eq m c hQ hK t) (fun i => by
    have h0 : (i 0).val < 8192 := (i 0).isLt
    have h1 : (i 1).val < 2048 := (i 1).isLt
    have hN : (i 0).val / 4096 * 128 + (i 1).val / 128 * 8 + (i 0).val % 4096 / 512 < cfg0.N :=
      lt_of_lt_of_eq (by show _ < 256; omega) N_0.symm
    obtain ⟨t, ht⟩ : ∃ t : Fin cfg0.N, t.val = (i 0).val / 4096 * 128 + (i 1).val / 128 * 8 + (i 0).val % 4096 / 512 := ⟨⟨_, hN⟩, rfl⟩
    refine ⟨t, (by decide +kernel : ∀ t : Fin grid0.N, win0_3.flush t = true) t, ?_⟩
    have hm : i ∈ ((View.whole main_v0).slice (win0_3.rect t)).set
        ↔ ∀ a : Fin 2, win0_3.index t a * S512x128.size a ≤ (i a).val ∧ (i a).val < win0_3.index t a * S512x128.size a + S512x128.size a := by
      rw [View.set_slice_whole, Rect.mem_set_unit]; exact Iff.rfl
    refine hm.mpr fun a => ?_
    obtain ⟨e0, e1⟩ := idx3 t
    match a with
    | ⟨0, _⟩ =>
      show win0_3.index t (0 : Fin 2) * 512 ≤ (i 0).val ∧ (i 0).val < win0_3.index t (0 : Fin 2) * 512 + 512
      rw [e0]; omega
    | ⟨1, _⟩ =>
      show win0_3.index t (1 : Fin 2) * 128 ≤ (i 1).val ∧ (i 1).val < win0_3.index t (1 : Fin 2) * 128 + 128
      rw [e1]; omega)

end Launch

/-- The reference's array is the attention's formula everywhere. -/
theorem ref_eq : Cert.AttnRefIdeal.Read.val_main_v38 (F := Ideal) (argQ m c) (argKV m c) = G3 m c := by
  funext i
  have h0 : (i 0).val < 8192 := (i 0).isLt
  have h1 : (i 1).val < 2048 := (i 1).isLt
  refine Eq.trans (congrArg _ ?_) (Cert.AttnRefIdeal.Softmax.result_eq (argQ m c) (argKV m c)
    ⟨(i 0).val / 4096, by omega⟩ ⟨(i 1).val / 128, by omega⟩ ⟨(i 0).val % 4096, by omega⟩ ⟨(i 1).val % 128, by omega⟩)
  funext a
  match a with
  | ⟨0, _⟩ => exact Fin.ext (by show (i 0).val = 4096 * ((i 0).val / 4096) + (i 0).val % 4096; omega)
  | ⟨1, _⟩ => exact Fin.ext (by show (i 1).val = 128 * ((i 1).val / 128) + (i 1).val % 128; omega)

/-- An extended real whose absolute value compares below infinity is real. -/
theorem real_of_lt (x : EReal) (h : Ideal.cmp .olt (max x (-x)) (Ideal.ofBits .bf16 0x7F80#16) = 1#1) : ∃ r : ℝ, x = r := by
  have e : (Ideal.ofBits .bf16 0x7F80#16 : EReal) = ⊤ := by simp [Ideal.ofBits, Ideal.ieee]
  rw [e] at h
  induction x with
  | bot => simp [Ideal.cmp] at h
  | coe r => exact ⟨r, rfl⟩
  | top => simp [Ideal.cmp] at h

/-- Under the precondition the queries are real. -/
theorem queries_real [Cert.Pre_finite_queries_and_keys.Facts]
    (h : (Cert.Pre_finite_queries_and_keys.fn (F := Ideal) (argQ m c) (argKV m c)).1 = fun _ => 1#1) (r : Fin 8192) (k : Fin 4096) :
    ∃ x : ℝ, rowsQ m c r k = x :=
  real_of_lt _ (congrFun h (ix2 r k))

/-- Under the precondition the keys are real. -/
theorem keys_real [Cert.Pre_finite_queries_and_keys.Facts]
    (h : (Cert.Pre_finite_queries_and_keys.fn (F := Ideal) (argQ m c) (argKV m c)).2 = fun _ => 1#1) (r : Fin 8192) (k : Fin 6144)
    (hk : k.val < 4096) : ∃ x : ℝ, rowsKV m c r k = x := by
  have h' := congrFun h (ix2 r ⟨k.val, hk⟩)
  have e : extractStridedSlice Cert.Pre_finite_queries_and_keys.S8192x4096 ![0, 0] (argKV m c)
      Cert.Pre_finite_queries_and_keys.Facts.slices_S8192x6144_S8192x4096_0_0 (ix2 r ⟨k.val, hk⟩) = rowsKV m c r k := by
    refine congrArg (argKV m c) (funext fun a => Fin.ext ?_)
    match a with
    | ⟨0, _⟩ => exact Nat.zero_add _
    | ⟨1, _⟩ => exact Nat.zero_add _
  rw [← e]
  exact real_of_lt _ h'

end Cert.AttnIdeal.Band

end
-- ==== Proof.RowNorm.lean ====
/-
  One row of 2048 or 512 features over the extended reals: its root-mean-square normalisation, the form that the
  normalise-and-multiply call, the feed-forward call and their references all compute, and one hidden feature of the
  gated feed-forward layer.
-/
module

public import Idealize.ShloMosaic.PureOps.Ideal
public import Idealize.ShloMosaic.Lib.Pointwise

@[expose] public section

noncomputable section

namespace Cert.Layer

open Idealize.ShloMosaic
open scoped BigOperators

/-- One row `x` divided by the root of its mean square (plus the small constant), times the gains `g`, at feature `k`. -/
def rms (x g : Fin 2048 → EReal) (k : Fin 2048) : EReal :=
  x k * Ideal.rsqrt (Ideal.div (∑ j : Fin 2048, x j * x j) (Ideal.ofBits .f32 0x45000000#32)
    + Ideal.ofBits .f32 0x358637BD#32) * g k

/-- The same over 512 features. -/
def rms512 (x g : Fin 512 → EReal) (k : Fin 512) : EReal :=
  x k * Ideal.rsqrt (Ideal.div (∑ j : Fin 512, x j * x j) (Ideal.ofBits .f32 0x44000000#32)
    + Ideal.ofBits .f32 0x358637BD#32) * g k

/-- The angle of a position at one of 32 frequencies. -/
def angle (p : BitVec 32) (l : Fin 32) : EReal :=
  FloatOps.sitofp (F := Ideal) .f32 p * Ideal.pow (Ideal.ofBits .f32 0x461C4000#32)
    (Ideal.div (-FloatOps.sitofp (F := Ideal) .f32 (BitVec.ofNat 32 l.val)) (Ideal.ofBits .f32 0x42000000#32))

/-- 64 features turned by the angles: the first half against the second. -/
def turned (a : Fin 64 → EReal) (cs sn : Fin 32 → EReal) (l : Fin 64) : EReal :=
  if h : l.val < 32 then a l * cs ⟨l.val, h⟩ - a ⟨l.val + 32, by omega⟩ * sn ⟨l.val, h⟩
  else a ⟨l.val - 32, by omega⟩ * sn ⟨l.val - 32, by omega⟩ + a l * cs ⟨l.val - 32, by omega⟩

/-- The same turn written with the partner's column and a signed table. -/
theorem turned_eq (a : Fin 64 → EReal) (cs sn : Fin 32 → EReal) (l : Fin 64) (C S A : EReal)
    (hC : C = cs ⟨l.val % 32, by omega⟩)
    (hS : S = if l.val < 32 then -sn ⟨l.val % 32, by omega⟩ else sn ⟨l.val % 32, by omega⟩)
    (hA : A = a ⟨if l.val < 32 then l.val + 32 else l.val - 32, by split <;> omega⟩) :
    a l * C + A * S = turned a cs sn l := by
  subst hC hS hA
  unfold turned
  have hl := l.isLt
  by_cases h : l.val < 32
  · have e : (⟨l.val % 32, by omega⟩ : Fin 32) = ⟨l.val, h⟩ := Fin.ext (Nat.mod_eq_of_lt h)
    simp only [h, if_true, dif_pos, e, sub_eq_add_neg, mul_neg]
  · have e : (⟨l.val % 32, by omega⟩ : Fin 32) = ⟨l.val - 32, by omega⟩ := Fin.ext (by dsimp only; omega)
    simp only [h, if_false, dif_neg, not_false_iff, e]
    rw [add_comm]

/-- One hidden feature: the gate's inner product times its logistic, times the other inner product. -/
def gated (y wg wu : Fin 2048 → EReal) : EReal :=
  (∑ k : Fin 2048, y k * wg k) * Ideal.logistic (∑ k : Fin 2048, y k * wg k) * ∑ k : Fin 2048, y k * wu k

/-- What hidden feature `f` gives one output feature: `y` the normalised row, `w` the two halves of the input weights
    side by side, `o` the output weights' column. -/
def term (y : Fin 2048 → EReal) (w : Fin 2048 → Fin 11264 → EReal) (o : Fin 5632 → EReal) (f : Fin 5632) : EReal :=
  gated y (fun k => w k ⟨f.val, by omega⟩) (fun k => w k ⟨5632 + f.val, by omega⟩) * o f

/-- The same at a natural number, nothing past the last hidden feature. -/
def termN (y : Fin 2048 → EReal) (w : Fin 2048 → Fin 11264 → EReal) (o : Fin 5632 → EReal) (f : ℕ) : EReal :=
  if h : f < 5632 then term y w o ⟨f, h⟩ else 0

/-- The first `n` hidden features' sum. -/
def upto (y : Fin 2048 → EReal) (w : Fin 2048 → Fin 11264 → EReal) (o : Fin 5632 → EReal) (n : ℕ) : EReal :=
  ∑ f ∈ Finset.range n, termN y w o f

theorem upto_add (y : Fin 2048 → EReal) (w : Fin 2048 → Fin 11264 → EReal) (o : Fin 5632 → EReal) (n : ℕ) :
    upto y w o (n + 512) = upto y w o n + ∑ f ∈ Finset.range 512, termN y w o (n + f) :=
  Finset.sum_range_add _ _ _

theorem upto_all (y : Fin 2048 → EReal) (w : Fin 2048 → Fin 11264 → EReal) (o : Fin 5632 → EReal) :
    upto y w o 5632 = ∑ f : Fin 5632, term y w o f := by
  unfold upto
  rw [Finset.sum_range]
  refine Finset.sum_congr rfl fun f _ => ?_
  unfold termN
  rw [dif_pos f.isLt]

end Cert.Layer

end
-- ==== Proof.KvBBody.lean ====
/-
  The normalise-and-multiply call, one grid point: at the first column of a row band the body stores the band's
  normalised rows in the scratch; at every column it leaves the scratch times the weight block in the output block.
-/
module

public import proofs.«01_k».proof.Proof.RowNorm
public import proofs.«01_k».proof.Proof.Gen.KvBIdeal.Frame
public import Idealize.ShloMosaic.Lib.Tactic

@[expose] public section

noncomputable section

namespace Cert.KvBIdeal.Band

open Cert.KvBIdeal Cert.KvBIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S1024x512 .f32) (h5 : a5.IsWhole) (a6 : Memref sig .tc .vmem S1024x2048 .bf16) (h6 : a6.IsWhole)
  (x0 : Vec F S1024x2048 .f32) (x1 : Vec F S1x2048 .f32) (x2 : Vec F S2048x512 .bf16)

/-- First column: the scratch ends at the normalised rows. -/
theorem scratch_first (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S1024x2048) hz2,
    View.ld_unit_zero (S := S1x2048) hz2]

/-- First column: the output block ends at the product of the rows just normalised with the weight block. -/
theorem out_first (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S1024x2048) _ hz2]
  simp only [View.readAt_eq_ld, h2.read_unread, h3.read_unread, h4.read_unread, View.ld_unit_zero (S := S1024x2048) hz2,
    View.ld_unit_zero (S := S1x2048) hz2, View.ld_unit_zero (S := S2048x512) hz2]

/-- A later column: the scratch stays, -/
theorem scratch_later (hc : ¬cond0_0 i) (xs : Vec F S1024x2048 .bf16) :
    sout0_B_0 c i a2 h2 a3 h3 a4 h4 a5 h5 a6 h6 hc x0 x1 x2 xs = xs := rfl

/-- and the output block ends at the scratch times the weight block. -/
theorem out_later (hc : ¬cond0_0 i) (xs : Vec F S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h4.read_unread, h6.read_unread, View.ld_unit_zero (S := S1024x2048) hz2,
    View.ld_unit_zero (S := S2048x512) hz2]

end Found

/-- The normalised rows, one entry. -/
theorem rows_apply (x : Vec Ideal S1024x2048 .f32) (g : Vec Ideal S1x2048 .f32) (r : Fin 1024) (k : Fin 2048) :
    k0_pay1 x g (ix2 r k) = Cert.Layer.rms (fun j => x (ix2 r j)) (fun j => g (ix2 0 j)) k := by
  unfold Cert.Layer.rms
  pointwise [k0_pay1]

/-- The product block, one entry. -/
theorem prod_apply (y : Vec Ideal S1024x2048 .bf16) (w : Vec Ideal S2048x512 .bf16) (r : Fin 1024) (l : Fin 512) :
    k0_pay2 y w (ix2 r l) = ∑ k : Fin 2048, y (ix2 r k) * w (ix2 k l) := by
  pointwise [k0_pay2]

end Cert.KvBIdeal.Band

end
-- ==== Proof.KvBValue.lean ====
/-
  The normalise-and-multiply call, the whole array: the scratch of a row band is kept over its columns, so every
  output block is the band's normalised rows times the columns of the weights, and the array is the reference's product.
-/
module

public import proofs.«01_k».proof.Proof.KvBBody
public import proofs.«01_k».proof.Proof.Gen.KvBIdeal.Value
public import proofs.«01_k».proof.Proof.Gen.KvBRefIdeal.Read
public import Idealize.ShloMosaic.Lib.Pipeline.ValueKit.Point

@[expose] public section

noncomputable section

namespace Cert.KvBIdeal.Band

open Cert.KvBIdeal Cert.KvBIdeal.Gen Cert.KvBIdeal.Value Idealize.ShloMosaic Idealize.ShloMosaic.TcCoe Idealize.SL.Sem

variable (m : (ℓ : Loc nD τ sig) → Buf (Elt Ideal) ℓ) (c : Dev nD)

/-- The three arguments as launched, as arrays of extended reals. -/
abbrev argX : Vec Ideal S8192x2048 .f32 := m ((c : Thread nD τ).loc main_arg0)
abbrev argG : Vec Ideal S2048 .f32 := m ((c : Thread nD τ).loc main_arg1)
abbrev argW : Vec Ideal S2048x4608 .f32 := m ((c : Thread nD τ).loc main_arg2)

theorem pts (t : Fin cfg0.N) : t.val < 72 := t.isLt.trans_eq N_0

theorem idx0 : ∀ t : Fin cfg0.N, win0_0.index t (0 : Fin 2) = t.val / 9 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 9 :=
  (by decide +kernel : ∀ t : Fin grid0.N, _)

/-- The row block of a point: rows `1024 * (t / 9) + r` of the stream. -/
theorem blkX (t : Fin cfg0.N) (r : Fin 1024) (k : Fin 2048) :
    iblk m c 0 t (ix2 r k) = argX m c (ix2 ⟨1024 * (t.val / 9) + r.val, by have := pts t; omega⟩ k) := by
  obtain ⟨e0, e1⟩ := idx0 t
  blk_ext! [iblk, V, e0, e1]

/-- The gains' block: the gains, as one row. -/
theorem blkG (t : Fin cfg0.N) (k : Fin 2048) : iblk m c 1 t (ix2 0 k) = argG m c (ix1 k) := by
  obtain ⟨e0, e1⟩ := idx1 t
  blk_ext! [iblk, V, e0, e1]

/-- The weight block of a point: columns `512 * (t % 9) + l`. -/
theorem blkW (t : Fin cfg0.N) (k : Fin 2048) (l : Fin 512) :
    iblk m c 2 t (ix2 k l) = argW m c (ix2 k ⟨512 * (t.val % 9) + l.val, by omega⟩) := by
  obtain ⟨e0, e1⟩ := idx2 t
  blk_ext! [iblk, V, e0, e1]

/-- One normalised row of the stream. -/
abbrev row (r : Fin 8192) : Fin 2048 → EReal :=
  Cert.Layer.rms (fun j => argX m c (ix2 r j)) (fun j => argG m c (ix1 j))

/-- The scratch after every point: its band's normalised rows. -/
theorem scratch_at : ∀ (n : ℕ) (hn : n < cfg0.N) (r : Fin 1024) (k : Fin 2048),
    (outsAt0 m c n hn).2 (ix2 r k)
      = row m c ⟨1024 * (n / 9) + r.val, by have := pts ⟨n, hn⟩; simp only at this; omega⟩ k := by
  intro n
  induction n with
  | zero =>
    intro hn r k
    rw [outsAt0_A m c ⟨0, hn⟩ rfl]
    dsimp only
    rw [scratch_first, rows_apply]
    simp only [blkX, blkG]
  | succ n ih =>
    intro hn r k
    by_cases h0 : (n + 1) % 9 = 0
    · rw [outsAt0_A m c ⟨n + 1, hn⟩ h0]
      dsimp only
      rw [scratch_first, rows_apply]
      simp only [blkX, blkG]
    · rw [outsAt0_B m c ⟨n + 1, hn⟩ h0]
      dsimp only
      rw [scratch_later]
      refine (ih _ r k).trans ?_
      congr 1
      apply Fin.ext
      dsimp only
      omega

/-- The output block after every point. -/
theorem out_at (t : Fin cfg0.N) (r : Fin 1024) (l : Fin 512) :
    (outsAt0 m c t.val t.isLt).1 (ix2 r l)
      = ∑ k : Fin 2048, row m c ⟨1024 * (t.val / 9) + r.val, by have := pts t; omega⟩ k
          * argW m c (ix2 k ⟨512 * (t.val % 9) + l.val, by omega⟩) := by
  have hs := scratch_at m c t.val t.isLt r
  by_cases h0 : t.val % 9 = 0
  · rw [outsAt0_A m c t h0] at hs ⊢
    dsimp only at hs ⊢
    rw [out_first, prod_apply]
    rw [scratch_first] at hs
    simp only [hs, blkW]
  · rw [outsAt0_B m c t h0] at hs ⊢
    dsimp only at hs ⊢
    rw [out_later, prod_apply]
    rw [scratch_later] at hs
    simp only [hs, blkW]

/-- The array the call leaves, at an index. -/
theorem array_apply (i : S8192x4608.Idx) :
    G3 m c i = ∑ k : Fin 2048, row m c (i 0) k * argW m c (ix2 k (i 1)) := by
  have h0 : (i 0).val < 8192 := (i 0).isLt
  have h1 : (i 1).val < 4608 := (i 1).isLt
  have hp : pt3Of i < cfg0.N := lt_of_lt_of_eq (by show run3Of i < 72; unfold run3Of; omega) N_0.symm
  unfold G3
  rw [dif_pos hp]
  rw [← outsAt0_sweep m c (pt3Of i) hp]
  have hl : loc3Of i = ix2 (⟨(i 0).val % 1024, by omega⟩ : Fin 1024) (⟨(i 1).val % 512, by omega⟩ : Fin 512) := by
    funext a; match a with | ⟨0, _⟩ => rfl | ⟨1, _⟩ => rfl
  rw [hl, out_at m c ⟨pt3Of i, hp⟩]
  have e0 : (⟨1024 * (pt3Of i / 9) + (i 0).val % 1024, by show _ < 8192; unfold pt3Of run3Of; omega⟩ : Fin 8192) = i 0 :=
    Fin.ext (by dsimp only; unfold pt3Of run3Of; omega)
  have e1 : (⟨512 * (pt3Of i % 9) + (i 1).val % 512, by show _ < 4608; omega⟩ : Fin 4608) = i 1 :=
    Fin.ext (by dsimp only; unfold pt3Of run3Of; omega)
  dsimp only
  rw [e0, e1]

/-- The reference's product, at an index. -/
theorem ref_apply (x : Vec Ideal S8192x2048 .f32) (g : Vec Ideal S2048 .f32) (w : Vec Ideal S2048x4608 .f32)
    (i : S8192x4608.Idx) :
    Cert.KvBRefIdeal.Read.val_main_v13 (F := Ideal) x g w i
      = ∑ k : Fin 2048, Cert.Layer.rms (fun j => x (ix2 (i 0) j)) (fun j => g (ix1 j)) k * w (ix2 k (i 1)) := by
  unfold Cert.Layer.rms
  pointwise [Cert.KvBRefIdeal.Read.val_main_v0, Cert.KvBRefIdeal.Read.val_main_v1, Cert.KvBRefIdeal.Read.val_main_v2, Cert.KvBRefIdeal.Read.val_main_v3, Cert.KvBRefIdeal.Read.val_main_v4, Cert.KvBRefIdeal.Read.val_main_v5, Cert.KvBRefIdeal.Read.val_main_v6, Cert.KvBRefIdeal.Read.val_main_v7, Cert.KvBRefIdeal.Read.val_main_v8, Cert.KvBRefIdeal.Read.val_main_v9, Cert.KvBRefIdeal.Read.val_main_v10, Cert.KvBRefIdeal.Read.val_main_v11, Cert.KvBRefIdeal.Read.val_main_v12, Cert.KvBRefIdeal.Read.val_main_v13, Cert.KvBRefIdeal.Read.val_main_cst, Cert.KvBRefIdeal.Read.val_main_cst_0, Cert.KvBRefIdeal.Read.val_main_cst_1]

/-- The call's array is the reference's. -/
theorem array_eq :
    G3 m c = Cert.KvBRefIdeal.Read.val_main_v13 (F := Ideal) (argX m c) (argG m c) (argW m c) := by
  funext i
  exact (array_apply m c i).trans (ref_apply _ _ _ i).symm

end Cert.KvBIdeal.Band

end
-- ==== Proof.FfnBody.lean ====
/-
  The feed-forward call, one grid point: at the first hidden block of a row block the body normalises the rows into the
  scratch and stores the block's contribution in the output block; at a later one it adds the contribution; at the
  last it then normalises the sum and adds the rows themselves.
-/
module

public import proofs.«01_k».proof.Proof.RowNorm
public import proofs.«01_k».proof.Proof.Gen.FfnIdeal.Frame
public import Idealize.ShloMosaic.Lib.Tactic

@[expose] public section

noncomputable section

namespace Cert.FfnIdeal.Band

open Cert.FfnIdeal Cert.FfnIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a2 : Memref sig .tc .vmem S512x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S2048x512 .bf16) (h5 : a5.IsWhole) (a6 : Memref sig .tc .vmem S2048x512 .bf16) (h6 : a6.IsWhole)
  (a7 : Memref sig .tc .vmem S512x2048 .bf16) (h7 : a7.IsWhole) (a8 : Memref sig .tc .vmem S512x2048 .f32) (h8 : a8.IsWhole)
  (a9 : Memref sig .tc .vmem S512x2048 .bf16) (h9 : a9.IsWhole)
  (x0 : Vec F S512x2048 .f32) (x1 : Vec F S1x2048 .f32) (x2 : Vec F S1x2048 .f32) (x3 : Vec F S2048x512 .bf16)
  (x4 : Vec F S2048x512 .bf16) (x5 : Vec F S512x2048 .bf16)

/-- First hidden block: the scratch ends at the normalised rows, -/
theorem scratch_first (hc0 : cond0_0 i) (hc1 : cond0_1 i) (hc2 : ¬cond0_2 i) (hc3 : ¬cond0_3 i) :
    sout0_A_0 c i a2 h2 a3 h3 a4 h4 a5 h5 a6 h6 a7 h7 a8 h8 a9 h9 hc0 hc1 hc2 hc3 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 hc2 hc3 x0 x1 x2 x3 x4 x5)]
  unfold kernelRun0_A
  dsimp only
  sl_unfold_words
  rw [View.canon_unit_zero hz2]
  simp only [View.readAt_eq_ld, h2.read_unread, h3.read_unread, View.ld_unit_zero (S := S512x2048) hz2,
    View.ld_unit_zero (S := S1x2048) hz2]

/-- and the output block at the block's contribution from those rows. -/
theorem out_first (hc0 : cond0_0 i) (hc1 : cond0_1 i) (hc2 : ¬cond0_2 i) (hc3 : ¬cond0_3 i) :
    out0_A_6 c i a2 h2 a3 h3 a4 h4 a5 h5 a6 h6 a7 h7 a8 h8 a9 h9 hc0 hc1 hc2 hc3 x0 x1 x2 x3 x4 x5 = k0_pay2 (k0_pay1 x0 x1) x3 x4 x5 := by
  unfold out0_A_6
  rw [View.read_writes_eq_canon _ _ _ (cover0_A_6 c i a2 h2 a3 h3 a4 h4 a5 h5 a6 h6 a7 h7 a8 h8 a9 h9 hc0 hc1 hc2 hc3 x0 x1 x2 x3 x4 x5)]
  unfold kernelRun0_A
  dsimp only
  sl_unfold_words
  rw [View.canon_unit_zero hz2, View.readCov_unit_zero (S := S512x2048) _ hz2]
  simp only [View.readAt_eq_ld, h2.read_unread, h3.read_unread, h5.read_unread, h6.read_unread, h7.read_unread,
    View.ld_unit_zero (S := S512x2048) hz2, View.ld_unit_zero (S := S1x2048) hz2, View.ld_unit_zero (S := S2048x512) hz2]

/-- A hidden block between: the scratch stays, -/
theorem scratch_between (hc0 : ¬cond0_0 i) (hc1 : ¬cond0_1 i) (hc2 : cond0_2 i) (hc3 : ¬cond0_3 i)
    (xo : Vec F S512x2048 .f32) (xs : Vec F S512x2048 .bf16) :
    sout0_B_0 c i a2 h2 a3 h3 a4 h4 a5 h5 a6 h6 a7 h7 a8 h8 a9 h9 hc0 hc1 hc2 hc3 x0 x1 x2 x3 x4 x5 xo xs = xs := rfl

/-- and the contribution is added to the output block. -/
theorem out_between (hc0 : ¬cond0_0 i) (hc1 : ¬cond0_1 i) (hc2 : cond0_2 i) (hc3 : ¬cond0_3 i)
    (xo : Vec F S512x2048 .f32) (xs : Vec F S512x2048 .bf16) :
    out0_B_6 c i a2 h2 a3 h3 a4 h4 a5 h5 a6 h6 a7 h7 a8 h8 a9 h9 hc0 hc1 hc2 hc3 x0 x1 x2 x3 x4 x5 xo xs = k0_pay3 xs x3 x4 x5 xo := by
  unfold out0_B_6
  rw [View.read_writes_eq_canon _ _ _ (cover0_B_6 c i a2 h2 a3 h3 a4 h4 a5 h5 a6 h6 a7 h7 a8 h8 a9 h9 hc0 hc1 hc2 hc3 x0 x1 x2 x3 x4 x5 xo xs)]
  unfold kernelRun0_B
  dsimp only
  sl_unfold_words
  rw [View.canon_unit_zero hz2]
  simp only [View.readAt_eq_ld, h5.read_unread, h6.read_unread, h7.read_unread, h8.read_unread, h9.read_unread,
    View.ld_unit_zero (S := S512x2048) hz2, View.ld_unit_zero (S := S2048x512) hz2]

/-- The last hidden block: the scratch stays, -/
theorem scratch_last (hc0 : ¬cond0_0 i) (hc1 : ¬cond0_1 i) (hc2 : cond0_2 i) (hc3 : cond0_3 i)
    (xo : Vec F S512x2048 .f32) (xs : Vec F S512x2048 .bf16) :
    sout0_C_0 c i a2 h2 a3 h3 a4 h4 a5 h5 a6 h6 a7 h7 a8 h8 a9 h9 hc0 hc1 hc2 hc3 x0 x1 x2 x3 x4 x5 xo xs = xs := rfl

/-- and the output block ends at the rows plus the normalised sum. -/
theorem out_last (hc0 : ¬cond0_0 i) (hc1 : ¬cond0_1 i) (hc2 : cond0_2 i) (hc3 : cond0_3 i)
    (xo : Vec F S512x2048 .f32) (xs : Vec F S512x2048 .bf16) :
    out0_C_6 c i a2 h2 a3 h3 a4 h4 a5 h5 a6 h6 a7 h7 a8 h8 a9 h9 hc0 hc1 hc2 hc3 x0 x1 x2 x3 x4 x5 xo xs = k0_pay4 x0 (k0_pay3 xs x3 x4 x5 xo) x2 := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 x5 xo xs)]
  unfold kernelRun0_C
  dsimp only
  sl_unfold_words
  rw [View.canon_cons_unit_zero (S := S512x2048) hz2, View.readCov_unit_zero (S := S512x2048) _ hz2]
  simp only [View.readAt_eq_ld, h2.read_unread, h4.read_unread, h5.read_unread, h6.read_unread, h7.read_unread,
    h8.read_unread, h9.read_unread,
    View.ld_unit_zero (S := S512x2048) hz2, View.ld_unit_zero (S := S1x2048) hz2, View.ld_unit_zero (S := S2048x512) hz2]

end Found

/-- The normalised rows, one entry. -/
theorem rows_apply (x : Vec Ideal S512x2048 .f32) (g : Vec Ideal S1x2048 .f32) (r : Fin 512) (k : Fin 2048) :
    k0_pay1 x g (ix2 r k) = Cert.Layer.rms (fun j => x (ix2 r j)) (fun j => g (ix2 0 j)) k := by
  unfold Cert.Layer.rms
  pointwise [k0_pay1]

/-- A hidden block's contribution, one entry. -/
theorem part_apply (y : Vec Ideal S512x2048 .bf16) (wg wu : Vec Ideal S2048x512 .bf16) (wo : Vec Ideal S512x2048 .bf16)
    (r : Fin 512) (d : Fin 2048) :
    k0_pay2 y wg wu wo (ix2 r d) = ∑ f : Fin 512,
      Cert.Layer.gated (fun k => y (ix2 r k)) (fun k => wg (ix2 k f)) (fun k => wu (ix2 k f)) * wo (ix2 f d) := by
  unfold Cert.Layer.gated
  pointwise [k0_pay2]

/-- The contribution added to what was there. -/
theorem acc_apply (y : Vec Ideal S512x2048 .bf16) (wg wu : Vec Ideal S2048x512 .bf16) (wo : Vec Ideal S512x2048 .bf16)
    (o : Vec Ideal S512x2048 .f32) (r : Fin 512) (d : Fin 2048) :
    k0_pay3 y wg wu wo o (ix2 r d) = o (ix2 r d) + k0_pay2 y wg wu wo (ix2 r d) := by
  unfold k0_pay3
  rw [shapeCast_self]
  rfl

/-- The rows plus the normalised sum, one entry. -/
theorem last_apply (x s : Vec Ideal S512x2048 .f32) (g : Vec Ideal S1x2048 .f32) (r : Fin 512) (d : Fin 2048) :
    k0_pay4 x s g (ix2 r d)
      = x (ix2 r d) + Cert.Layer.rms (fun j => s (ix2 r j)) (fun j => g (ix2 0 j)) d := by
  unfold Cert.Layer.rms
  pointwise [k0_pay4]

end Cert.FfnIdeal.Band

end
-- ==== Proof.FfnValue.lean ====
/-
  The feed-forward call, the whole array: over the hidden blocks of a row block the scratch is kept and the output
  block gathers the contributions, so that at the last one the sum is over all hidden features; the array is the
  reference's.
-/
module

public import proofs.«01_k».proof.Proof.FfnBody
public import proofs.«01_k».proof.Proof.Gen.FfnIdeal.Value
public import proofs.«01_k».proof.Proof.Gen.FfnRefIdeal.Read
public import Idealize.ShloMosaic.Lib.Pipeline.ValueKit.Point
public import Idealize.ShloMosaic.Lib.IdealHost

@[expose] public section

noncomputable section

namespace Cert.FfnIdeal.Band

open Cert.FfnIdeal Cert.FfnIdeal.Gen Cert.FfnIdeal.Value Idealize.ShloMosaic Idealize.ShloMosaic.TcCoe Idealize.SL.Sem

variable (m : (ℓ : Loc nD τ sig) → Buf (Elt Ideal) ℓ) (c : Dev nD)

/-- The five arguments as launched, as arrays of extended reals. -/
abbrev argX : Vec Ideal S8192x2048 .f32 := m ((c : Thread nD τ).loc main_arg0)
abbrev argG : Vec Ideal S2048 .f32 := m ((c : Thread nD τ).loc main_arg1)
abbrev argH : Vec Ideal S2048 .f32 := m ((c : Thread nD τ).loc main_arg2)
abbrev argW : Vec Ideal S2048x11264 .f32 := m ((c : Thread nD τ).loc main_arg3)
abbrev argO : Vec Ideal S5632x2048 .f32 := m ((c : Thread nD τ).loc main_arg4)

theorem pts (t : Fin cfg0.N) : t.val < 176 := t.isLt.trans_eq N_0

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = 0 ∧ win0_4.index t (1 : Fin 2) = t.val % 11 + 11 :=
  (by decide +kernel : ∀ t : Fin grid0.N, _)
theorem idx5 : ∀ t : Fin cfg0.N, win0_5.index t (0 : Fin 2) = t.val % 11 ∧ win0_5.index t (1 : Fin 2) = 0 :=
  (by decide +kernel : ∀ t : Fin grid0.N, _)

/-- The row block of a point: rows `512 * (t / 11) + r` of the stream. -/
theorem blkX (t : Fin cfg0.N) (r : Fin 512) (k : Fin 2048) :
    iblk m c 0 t (ix2 r k) = argX m c (ix2 ⟨512 * (t.val / 11) + r.val, by have := pts t; omega⟩ k) := by
  obtain ⟨e0, e1⟩ := idx0 t
  blk_ext! [iblk, V, e0, e1]

/-- The two gains' blocks: the gains, as one row. -/
theorem blkG (t : Fin cfg0.N) (k : Fin 2048) : iblk m c 1 t (ix2 0 k) = argG m c (ix1 k) := by
  obtain ⟨e0, e1⟩ := idx1 t
  blk_ext! [iblk, V, e0, e1]
theorem blkH (t : Fin cfg0.N) (k : Fin 2048) : iblk m c 2 t (ix2 0 k) = argH m c (ix1 k) := by
  obtain ⟨e0, e1⟩ := idx2 t
  blk_ext! [iblk, V, e0, e1]

/-- The gate's weights of a point: columns `512 * (t % 11) + f`. -/
theorem blkA (t : Fin cfg0.N) (k : Fin 2048) (f : Fin 512) :
    iblk m c 3 t (ix2 k f) = argW m c (ix2 k ⟨512 * (t.val % 11) + f.val, by omega⟩) := by
  obtain ⟨e0, e1⟩ := idx3 t
  blk_ext! [iblk, V, e0, e1]

/-- The other half's: 5632 columns further. -/
theorem blkB (t : Fin cfg0.N) (k : Fin 2048) (f : Fin 512) :
    iblk m c 4 t (ix2 k f) = argW m c (ix2 k ⟨5632 + (512 * (t.val % 11) + f.val), by omega⟩) := by
  obtain ⟨e0, e1⟩ := idx4 t
  blk_ext! [iblk, V, e0, e1]

/-- The output weights of a point: rows `512 * (t % 11) + f`. -/
theorem blkO (t : Fin cfg0.N) (f : Fin 512) (d : Fin 2048) :
    iblk m c 5 t (ix2 f d) = argO m c (ix2 ⟨512 * (t.val % 11) + f.val, by omega⟩ d) := by
  obtain ⟨e0, e1⟩ := idx5 t
  blk_ext! [iblk, V, e0, e1]

/-- One normalised row of the stream. -/
abbrev row (r : Fin 8192) : Fin 2048 → EReal :=
  Cert.Layer.rms (fun j => argX m c (ix2 r j)) (fun j => argG m c (ix1 j))

/-- What hidden feature `f` gives output feature `d` of row `r`, at a natural number too, and their sums. -/
def term (r : Fin 8192) (d : Fin 2048) : Fin 5632 → EReal :=
  Cert.Layer.term (row m c r) (fun k j => argW m c (ix2 k j)) (fun f => argO m c (ix2 f d))
def termN (r : Fin 8192) (d : Fin 2048) : ℕ → EReal :=
  Cert.Layer.termN (row m c r) (fun k j => argW m c (ix2 k j)) (fun f => argO m c (ix2 f d))
def upto (r : Fin 8192) (d : Fin 2048) : ℕ → EReal :=
  Cert.Layer.upto (row m c r) (fun k j => argW m c (ix2 k j)) (fun f => argO m c (ix2 f d))

theorem upto_add (r : Fin 8192) (d : Fin 2048) (n : ℕ) :
    upto m c r d (n + 512) = upto m c r d n + ∑ f ∈ Finset.range 512, termN m c r d (n + f) :=
  Cert.Layer.upto_add _ _ _ n
theorem upto_all (r : Fin 8192) (d : Fin 2048) : upto m c r d 5632 = ∑ f : Fin 5632, term m c r d f :=
  Cert.Layer.upto_all _ _ _

/-- The scratch after every point: its row block's normalised rows. -/
theorem scratch_at : ∀ (n : ℕ) (hn : n < cfg0.N) (r : Fin 512) (k : Fin 2048),
    (outsAt0 m c n hn).2 (ix2 r k)
      = row m c ⟨512 * (n / 11) + r.val, by have := pts ⟨n, hn⟩; simp only at this; omega⟩ k := by
  intro n
  induction n with
  | zero =>
    intro hn r k
    rw [outsAt0_A m c ⟨0, hn⟩ rfl rfl (by dsimp only; omega) (by dsimp only; omega)]
    dsimp only
    rw [scratch_first, rows_apply]
    simp only [blkX, blkG]
  | succ n ih =>
    intro hn r k
    have hpt := pts ⟨n + 1, hn⟩
    have step : ¬(n + 1) % 11 = 0 → (outsAt0 m c n (Nat.lt_of_succ_lt hn)).2 (ix2 r k)
        = row m c ⟨512 * ((n + 1) / 11) + r.val, by simp only at hpt; omega⟩ k := fun h0 => by
      refine (ih _ r k).trans ?_
      congr 1
      apply Fin.ext
      dsimp only
      omega
    by_cases h0 : (n + 1) % 11 = 0
    · rw [outsAt0_A m c ⟨n + 1, hn⟩ h0 h0 (by dsimp only; omega) (by dsimp only; omega)]
      dsimp only
      rw [scratch_first, rows_apply]
      simp only [blkX, blkG]
    · by_cases h3 : (n + 1) % 11 = 10
      · rw [outsAt0_C m c ⟨n + 1, hn⟩ h0 h0 (by dsimp only; omega) h3]
        dsimp only
        rw [scratch_last]
        exact step h0
      · rw [outsAt0_B m c ⟨n + 1, hn⟩ h0 h0 (by dsimp only; omega) h3]
        dsimp only
        rw [scratch_between]
        exact step h0

/-- A point's contribution from its row block's normalised rows: its 512 hidden features' terms. -/
theorem part_at (t : Fin cfg0.N) (y : Vec Ideal S512x2048 .bf16) (r : Fin 512) (d : Fin 2048) (R : Fin 8192)
    (hy : ∀ k, y (ix2 r k) = row m c R k) :
    k0_pay2 y (iblk m c 3 t) (iblk m c 4 t) (iblk m c 5 t) (ix2 r d)
      = ∑ f ∈ Finset.range 512, termN m c R d (512 * (t.val % 11) + f) := by
  rw [part_apply, Finset.sum_range]
  refine Finset.sum_congr rfl fun f _ => ?_
  have hf : 512 * (t.val % 11) + f.val < 5632 := by omega
  unfold termN Cert.Layer.termN
  rw [dif_pos hf]
  unfold Cert.Layer.term
  simp only [hy, blkA, blkB, blkO]

/-- The output block after every point but a row block's last: the sum over the hidden features so far. -/
theorem out_at : ∀ (n : ℕ) (hn : n < cfg0.N) (_ : ¬n % 11 = 10) (r : Fin 512) (d : Fin 2048),
    (outsAt0 m c n hn).1 (ix2 r d)
      = upto m c ⟨512 * (n / 11) + r.val, by have := pts ⟨n, hn⟩; simp only at this; omega⟩ d (512 * (n % 11 + 1)) := by
  intro n
  induction n with
  | zero =>
    intro hn h3 r d
    have hs := fun k => scratch_at m c 0 hn r k
    rw [outsAt0_A m c ⟨0, hn⟩ rfl rfl (by dsimp only; omega) (by dsimp only; omega)] at hs ⊢
    dsimp only at hs ⊢
    rw [scratch_first] at hs
    rw [out_first, part_at m c ⟨0, hn⟩ _ r d _ hs]
    unfold upto Cert.Layer.upto termN
    simp only [Nat.zero_mod, Nat.mul_zero, Nat.zero_add, Nat.mul_one]
  | succ n ih =>
    intro hn h3 r d
    have hpt := pts ⟨n + 1, hn⟩
    have hs := fun k => scratch_at m c (n + 1) hn r k
    by_cases h0 : (n + 1) % 11 = 0
    · rw [outsAt0_A m c ⟨n + 1, hn⟩ h0 h0 (by dsimp only; omega) (by dsimp only; omega)] at hs ⊢
      dsimp only at hs ⊢
      rw [scratch_first] at hs
      rw [out_first, part_at m c ⟨n + 1, hn⟩ _ r d _ hs]
      unfold upto Cert.Layer.upto termN
      dsimp only
      simp only [h0, Nat.mul_zero, Nat.zero_add, Nat.mul_one]
    · rw [outsAt0_B m c ⟨n + 1, hn⟩ h0 h0 (by dsimp only; omega) h3] at hs ⊢
      dsimp only at hs ⊢
      rw [scratch_between] at hs
      rw [out_between, acc_apply, part_at m c ⟨n + 1, hn⟩ _ r d _ hs]
      have e := ih (Nat.lt_of_succ_lt hn) (by omega) r d
      rw [show (n + 1) % 11 = n % 11 + 1 by omega, show 512 * (n % 11 + 1 + 1) = 512 * (n % 11 + 1) + 512 by omega, upto_add]
      refine congrArg₂ (· + ·) (e.trans ?_) ?_
      · congr 1
        apply Fin.ext
        dsimp only
        omega
      · rfl

/-- The output block after a row block's last point. -/
theorem out_end (t : Fin cfg0.N) (h3 : t.val % 11 = 10) (r : Fin 512) (d : Fin 2048) :
    (outsAt0 m c t.val t.isLt).1 (ix2 r d)
      = argX m c (ix2 ⟨512 * (t.val / 11) + r.val, by have := pts t; omega⟩ d)
        + Cert.Layer.rms (fun d' => ∑ f : Fin 5632, term m c ⟨512 * (t.val / 11) + r.val, by have := pts t; omega⟩ d' f)
            (fun d' => argH m c (ix1 d')) d := by
  have hpt := pts t
  have h0 : ¬t.val % 11 = 0 := by omega
  have hs := fun k => scratch_at m c t.val t.isLt r k
  rw [outsAt0_C m c t h0 h0 (by omega) h3] at hs ⊢
  dsimp only at hs ⊢
  rw [scratch_last] at hs
  rw [out_last, last_apply]
  have hsum : ∀ d' : Fin 2048,
      k0_pay3 (outsAt0 m c (t.val - 1) (Nat.lt_of_le_of_lt (Nat.sub_le _ _) t.isLt)).2 (iblk m c 3 t) (iblk m c 4 t) (iblk m c 5 t)
        (outsAt0 m c (t.val - 1) (Nat.lt_of_le_of_lt (Nat.sub_le _ _) t.isLt)).1 (ix2 r d')
        = ∑ f : Fin 5632, term m c ⟨512 * (t.val / 11) + r.val, by omega⟩ d' f := fun d' => by
    rw [acc_apply, part_at m c t _ r d' _ hs, ← upto_all, show (5632 : ℕ) = 5120 + 512 by rfl, upto_add]
    have e := out_at m c (t.val - 1) (Nat.lt_of_le_of_lt (Nat.sub_le _ _) t.isLt) (by omega) r d'
    rw [show (t.val - 1) % 11 = 9 by omega] at e
    refine congrArg₂ (· + ·) (e.trans ?_) ?_
    · congr 1
      apply Fin.ext
      dsimp only
      omega
    · rw [h3]
  simp only [hsum, blkX, blkH]

/-- The array the call leaves, at an index. -/
theorem array_apply (i : S8192x2048.Idx) :
    G6 m c i = argX m c (ix2 (i 0) (i 1)) + Cert.Layer.rms (fun d => ∑ f : Fin 5632, term m c (i 0) d f)
      (fun d => argH m c (ix1 d)) (i 1) := by
  have h0 : (i 0).val < 8192 := (i 0).isLt
  have h1 : (i 1).val < 2048 := (i 1).isLt
  have hp : pt6Of i < cfg0.N := lt_of_lt_of_eq (by show 11 * run6Of i + 10 < 176; unfold run6Of; omega) N_0.symm
  unfold G6
  rw [dif_pos hp]
  rw [← outsAt0_sweep m c (pt6Of i) hp]
  have hl : loc6Of i = ix2 (⟨(i 0).val % 512, by omega⟩ : Fin 512) (⟨(i 1).val % 2048, by omega⟩ : Fin 2048) := by
    funext a; match a with | ⟨0, _⟩ => rfl | ⟨1, _⟩ => rfl
  rw [hl, out_end m c ⟨pt6Of i, hp⟩ (by dsimp only; unfold pt6Of run6Of; omega)]
  have e0 : (⟨512 * (pt6Of i / 11) + (i 0).val % 512, by show _ < 8192; unfold pt6Of run6Of; omega⟩ : Fin 8192) = i 0 :=
    Fin.ext (by dsimp only; unfold pt6Of run6Of; omega)
  have e1 : (⟨(i 1).val % 2048, by omega⟩ : Fin 2048) = i 1 := Fin.ext (by dsimp only; omega)
  dsimp only
  rw [e0, e1]

section Ref
open Cert.FfnRefIdeal.Read

variable (x : Vec Ideal S8192x2048 .f32) (g h : Vec Ideal S2048 .f32) (w : Vec Ideal S2048x11264 .f32) (o : Vec Ideal S5632x2048 .f32)

/-- The reference's hidden features. -/
theorem ref_hidden (r : Fin 8192) (f : Fin 5632) :
    val_main_v17 (F := Ideal) x g w (ix2 r f)
      = Cert.Layer.gated (Cert.Layer.rms (fun j => x (ix2 r j)) (fun j => g (ix1 j))) (fun k => w (ix2 k ⟨f.val, by omega⟩))
          (fun k => w (ix2 k ⟨5632 + f.val, by omega⟩)) := by
  unfold Cert.Layer.gated Cert.Layer.rms Ideal.logistic
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_cst, val_main_cst_0, val_main_cst_1, val_main_call0_v0, val_main_call0_v1, val_main_call0_cst,
    val_main_call0_v2, val_main_call0_v3, val_main_call0_cst_0, val_main_call0_v4, val_main_call0_v5]

/-- The reference's result from its hidden features. -/
theorem ref_apply (i : S8192x2048.Idx) :
    val_main_v32 (F := Ideal) x g h w o i
      = x (ix2 (i 0) (i 1)) + Cert.Layer.rms (fun d => ∑ f : Fin 5632, val_main_v17 (F := Ideal) x g w (ix2 (i 0) f) * o (ix2 f d))
          (fun d => h (ix1 d)) (i 1) := by
  unfold Cert.Layer.rms
  pointwise [val_main_v18, val_main_v19, val_main_v20, val_main_v21, val_main_v22, val_main_v23, val_main_v24, val_main_v25, val_main_v26,
    val_main_v27, val_main_v28, val_main_v29, val_main_v30, val_main_v31, val_main_v32, val_main_cst_2, val_main_cst_3,
    val_main_cst_4]

end Ref

/-- The call's array is the reference's. -/
theorem array_eq : G6 m c
    = Cert.FfnRefIdeal.Read.val_main_v32 (F := Ideal) (argX m c) (argG m c) (argH m c) (argW m c) (argO m c) := by
  funext i
  rw [array_apply, ref_apply]
  refine congrArg (fun y => argX m c (ix2 (i 0) (i 1)) + Cert.Layer.rms y (fun d => argH m c (ix1 d)) (i 1))
    (funext fun d => Finset.sum_congr rfl fun f _ => ?_)
  unfold term Cert.Layer.term
  exact congrArg (· * argO m c (ix2 f d)) (ref_hidden _ _ _ (i 0) f).symm

end Cert.FfnIdeal.Band

end
-- ==== Proof.FfnSBody.lean ====
/-
  The sample's feed-forward call, one grid point: at the first hidden block the body normalises the rows into the
  scratch and stores the block's contribution in the output block; at a later one it adds the contribution; at the
  last it then normalises the sum and adds the rows themselves.
-/
module

public import proofs.«01_k».proof.Proof.RowNorm
public import proofs.«01_k».proof.Proof.Gen.FfnSIdeal.Frame
public import Idealize.ShloMosaic.Lib.Tactic

@[expose] public section

noncomputable section

namespace Cert.FfnSIdeal.Band

open Cert.FfnSIdeal Cert.FfnSIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a2 : Memref sig .tc .vmem S128x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S2048x512 .bf16) (h5 : a5.IsWhole) (a6 : Memref sig .tc .vmem S2048x512 .bf16) (h6 : a6.IsWhole)
  (a7 : Memref sig .tc .vmem S512x2048 .bf16) (h7 : a7.IsWhole) (a8 : Memref sig .tc .vmem S128x2048 .f32) (h8 : a8.IsWhole)
  (a9 : Memref sig .tc .vmem S128x2048 .bf16) (h9 : a9.IsWhole)
  (x0 : Vec F S128x2048 .f32) (x1 : Vec F S1x2048 .f32) (x2 : Vec F S1x2048 .f32) (x3 : Vec F S2048x512 .bf16)
  (x4 : Vec F S2048x512 .bf16) (x5 : Vec F S512x2048 .bf16)

/-- First hidden block: the scratch ends at the normalised rows, -/
theorem scratch_first (hc0 : cond0_0 i) (hc1 : cond0_1 i) (hc2 : ¬cond0_2 i) (hc3 : ¬cond0_3 i) :
    sout0_A_0 c i a2 h2 a3 h3 a4 h4 a5 h5 a6 h6 a7 h7 a8 h8 a9 h9 hc0 hc1 hc2 hc3 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 hc2 hc3 x0 x1 x2 x3 x4 x5)]
  unfold kernelRun0_A
  dsimp only
  sl_unfold_words
  rw [View.canon_unit_zero hz2]
  simp only [View.readAt_eq_ld, h2.read_unread, h3.read_unread, View.ld_unit_zero (S := S128x2048) hz2, View.ld_unit_zero (S := S512x2048) hz2,
    View.ld_unit_zero (S := S1x2048) hz2]

/-- and the output block at the block's contribution from those rows. -/
theorem out_first (hc0 : cond0_0 i) (hc1 : cond0_1 i) (hc2 : ¬cond0_2 i) (hc3 : ¬cond0_3 i) :
    out0_A_6 c i a2 h2 a3 h3 a4 h4 a5 h5 a6 h6 a7 h7 a8 h8 a9 h9 hc0 hc1 hc2 hc3 x0 x1 x2 x3 x4 x5 = k0_pay2 (k0_pay1 x0 x1) x3 x4 x5 := by
  unfold out0_A_6
  rw [View.read_writes_eq_canon _ _ _ (cover0_A_6 c i a2 h2 a3 h3 a4 h4 a5 h5 a6 h6 a7 h7 a8 h8 a9 h9 hc0 hc1 hc2 hc3 x0 x1 x2 x3 x4 x5)]
  unfold kernelRun0_A
  dsimp only
  sl_unfold_words
  rw [View.canon_unit_zero hz2, View.readCov_unit_zero (S := S128x2048) _ hz2]
  simp only [View.readAt_eq_ld, h2.read_unread, h3.read_unread, h5.read_unread, h6.read_unread, h7.read_unread,
    View.ld_unit_zero (S := S128x2048) hz2, View.ld_unit_zero (S := S512x2048) hz2, View.ld_unit_zero (S := S1x2048) hz2, View.ld_unit_zero (S := S2048x512) hz2]

/-- A hidden block between: the scratch stays, -/
theorem scratch_between (hc0 : ¬cond0_0 i) (hc1 : ¬cond0_1 i) (hc2 : cond0_2 i) (hc3 : ¬cond0_3 i)
    (xo : Vec F S128x2048 .f32) (xs : Vec F S128x2048 .bf16) :
    sout0_B_0 c i a2 h2 a3 h3 a4 h4 a5 h5 a6 h6 a7 h7 a8 h8 a9 h9 hc0 hc1 hc2 hc3 x0 x1 x2 x3 x4 x5 xo xs = xs := rfl

/-- and the contribution is added to the output block. -/
theorem out_between (hc0 : ¬cond0_0 i) (hc1 : ¬cond0_1 i) (hc2 : cond0_2 i) (hc3 : ¬cond0_3 i)
    (xo : Vec F S128x2048 .f32) (xs : Vec F S128x2048 .bf16) :
    out0_B_6 c i a2 h2 a3 h3 a4 h4 a5 h5 a6 h6 a7 h7 a8 h8 a9 h9 hc0 hc1 hc2 hc3 x0 x1 x2 x3 x4 x5 xo xs = k0_pay3 xs x3 x4 x5 xo := by
  unfold out0_B_6
  rw [View.read_writes_eq_canon _ _ _ (cover0_B_6 c i a2 h2 a3 h3 a4 h4 a5 h5 a6 h6 a7 h7 a8 h8 a9 h9 hc0 hc1 hc2 hc3 x0 x1 x2 x3 x4 x5 xo xs)]
  unfold kernelRun0_B
  dsimp only
  sl_unfold_words
  rw [View.canon_unit_zero hz2]
  simp only [View.readAt_eq_ld, h5.read_unread, h6.read_unread, h7.read_unread, h8.read_unread, h9.read_unread,
    View.ld_unit_zero (S := S128x2048) hz2, View.ld_unit_zero (S := S512x2048) hz2, View.ld_unit_zero (S := S2048x512) hz2]

/-- The last hidden block: the scratch stays, -/
theorem scratch_last (hc0 : ¬cond0_0 i) (hc1 : ¬cond0_1 i) (hc2 : cond0_2 i) (hc3 : cond0_3 i)
    (xo : Vec F S128x2048 .f32) (xs : Vec F S128x2048 .bf16) :
    sout0_C_0 c i a2 h2 a3 h3 a4 h4 a5 h5 a6 h6 a7 h7 a8 h8 a9 h9 hc0 hc1 hc2 hc3 x0 x1 x2 x3 x4 x5 xo xs = xs := rfl

/-- and the output block ends at the rows plus the normalised sum. -/
theorem out_last (hc0 : ¬cond0_0 i) (hc1 : ¬cond0_1 i) (hc2 : cond0_2 i) (hc3 : cond0_3 i)
    (xo : Vec F S128x2048 .f32) (xs : Vec F S128x2048 .bf16) :
    out0_C_6 c i a2 h2 a3 h3 a4 h4 a5 h5 a6 h6 a7 h7 a8 h8 a9 h9 hc0 hc1 hc2 hc3 x0 x1 x2 x3 x4 x5 xo xs = k0_pay4 x0 (k0_pay3 xs x3 x4 x5 xo) x2 := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 x5 xo xs)]
  unfold kernelRun0_C
  dsimp only
  sl_unfold_words
  rw [View.canon_cons_unit_zero (S := S128x2048) hz2, View.readCov_unit_zero (S := S128x2048) _ hz2]
  simp only [View.readAt_eq_ld, h2.read_unread, h4.read_unread, h5.read_unread, h6.read_unread, h7.read_unread,
    h8.read_unread, h9.read_unread,
    View.ld_unit_zero (S := S128x2048) hz2, View.ld_unit_zero (S := S512x2048) hz2, View.ld_unit_zero (S := S1x2048) hz2, View.ld_unit_zero (S := S2048x512) hz2]

end Found

/-- The normalised rows, one entry. -/
theorem rows_apply (x : Vec Ideal S128x2048 .f32) (g : Vec Ideal S1x2048 .f32) (r : Fin 128) (k : Fin 2048) :
    k0_pay1 x g (ix2 r k) = Cert.Layer.rms (fun j => x (ix2 r j)) (fun j => g (ix2 0 j)) k := by
  unfold Cert.Layer.rms
  pointwise [k0_pay1]

/-- A hidden block's contribution, one entry. -/
theorem part_apply (y : Vec Ideal S128x2048 .bf16) (wg wu : Vec Ideal S2048x512 .bf16) (wo : Vec Ideal S512x2048 .bf16)
    (r : Fin 128) (d : Fin 2048) :
    k0_pay2 y wg wu wo (ix2 r d) = ∑ f : Fin 512,
      Cert.Layer.gated (fun k => y (ix2 r k)) (fun k => wg (ix2 k f)) (fun k => wu (ix2 k f)) * wo (ix2 f d) := by
  unfold Cert.Layer.gated
  pointwise [k0_pay2]

/-- The contribution added to what was there. -/
theorem acc_apply (y : Vec Ideal S128x2048 .bf16) (wg wu : Vec Ideal S2048x512 .bf16) (wo : Vec Ideal S512x2048 .bf16)
    (o : Vec Ideal S128x2048 .f32) (r : Fin 128) (d : Fin 2048) :
    k0_pay3 y wg wu wo o (ix2 r d) = o (ix2 r d) + k0_pay2 y wg wu wo (ix2 r d) := by
  unfold k0_pay3
  rw [shapeCast_self]
  rfl

/-- The rows plus the normalised sum, one entry. -/
theorem last_apply (x s : Vec Ideal S128x2048 .f32) (g : Vec Ideal S1x2048 .f32) (r : Fin 128) (d : Fin 2048) :
    k0_pay4 x s g (ix2 r d)
      = x (ix2 r d) + Cert.Layer.rms (fun j => s (ix2 r j)) (fun j => g (ix2 0 j)) d := by
  unfold Cert.Layer.rms
  pointwise [k0_pay4]

end Cert.FfnSIdeal.Band

end
-- ==== Proof.FfnSValue.lean ====
/-
  The sample's feed-forward call, the whole array: over the hidden blocks of a row block the scratch is kept and the output
  block gathers the contributions, so that at the last one the sum is over all hidden features; the array is the
  reference's.
-/
module

public import proofs.«01_k».proof.Proof.FfnSBody
public import proofs.«01_k».proof.Proof.Gen.FfnSIdeal.Value
public import proofs.«01_k».proof.Proof.Gen.FfnSRefIdeal.Read
public import Idealize.ShloMosaic.Lib.Pipeline.ValueKit.Point
public import Idealize.ShloMosaic.Lib.IdealHost

@[expose] public section

noncomputable section

namespace Cert.FfnSIdeal.Band

open Cert.FfnSIdeal Cert.FfnSIdeal.Gen Cert.FfnSIdeal.Value Idealize.ShloMosaic Idealize.ShloMosaic.TcCoe Idealize.SL.Sem

variable (m : (ℓ : Loc nD τ sig) → Buf (Elt Ideal) ℓ) (c : Dev nD)

/-- The five arguments as launched, as arrays of extended reals. -/
abbrev argX : Vec Ideal S128x2048 .f32 := m ((c : Thread nD τ).loc main_arg0)
abbrev argG : Vec Ideal S2048 .f32 := m ((c : Thread nD τ).loc main_arg1)
abbrev argH : Vec Ideal S2048 .f32 := m ((c : Thread nD τ).loc main_arg2)
abbrev argW : Vec Ideal S2048x11264 .f32 := m ((c : Thread nD τ).loc main_arg3)
abbrev argO : Vec Ideal S5632x2048 .f32 := m ((c : Thread nD τ).loc main_arg4)

theorem pts (t : Fin cfg0.N) : t.val < 11 := t.isLt.trans_eq N_0

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = 0 ∧ win0_4.index t (1 : Fin 2) = t.val % 11 + 11 :=
  (by decide +kernel : ∀ t : Fin grid0.N, _)
theorem idx5 : ∀ t : Fin cfg0.N, win0_5.index t (0 : Fin 2) = t.val % 11 ∧ win0_5.index t (1 : Fin 2) = 0 :=
  (by decide +kernel : ∀ t : Fin grid0.N, _)

/-- The row block of a point: rows `128 * (t / 11) + r` of the stream. -/
theorem blkX (t : Fin cfg0.N) (r : Fin 128) (k : Fin 2048) :
    iblk m c 0 t (ix2 r k) = argX m c (ix2 ⟨128 * (t.val / 11) + r.val, by have := pts t; omega⟩ k) := by
  obtain ⟨e0, e1⟩ := idx0 t
  blk_ext! [iblk, V, e0, e1]

/-- The two gains' blocks: the gains, as one row. -/
theorem blkG (t : Fin cfg0.N) (k : Fin 2048) : iblk m c 1 t (ix2 0 k) = argG m c (ix1 k) := by
  obtain ⟨e0, e1⟩ := idx1 t
  blk_ext! [iblk, V, e0, e1]
theorem blkH (t : Fin cfg0.N) (k : Fin 2048) : iblk m c 2 t (ix2 0 k) = argH m c (ix1 k) := by
  obtain ⟨e0, e1⟩ := idx2 t
  blk_ext! [iblk, V, e0, e1]

/-- The gate's weights of a point: columns `512 * (t % 11) + f`. -/
theorem blkA (t : Fin cfg0.N) (k : Fin 2048) (f : Fin 512) :
    iblk m c 3 t (ix2 k f) = argW m c (ix2 k ⟨512 * (t.val % 11) + f.val, by omega⟩) := by
  obtain ⟨e0, e1⟩ := idx3 t
  blk_ext! [iblk, V, e0, e1]

/-- The other half's: 5632 columns further. -/
theorem blkB (t : Fin cfg0.N) (k : Fin 2048) (f : Fin 512) :
    iblk m c 4 t (ix2 k f) = argW m c (ix2 k ⟨5632 + (512 * (t.val % 11) + f.val), by omega⟩) := by
  obtain ⟨e0, e1⟩ := idx4 t
  blk_ext! [iblk, V, e0, e1]

/-- The output weights of a point: rows `512 * (t % 11) + f`. -/
theorem blkO (t : Fin cfg0.N) (f : Fin 512) (d : Fin 2048) :
    iblk m c 5 t (ix2 f d) = argO m c (ix2 ⟨512 * (t.val % 11) + f.val, by omega⟩ d) := by
  obtain ⟨e0, e1⟩ := idx5 t
  blk_ext! [iblk, V, e0, e1]

/-- One normalised row of the stream. -/
abbrev row (r : Fin 128) : Fin 2048 → EReal :=
  Cert.Layer.rms (fun j => argX m c (ix2 r j)) (fun j => argG m c (ix1 j))

/-- What hidden feature `f` gives output feature `d` of row `r`, at a natural number too, and their sums. -/
def term (r : Fin 128) (d : Fin 2048) : Fin 5632 → EReal :=
  Cert.Layer.term (row m c r) (fun k j => argW m c (ix2 k j)) (fun f => argO m c (ix2 f d))
def termN (r : Fin 128) (d : Fin 2048) : ℕ → EReal :=
  Cert.Layer.termN (row m c r) (fun k j => argW m c (ix2 k j)) (fun f => argO m c (ix2 f d))
def upto (r : Fin 128) (d : Fin 2048) : ℕ → EReal :=
  Cert.Layer.upto (row m c r) (fun k j => argW m c (ix2 k j)) (fun f => argO m c (ix2 f d))

theorem upto_add (r : Fin 128) (d : Fin 2048) (n : ℕ) :
    upto m c r d (n + 512) = upto m c r d n + ∑ f ∈ Finset.range 512, termN m c r d (n + f) :=
  Cert.Layer.upto_add _ _ _ n
theorem upto_all (r : Fin 128) (d : Fin 2048) : upto m c r d 5632 = ∑ f : Fin 5632, term m c r d f :=
  Cert.Layer.upto_all _ _ _

/-- The scratch after every point: its row block's normalised rows. -/
theorem scratch_at : ∀ (n : ℕ) (hn : n < cfg0.N) (r : Fin 128) (k : Fin 2048),
    (outsAt0 m c n hn).2 (ix2 r k)
      = row m c ⟨128 * (n / 11) + r.val, by have := pts ⟨n, hn⟩; simp only at this; omega⟩ k := by
  intro n
  induction n with
  | zero =>
    intro hn r k
    rw [outsAt0_A m c ⟨0, hn⟩ rfl rfl (by dsimp only; omega) (by dsimp only; omega)]
    dsimp only
    rw [scratch_first, rows_apply]
    simp only [blkX, blkG]
  | succ n ih =>
    intro hn r k
    have hpt := pts ⟨n + 1, hn⟩
    have step : ¬(n + 1) % 11 = 0 → (outsAt0 m c n (Nat.lt_of_succ_lt hn)).2 (ix2 r k)
        = row m c ⟨128 * ((n + 1) / 11) + r.val, by simp only at hpt; omega⟩ k := fun h0 => by
      refine (ih _ r k).trans ?_
      congr 1
      apply Fin.ext
      dsimp only
      omega
    by_cases h0 : (n + 1) % 11 = 0
    · simp only at hpt; omega
    · by_cases h3 : (n + 1) % 11 = 10
      · rw [outsAt0_C m c ⟨n + 1, hn⟩ h0 h0 (by dsimp only; omega) h3]
        dsimp only
        rw [scratch_last]
        exact step h0
      · rw [outsAt0_B m c ⟨n + 1, hn⟩ h0 h0 (by dsimp only; omega) h3]
        dsimp only
        rw [scratch_between]
        exact step h0

/-- A point's contribution from its row block's normalised rows: its 512 hidden features' terms. -/
theorem part_at (t : Fin cfg0.N) (y : Vec Ideal S128x2048 .bf16) (r : Fin 128) (d : Fin 2048) (R : Fin 128)
    (hy : ∀ k, y (ix2 r k) = row m c R k) :
    k0_pay2 y (iblk m c 3 t) (iblk m c 4 t) (iblk m c 5 t) (ix2 r d)
      = ∑ f ∈ Finset.range 512, termN m c R d (512 * (t.val % 11) + f) := by
  rw [part_apply, Finset.sum_range]
  refine Finset.sum_congr rfl fun f _ => ?_
  have hf : 512 * (t.val % 11) + f.val < 5632 := by omega
  unfold termN Cert.Layer.termN
  rw [dif_pos hf]
  unfold Cert.Layer.term
  simp only [hy, blkA, blkB, blkO]

/-- The output block after every point but a row block's last: the sum over the hidden features so far. -/
theorem out_at : ∀ (n : ℕ) (hn : n < cfg0.N) (_ : ¬n % 11 = 10) (r : Fin 128) (d : Fin 2048),
    (outsAt0 m c n hn).1 (ix2 r d)
      = upto m c ⟨128 * (n / 11) + r.val, by have := pts ⟨n, hn⟩; simp only at this; omega⟩ d (512 * (n % 11 + 1)) := by
  intro n
  induction n with
  | zero =>
    intro hn h3 r d
    have hs := fun k => scratch_at m c 0 hn r k
    rw [outsAt0_A m c ⟨0, hn⟩ rfl rfl (by dsimp only; omega) (by dsimp only; omega)] at hs ⊢
    dsimp only at hs ⊢
    rw [scratch_first] at hs
    rw [out_first, part_at m c ⟨0, hn⟩ _ r d _ hs]
    unfold upto Cert.Layer.upto termN
    simp only [Nat.zero_mod, Nat.mul_zero, Nat.zero_add, Nat.mul_one]
  | succ n ih =>
    intro hn h3 r d
    have hpt := pts ⟨n + 1, hn⟩
    have hs := fun k => scratch_at m c (n + 1) hn r k
    by_cases h0 : (n + 1) % 11 = 0
    · simp only at hpt; omega
    · rw [outsAt0_B m c ⟨n + 1, hn⟩ h0 h0 (by dsimp only; omega) h3] at hs ⊢
      dsimp only at hs ⊢
      rw [scratch_between] at hs
      rw [out_between, acc_apply, part_at m c ⟨n + 1, hn⟩ _ r d _ hs]
      have e := ih (Nat.lt_of_succ_lt hn) (by omega) r d
      rw [show (n + 1) % 11 = n % 11 + 1 by omega, show 512 * (n % 11 + 1 + 1) = 512 * (n % 11 + 1) + 512 by omega, upto_add]
      refine congrArg₂ (· + ·) (e.trans ?_) ?_
      · congr 1
        apply Fin.ext
        dsimp only
        omega
      · rfl

/-- The output block after a row block's last point. -/
theorem out_end (t : Fin cfg0.N) (h3 : t.val % 11 = 10) (r : Fin 128) (d : Fin 2048) :
    (outsAt0 m c t.val t.isLt).1 (ix2 r d)
      = argX m c (ix2 ⟨128 * (t.val / 11) + r.val, by have := pts t; omega⟩ d)
        + Cert.Layer.rms (fun d' => ∑ f : Fin 5632, term m c ⟨128 * (t.val / 11) + r.val, by have := pts t; omega⟩ d' f)
            (fun d' => argH m c (ix1 d')) d := by
  have hpt := pts t
  have h0 : ¬t.val % 11 = 0 := by omega
  have hs := fun k => scratch_at m c t.val t.isLt r k
  rw [outsAt0_C m c t h0 h0 (by omega) h3] at hs ⊢
  dsimp only at hs ⊢
  rw [scratch_last] at hs
  rw [out_last, last_apply]
  have hsum : ∀ d' : Fin 2048,
      k0_pay3 (outsAt0 m c (t.val - 1) (Nat.lt_of_le_of_lt (Nat.sub_le _ _) t.isLt)).2 (iblk m c 3 t) (iblk m c 4 t) (iblk m c 5 t)
        (outsAt0 m c (t.val - 1) (Nat.lt_of_le_of_lt (Nat.sub_le _ _) t.isLt)).1 (ix2 r d')
        = ∑ f : Fin 5632, term m c ⟨128 * (t.val / 11) + r.val, by omega⟩ d' f := fun d' => by
    rw [acc_apply, part_at m c t _ r d' _ hs, ← upto_all, show (5632 : ℕ) = 5120 + 512 by rfl, upto_add]
    have e := out_at m c (t.val - 1) (Nat.lt_of_le_of_lt (Nat.sub_le _ _) t.isLt) (by omega) r d'
    rw [show (t.val - 1) % 11 = 9 by omega] at e
    refine congrArg₂ (· + ·) (e.trans ?_) ?_
    · congr 1
      apply Fin.ext
      dsimp only
      omega
    · rw [h3]
  simp only [hsum, blkX, blkH]

/-- The array the call leaves, at an index. -/
theorem array_apply (i : S128x2048.Idx) :
    G6 m c i = argX m c (ix2 (i 0) (i 1)) + Cert.Layer.rms (fun d => ∑ f : Fin 5632, term m c (i 0) d f)
      (fun d => argH m c (ix1 d)) (i 1) := by
  have h0 : (i 0).val < 128 := (i 0).isLt
  have h1 : (i 1).val < 2048 := (i 1).isLt
  have hp : pt6Of i < cfg0.N := lt_of_lt_of_eq (by show 11 * run6Of i + 10 < 11; unfold run6Of; omega) N_0.symm
  unfold G6
  rw [dif_pos hp]
  rw [← outsAt0_sweep m c (pt6Of i) hp]
  have hl : loc6Of i = ix2 (⟨(i 0).val % 128, by omega⟩ : Fin 128) (⟨(i 1).val % 2048, by omega⟩ : Fin 2048) := by
    funext a; match a with | ⟨0, _⟩ => rfl | ⟨1, _⟩ => rfl
  rw [hl, out_end m c ⟨pt6Of i, hp⟩ (by dsimp only; unfold pt6Of run6Of; omega)]
  have e0 : (⟨128 * (pt6Of i / 11) + (i 0).val % 128, by show _ < 128; unfold pt6Of run6Of; omega⟩ : Fin 128) = i 0 :=
    Fin.ext (by dsimp only; unfold pt6Of run6Of; omega)
  have e1 : (⟨(i 1).val % 2048, by omega⟩ : Fin 2048) = i 1 := Fin.ext (by dsimp only; omega)
  dsimp only
  rw [e0, e1]

section Ref
open Cert.FfnSRefIdeal.Read

variable (x : Vec Ideal S128x2048 .f32) (g h : Vec Ideal S2048 .f32) (w : Vec Ideal S2048x11264 .f32) (o : Vec Ideal S5632x2048 .f32)

/-- The reference's hidden features. -/
theorem ref_hidden (r : Fin 128) (f : Fin 5632) :
    val_main_v17 (F := Ideal) x g w (ix2 r f)
      = Cert.Layer.gated (Cert.Layer.rms (fun j => x (ix2 r j)) (fun j => g (ix1 j))) (fun k => w (ix2 k ⟨f.val, by omega⟩))
          (fun k => w (ix2 k ⟨5632 + f.val, by omega⟩)) := by
  unfold Cert.Layer.gated Cert.Layer.rms Ideal.logistic
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_cst, val_main_cst_0, val_main_cst_1, val_main_call0_v0, val_main_call0_v1, val_main_call0_cst,
    val_main_call0_v2, val_main_call0_v3, val_main_call0_cst_0, val_main_call0_v4, val_main_call0_v5]

/-- The reference's result from its hidden features. -/
theorem ref_apply (i : S128x2048.Idx) :
    val_main_v32 (F := Ideal) x g h w o i
      = x (ix2 (i 0) (i 1)) + Cert.Layer.rms (fun d => ∑ f : Fin 5632, val_main_v17 (F := Ideal) x g w (ix2 (i 0) f) * o (ix2 f d))
          (fun d => h (ix1 d)) (i 1) := by
  unfold Cert.Layer.rms
  pointwise [val_main_v18, val_main_v19, val_main_v20, val_main_v21, val_main_v22, val_main_v23, val_main_v24, val_main_v25, val_main_v26,
    val_main_v27, val_main_v28, val_main_v29, val_main_v30, val_main_v31, val_main_v32, val_main_cst_2, val_main_cst_3,
    val_main_cst_4]

end Ref

/-- The call's array is the reference's. -/
theorem array_eq : G6 m c
    = Cert.FfnSRefIdeal.Read.val_main_v32 (F := Ideal) (argX m c) (argG m c) (argH m c) (argW m c) (argO m c) := by
  funext i
  rw [array_apply, ref_apply]
  refine congrArg (fun y => argX m c (ix2 (i 0) (i 1)) + Cert.Layer.rms y (fun d => argH m c (ix1 d)) (i 1))
    (funext fun d => Finset.sum_congr rfl fun f _ => ?_)
  unfold term Cert.Layer.term
  exact congrArg (· * argO m c (ix2 f d)) (ref_hidden _ _ _ (i 0) f).symm

end Cert.FfnSIdeal.Band

end
-- ==== Proof.KvBSBody.lean ====
/-
  The sample's normalise-and-multiply call, one grid point: at the first column the body stores the 128
  normalised rows in the scratch; at every column it leaves the scratch times the weight block in the output block.
-/
module

public import proofs.«01_k».proof.Proof.RowNorm
public import proofs.«01_k».proof.Proof.Gen.KvBSIdeal.Frame
public import Idealize.ShloMosaic.Lib.Tactic

@[expose] public section

noncomputable section

namespace Cert.KvBSIdeal.Band

open Cert.KvBSIdeal Cert.KvBSIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a2 : Memref sig .tc .vmem S128x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S128x512 .f32) (h5 : a5.IsWhole) (a6 : Memref sig .tc .vmem S128x2048 .bf16) (h6 : a6.IsWhole)
  (x0 : Vec F S128x2048 .f32) (x1 : Vec F S1x2048 .f32) (x2 : Vec F S2048x512 .bf16)

/-- First column: the scratch ends at the normalised rows. -/
theorem scratch_first (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S128x2048) hz2,
    View.ld_unit_zero (S := S1x2048) hz2]

/-- First column: the output block ends at the product of the rows just normalised with the weight block. -/
theorem out_first (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S128x2048) _ hz2]
  simp only [View.readAt_eq_ld, h2.read_unread, h3.read_unread, h4.read_unread, View.ld_unit_zero (S := S128x2048) hz2,
    View.ld_unit_zero (S := S1x2048) hz2, View.ld_unit_zero (S := S2048x512) hz2]

/-- A later column: the scratch stays, -/
theorem scratch_later (hc : ¬cond0_0 i) (xs : Vec F S128x2048 .bf16) :
    sout0_B_0 c i a2 h2 a3 h3 a4 h4 a5 h5 a6 h6 hc x0 x1 x2 xs = xs := rfl

/-- and the output block ends at the scratch times the weight block. -/
theorem out_later (hc : ¬cond0_0 i) (xs : Vec F S128x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h4.read_unread, h6.read_unread, View.ld_unit_zero (S := S128x2048) hz2,
    View.ld_unit_zero (S := S2048x512) hz2]

end Found

/-- The normalised rows, one entry. -/
theorem rows_apply (x : Vec Ideal S128x2048 .f32) (g : Vec Ideal S1x2048 .f32) (r : Fin 128) (k : Fin 2048) :
    k0_pay1 x g (ix2 r k) = Cert.Layer.rms (fun j => x (ix2 r j)) (fun j => g (ix2 0 j)) k := by
  unfold Cert.Layer.rms
  pointwise [k0_pay1]

/-- The product block, one entry. -/
theorem prod_apply (y : Vec Ideal S128x2048 .bf16) (w : Vec Ideal S2048x512 .bf16) (r : Fin 128) (l : Fin 512) :
    k0_pay2 y w (ix2 r l) = ∑ k : Fin 2048, y (ix2 r k) * w (ix2 k l) := by
  pointwise [k0_pay2]

end Cert.KvBSIdeal.Band

end
-- ==== Proof.KvBSValue.lean ====
/-
  The sample's normalise-and-multiply call, the whole array: the scratch is kept over the columns, so every
  output block is the normalised rows times the columns of the weights, and the array is the reference's product.
-/
module

public import proofs.«01_k».proof.Proof.KvBSBody
public import proofs.«01_k».proof.Proof.Gen.KvBSIdeal.Value
public import proofs.«01_k».proof.Proof.Gen.KvBSRefIdeal.Read
public import Idealize.ShloMosaic.Lib.Pipeline.ValueKit.Point

@[expose] public section

noncomputable section

namespace Cert.KvBSIdeal.Band

open Cert.KvBSIdeal Cert.KvBSIdeal.Gen Cert.KvBSIdeal.Value Idealize.ShloMosaic Idealize.ShloMosaic.TcCoe Idealize.SL.Sem

variable (m : (ℓ : Loc nD τ sig) → Buf (Elt Ideal) ℓ) (c : Dev nD)

/-- The three arguments as launched, as arrays of extended reals. -/
abbrev argX : Vec Ideal S128x2048 .f32 := m ((c : Thread nD τ).loc main_arg0)
abbrev argG : Vec Ideal S2048 .f32 := m ((c : Thread nD τ).loc main_arg1)
abbrev argW : Vec Ideal S2048x4608 .f32 := m ((c : Thread nD τ).loc main_arg2)

theorem pts (t : Fin cfg0.N) : t.val < 9 := t.isLt.trans_eq N_0

theorem idx0 : ∀ t : Fin cfg0.N, win0_0.index t (0 : Fin 2) = t.val / 9 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 9 :=
  (by decide +kernel : ∀ t : Fin grid0.N, _)

/-- The row block of a point: rows `128 * (t / 9) + r` of the stream. -/
theorem blkX (t : Fin cfg0.N) (r : Fin 128) (k : Fin 2048) :
    iblk m c 0 t (ix2 r k) = argX m c (ix2 ⟨128 * (t.val / 9) + r.val, by have := pts t; omega⟩ k) := by
  obtain ⟨e0, e1⟩ := idx0 t
  blk_ext! [iblk, V, e0, e1]

/-- The gains' block: the gains, as one row. -/
theorem blkG (t : Fin cfg0.N) (k : Fin 2048) : iblk m c 1 t (ix2 0 k) = argG m c (ix1 k) := by
  obtain ⟨e0, e1⟩ := idx1 t
  blk_ext! [iblk, V, e0, e1]

/-- The weight block of a point: columns `512 * (t % 9) + l`. -/
theorem blkW (t : Fin cfg0.N) (k : Fin 2048) (l : Fin 512) :
    iblk m c 2 t (ix2 k l) = argW m c (ix2 k ⟨512 * (t.val % 9) + l.val, by omega⟩) := by
  obtain ⟨e0, e1⟩ := idx2 t
  blk_ext! [iblk, V, e0, e1]

/-- One normalised row of the stream. -/
abbrev row (r : Fin 128) : Fin 2048 → EReal :=
  Cert.Layer.rms (fun j => argX m c (ix2 r j)) (fun j => argG m c (ix1 j))

/-- The scratch after every point: its band's normalised rows. -/
theorem scratch_at : ∀ (n : ℕ) (hn : n < cfg0.N) (r : Fin 128) (k : Fin 2048),
    (outsAt0 m c n hn).2 (ix2 r k)
      = row m c ⟨128 * (n / 9) + r.val, by have := pts ⟨n, hn⟩; simp only at this; omega⟩ k := by
  intro n
  induction n with
  | zero =>
    intro hn r k
    rw [outsAt0_A m c ⟨0, hn⟩ rfl]
    dsimp only
    rw [scratch_first, rows_apply]
    simp only [blkX, blkG]
  | succ n ih =>
    intro hn r k
    by_cases h0 : (n + 1) % 9 = 0
    · rw [outsAt0_A m c ⟨n + 1, hn⟩ h0]
      dsimp only
      rw [scratch_first, rows_apply]
      simp only [blkX, blkG]
    · rw [outsAt0_B m c ⟨n + 1, hn⟩ h0]
      dsimp only
      rw [scratch_later]
      refine (ih _ r k).trans ?_
      congr 1
      apply Fin.ext
      dsimp only
      omega

/-- The output block after every point. -/
theorem out_at (t : Fin cfg0.N) (r : Fin 128) (l : Fin 512) :
    (outsAt0 m c t.val t.isLt).1 (ix2 r l)
      = ∑ k : Fin 2048, row m c ⟨128 * (t.val / 9) + r.val, by have := pts t; omega⟩ k
          * argW m c (ix2 k ⟨512 * (t.val % 9) + l.val, by omega⟩) := by
  have hs := scratch_at m c t.val t.isLt r
  by_cases h0 : t.val % 9 = 0
  · rw [outsAt0_A m c t h0] at hs ⊢
    dsimp only at hs ⊢
    rw [out_first, prod_apply]
    rw [scratch_first] at hs
    simp only [hs, blkW]
  · rw [outsAt0_B m c t h0] at hs ⊢
    dsimp only at hs ⊢
    rw [out_later, prod_apply]
    rw [scratch_later] at hs
    simp only [hs, blkW]

/-- The array the call leaves, at an index. -/
theorem array_apply (i : S128x4608.Idx) :
    G3 m c i = ∑ k : Fin 2048, row m c (i 0) k * argW m c (ix2 k (i 1)) := by
  have h0 : (i 0).val < 128 := (i 0).isLt
  have h1 : (i 1).val < 4608 := (i 1).isLt
  have hp : pt3Of i < cfg0.N := lt_of_lt_of_eq (by show run3Of i < 9; unfold run3Of; omega) N_0.symm
  unfold G3
  rw [dif_pos hp]
  rw [← outsAt0_sweep m c (pt3Of i) hp]
  have hl : loc3Of i = ix2 (⟨(i 0).val % 128, by omega⟩ : Fin 128) (⟨(i 1).val % 512, by omega⟩ : Fin 512) := by
    funext a; match a with | ⟨0, _⟩ => rfl | ⟨1, _⟩ => rfl
  rw [hl, out_at m c ⟨pt3Of i, hp⟩]
  have e0 : (⟨128 * (pt3Of i / 9) + (i 0).val % 128, by show _ < 128; unfold pt3Of run3Of; omega⟩ : Fin 128) = i 0 :=
    Fin.ext (by dsimp only; unfold pt3Of run3Of; omega)
  have e1 : (⟨512 * (pt3Of i % 9) + (i 1).val % 512, by show _ < 4608; omega⟩ : Fin 4608) = i 1 :=
    Fin.ext (by dsimp only; unfold pt3Of run3Of; omega)
  dsimp only
  rw [e0, e1]

/-- The reference's product, at an index. -/
theorem ref_apply (x : Vec Ideal S128x2048 .f32) (g : Vec Ideal S2048 .f32) (w : Vec Ideal S2048x4608 .f32)
    (i : S128x4608.Idx) :
    Cert.KvBSRefIdeal.Read.val_main_v13 (F := Ideal) x g w i
      = ∑ k : Fin 2048, Cert.Layer.rms (fun j => x (ix2 (i 0) j)) (fun j => g (ix1 j)) k * w (ix2 k (i 1)) := by
  unfold Cert.Layer.rms
  pointwise [Cert.KvBSRefIdeal.Read.val_main_v0, Cert.KvBSRefIdeal.Read.val_main_v1, Cert.KvBSRefIdeal.Read.val_main_v2, Cert.KvBSRefIdeal.Read.val_main_v3, Cert.KvBSRefIdeal.Read.val_main_v4, Cert.KvBSRefIdeal.Read.val_main_v5, Cert.KvBSRefIdeal.Read.val_main_v6, Cert.KvBSRefIdeal.Read.val_main_v7, Cert.KvBSRefIdeal.Read.val_main_v8, Cert.KvBSRefIdeal.Read.val_main_v9, Cert.KvBSRefIdeal.Read.val_main_v10, Cert.KvBSRefIdeal.Read.val_main_v11, Cert.KvBSRefIdeal.Read.val_main_v12, Cert.KvBSRefIdeal.Read.val_main_v13, Cert.KvBSRefIdeal.Read.val_main_cst, Cert.KvBSRefIdeal.Read.val_main_cst_0, Cert.KvBSRefIdeal.Read.val_main_cst_1]

/-- The call's array is the reference's. -/
theorem array_eq :
    G3 m c = Cert.KvBSRefIdeal.Read.val_main_v13 (F := Ideal) (argX m c) (argG m c) (argW m c) := by
  funext i
  exact (array_apply m c i).trans (ref_apply _ _ _ i).symm

end Cert.KvBSIdeal.Band

end
-- ==== Proof.MlaInBody.lean ====
/-
  The latent projection, one grid point: the rows are normalised and multiplied by the padded weights; the first 512
  columns are normalised to the latent queries, the next 512 to the latent rows, and the last 128 are rotated, of
  which the first 64 are kept.
-/
module

public import proofs.«01_k».proof.Proof.RowNorm
public import proofs.«01_k».proof.Proof.Gen.MlaInIdeal.Frame
public import Idealize.ShloMosaic.Lib.Tactic
public import Idealize.ShloMosaic.Lib.KernelVsHost
public import Idealize.ShloMosaic.Lib.WordCmp
public import Idealize.ShloMosaic.Lib.Pipeline.ValueKit.Point

@[expose] public section

noncomputable section

namespace Cert.MlaInIdeal.Band

open Cert.MlaInIdeal Cert.MlaInIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a1 : Memref sig .tc .vmem S512x2048 .f32) (h1 : a1.IsWhole)
  (a2 : Memref sig .tc .vmem S1x2048 .f32) (h2 : a2.IsWhole) (a3 : Memref sig .tc .vmem S2048x1152 .bf16) (h3 : a3.IsWhole)
  (a4 : Memref sig .tc .vmem S1x512 .f32) (h4 : a4.IsWhole) (a5 : Memref sig .tc .vmem S1x512 .f32) (h5 : a5.IsWhole)
  (a6 : Memref sig .tc .vmem S512x128 .f32) (h6 : a6.IsWhole) (a7 : Memref sig .tc .vmem S512x128 .f32) (h7 : a7.IsWhole)
  (a8 : Memref sig .tc .vmem S512x512 .bf16) (h8 : a8.IsWhole) (a9 : Memref sig .tc .vmem S512x576 .f32) (h9 : a9.IsWhole)
  (x0 : Vec F S512x2048 .f32) (x1 : Vec F S1x2048 .f32) (x2 : Vec F S2048x1152 .bf16) (x3 x4 : Vec F S1x512 .f32)
  (x5 x6 : Vec F S512x128 .f32)

/-- The latent queries' block. -/
theorem queries_found :
    out0_A_7 c i a1 h1 a2 h2 a3 h3 a4 h4 a5 h5 a6 h6 a7 h7 a8 h8 a9 h9 x0 x1 x2 x3 x4 x5 x6 = k0_pay4 x0 x1 x2 x3 := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  rw [View.canon_unit_zero hz2]
  simp only [View.readAt_eq_ld, h1.read_unread, h2.read_unread, h3.read_unread, h4.read_unread,
    View.ld_unit_zero (S := S512x2048) hz2, View.ld_unit_zero (S := S1x2048) hz2, View.ld_unit_zero (S := S2048x1152) hz2,
    View.ld_unit_zero (S := S1x512) hz2]

/-- The latent rows' block: two pieces side by side. -/
theorem rows_found :
    out0_A_8 c i a1 h1 a2 h2 a3 h3 a4 h4 a5 h5 a6 h6 a7 h7 a8 h8 a9 h9 x0 x1 x2 x3 x4 x5 x6
      = View.canon (Val := Elt F) [⟨Rect.unit (s := S512x576) ![0, 512] S512x64.size inb_S512x576_S512x64_0_512, k0_pay2 (k0_pay3 x0 x1 x2) x5 x6⟩,
          ⟨Rect.unit (s := S512x576) ![0, 0] S512x512.size inb_S512x576_S512x512_0_0, k0_pay1 (k0_pay5 x0 x1 x2) x4⟩] := by
  unfold out0_A_8
  rw [View.read_writes_eq_canon _ _ _ (cover0_A_8 c i a1 h1 a2 h2 a3 h3 a4 h4 a5 h5 a6 h6 a7 h7 a8 h8 a9 h9 x0 x1 x2 x3 x4 x5 x6)]
  unfold kernelRun0_A
  dsimp only
  sl_unfold_words
  simp only [View.readAt_eq_ld, h1.read_unread, h2.read_unread, h3.read_unread, h5.read_unread, h6.read_unread, h7.read_unread,
    View.ld_unit_zero (S := S512x2048) hz2, View.ld_unit_zero (S := S1x2048) hz2, View.ld_unit_zero (S := S2048x1152) hz2,
    View.ld_unit_zero (S := S1x512) hz2, View.ld_unit_zero (S := S512x128) hz2]

/-- They, at the two kinds of column. -/
theorem canon_low (p : Vec F S512x64 .f32) (q : Vec F S512x512 .f32) (r : Fin 512) (k : Fin 512) :
    View.canon (Val := Elt F) [⟨Rect.unit (s := S512x576) ![0, 512] S512x64.size inb_S512x576_S512x64_0_512, p⟩,
      ⟨Rect.unit (s := S512x576) ![0, 0] S512x512.size inb_S512x576_S512x512_0_0, q⟩] (ix2 r ⟨k.val, by omega⟩) = q (ix2 r k) := by
  rw [View.canon_cons_of_not_mem]
  · have e : (ix2 r ⟨k.val, by omega⟩ : S512x576.Idx)
        = (Rect.unit (s := S512x576) ![0, 0] S512x512.size inb_S512x576_S512x512_0_0).emb (ix2 r k) := by
      funext a; match a with | ⟨0, _⟩ => exact Fin.ext (by show r.val = 0 + 1 * r.val; omega) | ⟨1, _⟩ => exact Fin.ext (by show k.val = 0 + 1 * k.val; omega)
    exact (congrArg _ e).trans (View.canon_cons_emb (Val := Elt F) (s := S512x576)
      (Rect.unit (s := S512x576) ![0, 0] S512x512.size inb_S512x576_S512x512_0_0) q [] (ix2 r k))
  · intro hm
    have h : 512 ≤ k.val := ((Rect.mem_set_unit (inb := inb_S512x576_S512x64_0_512)).1 hm 1).1
    omega

theorem canon_high (p : Vec F S512x64 .f32) (q : Vec F S512x512 .f32) (r : Fin 512) (l : Fin 64) :
    View.canon (Val := Elt F) [⟨Rect.unit (s := S512x576) ![0, 512] S512x64.size inb_S512x576_S512x64_0_512, p⟩,
      ⟨Rect.unit (s := S512x576) ![0, 0] S512x512.size inb_S512x576_S512x512_0_0, q⟩] (ix2 r ⟨512 + l.val, by omega⟩) = p (ix2 r l) := by
  have e : (ix2 r ⟨512 + l.val, by omega⟩ : S512x576.Idx)
      = (Rect.unit (s := S512x576) ![0, 512] S512x64.size inb_S512x576_S512x64_0_512).emb (ix2 r l) := by
    funext a; match a with | ⟨0, _⟩ => exact Fin.ext (by show r.val = 0 + 1 * r.val; omega) | ⟨1, _⟩ => exact Fin.ext (by show 512 + l.val = 512 + 1 * l.val; omega)
  rw [e]
  exact View.canon_cons_emb _ _ _ _

end Found

/-- The projection, one entry. -/
theorem proj_apply (x : Vec Ideal S512x2048 .f32) (g : Vec Ideal S1x2048 .f32) (w : Vec Ideal S2048x1152 .bf16)
    (r : Fin 512) (j : Fin 1152) :
    k0_pay3 x g w (ix2 r j)
      = ∑ k : Fin 2048, Cert.Layer.rms (fun j => x (ix2 r j)) (fun j => g (ix2 0 j)) k * w (ix2 k j) := by
  unfold Cert.Layer.rms
  pointwise [k0_pay3]

/-- The latent queries, one entry. -/
theorem queries_apply (x : Vec Ideal S512x2048 .f32) (g : Vec Ideal S1x2048 .f32) (w : Vec Ideal S2048x1152 .bf16)
    (q : Vec Ideal S1x512 .f32) (r : Fin 512) (k : Fin 512) :
    k0_pay4 x g w q (ix2 r k)
      = Cert.Layer.rms512 (fun j => k0_pay3 x g w (ix2 r ⟨j.val, by omega⟩)) (fun j => q (ix2 0 j)) k := by
  unfold Cert.Layer.rms512 k0_pay4
  generalize k0_pay3 x g w = a
  pointwise []

/-- The latent rows before the rotated part, one entry. -/
theorem latent_apply (x : Vec Ideal S512x2048 .f32) (g : Vec Ideal S1x2048 .f32) (w : Vec Ideal S2048x1152 .bf16)
    (q : Vec Ideal S1x512 .f32) (r : Fin 512) (k : Fin 512) :
    k0_pay1 (k0_pay5 x g w) q (ix2 r k)
      = Cert.Layer.rms512 (fun j => k0_pay3 x g w (ix2 r ⟨512 + j.val, by omega⟩)) (fun j => q (ix2 0 j)) k := by
  unfold Cert.Layer.rms512 k0_pay1 k0_pay5
  generalize k0_pay3 x g w = a
  pointwise []

/-- The rotated part, one entry: the partner is 32 columns away, in the other half. -/
theorem rot_apply (a : Vec Ideal S512x1152 .f32) (cs sn : Vec Ideal S512x128 .f32) (r : Fin 512) (l : Fin 64) :
    k0_pay2 a cs sn (ix2 r l)
      = a (ix2 r ⟨1024 + l.val, by omega⟩) * cs (ix2 r ⟨l.val, by omega⟩)
        + a (ix2 r ⟨1024 + (if l.val < 32 then l.val + 32 else l.val - 32), by split <;> omega⟩) * sn (ix2 r ⟨l.val, by omega⟩) := by
  pointwise [k0_pay2]
  congr 2
  have hc : IntOp.cmpi .slt (BitVec.ofNat 32 l.val) 32#32 = BitVec.ofBool (decide (l.val < 32)) :=
    WordCmp.cmpi_slt_ofNat (by omega) (by omega)
  rw [hc]
  have hl := l.isLt
  by_cases h : l.val < 32
  · simp only [h, decide_true, if_true]
    refine (?_ : _ = _)
    rw [show Scalar.select (BitVec.ofBool true) _ _ = _ from rfl]
    exact congrArg (fun z => a (ix2 r z)) (Fin.ext (by dsimp only; omega))
  · simp only [h, decide_false, if_false]
    rw [show Scalar.select (BitVec.ofBool false) _ _ = _ from rfl]
    exact congrArg (fun z => a (ix2 r z)) (Fin.ext (by dsimp only; omega))

end Cert.MlaInIdeal.Band

end
-- ==== Proof.MlaInValue.lean ====
/-
  The prompt's latent projection, the whole arrays: the latent queries and the latent rows the call leaves are the
  reference's. The tables of cosines and sines come from the host, the weights padded to 1152 columns.
-/
module

public import proofs.«01_k».proof.Proof.MlaInBody
public import proofs.«01_k».proof.Proof.Gen.MlaInIdeal.Value
public import proofs.«01_k».proof.Proof.Gen.MlaInRefIdeal.Read
public import Idealize.ShloMosaic.Lib.Pipeline.ValueKit.Point
public import Idealize.ShloMosaic.Lib.StableHlo.RunRead

@[expose] public section

noncomputable section

namespace Cert.MlaInIdeal.Band

open Cert.MlaInIdeal Cert.MlaInIdeal.Gen Cert.MlaInIdeal.Value Idealize.ShloMosaic Idealize.ShloMosaic.TcCoe Idealize.SL.Sem

variable (m : (ℓ : Loc nD τ sig) → Buf (Elt Ideal) ℓ) (c : Dev nD)

/-- The five arguments as launched, as arrays of extended reals. -/
abbrev argX : Vec Ideal S2x4096x2048 .f32 := m ((c : Thread nD τ).loc main_arg0)
abbrev argG : Vec Ideal S2048 .f32 := m ((c : Thread nD τ).loc main_arg1)
abbrev argW : Vec Ideal S2048x1088 .f32 := m ((c : Thread nD τ).loc main_arg2)
abbrev argQ : Vec Ideal S512 .f32 := m ((c : Thread nD τ).loc main_arg3)
abbrev argL : Vec Ideal S512 .f32 := m ((c : Thread nD τ).loc main_arg4)

theorem pts (t : Fin cfg0.N) : t.val < 16 := t.isLt.trans_eq N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The angles of the rows' positions, as the host computes them. -/
def angles : FVec Ideal S8192x32 .f32 :=
  mulf (broadcastInDim S8192x32 ![0, 1] bcast_S8192x1_S8192x32_0_1 (broadcastInDim S8192x1 ![0] bcast_S8192_S8192x1_0
      (sitofp .f32 (shapeCast S8192 (broadcastInDim S2x4096 ![0, 1] bcast_S1x4096_S2x4096_0_1
        (shapeCast S1x4096 (iotaInDim S4096 32 0) shapeCasts_S4096_S1x4096)) shapeCasts_S2x4096_S8192))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The padding's zeros. -/
def zeros : FVec Ideal S8192x64 .f32 := broadcastInDim S8192x64 ![] bcast_S_S8192x64 (constant S_ .f32 0x00000000#32)

theorem angles_apply (r : Fin 8192) (l : Fin 32) : angles (ix2 r l) = Cert.Layer.angle (BitVec.ofNat 32 (r.val % 4096)) l := by
  unfold Cert.Layer.angle
  pointwise [angles]

/-! ## What the host hands over -/

section Tables
variable (b : Ref sig .tc)

/-- The contents after the first `n` of the host's operations. -/
abbrev partway (n : ℕ) : Valuation τ sig (Elt Ideal) :=
  StableHlo.upto (List.flatten [hostOps0, hostOps0_1, hostOps0_2]) (fun b => m (c, b)) n

theorem entryC : V m c main_v19 = concatenate S8192x128 1 [⟨S8192x32, Host.cos (F := Ideal) angles⟩,
    ⟨S8192x32, Host.cos (F := Ideal) angles⟩, ⟨S8192x64, zeros⟩] concatenates_S8192x32_S8192x32_S8192x64_S8192x128_d1 := by
  have h : partway m c 22 main_v16 = Host.cos (F := Ideal) angles := by after_reads_simp; rfl
  have h' : partway m c 22 main_v18 = zeros := by after_reads_simp; rfl
  unfold V
  after_reads_simp
  rw [← h, ← h']
  rfl

theorem entryS : V m c main_v21 = concatenate S8192x128 1 [⟨S8192x32, Host.negf (F := Ideal) (Host.sin angles)⟩,
    ⟨S8192x32, Host.sin (F := Ideal) angles⟩, ⟨S8192x64, zeros⟩] concatenates_S8192x32_S8192x32_S8192x64_S8192x128_d1 := by
  have h : partway m c 24 main_v20 = Host.negf (F := Ideal) (Host.sin angles) := by after_reads_simp; rfl
  have h₁ : partway m c 24 main_v17 = Host.sin (F := Ideal) angles := by after_reads_simp; rfl
  have h' : partway m c 24 main_v18 = zeros := by after_reads_simp; rfl
  unfold V
  after_reads_simp
  rw [← h, ← h₁, ← h']
  rfl

theorem entryW : V m c main_v28 = truncf .bf16 (concatenate S2048x1152 1
    [⟨S2048x1024, extractStridedSlice S2048x1024 ![0, 0] (argW m c) slices_S2048x1088_S2048x1024_0_0⟩,
     ⟨S2048x128, pad S2048x128 ![0, 0] ![0, 64] ![0, 0]
        (extractStridedSlice S2048x64 ![0, 1024] (argW m c) slices_S2048x1088_S2048x64_0_1024)
        (sitofp (F := Ideal) .f32 (constantI S_ 32 0#32)) pads_S2048x64_S2048x128_000_0640 h_S_⟩]
    concatenates_S2048x1024_S2048x128_S2048x1152_d1) bitsLt_bf16_f32 := by
  unfold V
  after_reads_simp
  rfl

theorem entryX : V m c main_v22 = shapeCast S8192x2048 (argX m c) shapeCasts_S2x4096x2048_S8192x2048 := by
  unfold V
  after_reads_simp
  rfl
theorem entryG : V m c main_v23 = shapeCast S1x2048 (argG m c) shapeCasts_S2048_S1x2048 := by
  unfold V
  after_reads_simp
  rfl
theorem entryQ : V m c main_v29 = shapeCast S1x512 (argQ m c) shapeCasts_S512_S1x512 := by
  unfold V
  after_reads_simp
  rfl
theorem entryL : V m c main_v30 = shapeCast S1x512 (argL m c) shapeCasts_S512_S1x512 := by
  unfold V
  after_reads_simp
  rfl

end Tables

/-- A table's entry: three pieces side by side, of which only the first two are looked at. -/
theorem table_apply (p q : FVec Ideal S8192x32 .f32) (z : FVec Ideal S8192x64 .f32) (r : Fin 8192) (l : Fin 64) :
    concatenate S8192x128 1 [⟨S8192x32, p⟩, ⟨S8192x32, q⟩, ⟨S8192x64, z⟩] concatenates_S8192x32_S8192x32_S8192x64_S8192x128_d1
        (ix2 r ⟨l.val, by omega⟩)
      = if l.val < 32 then p (ix2 r ⟨l.val % 32, by omega⟩) else q (ix2 r ⟨l.val % 32, by omega⟩) := by
  have hl := l.isLt
  split
  · exact concatenate_apply_piece (t := S8192x128) 1 _ _ _ 0 (by show 0 < 3; omega) S8192x32 p rfl rfl 0 rfl (ix2 r ⟨l.val % 32, by omega⟩)
      (fun b hb => by match b with | ⟨0, _⟩ => rfl | ⟨1, _⟩ => exact absurd rfl hb)
      (by show 0 + l.val % 32 = l.val; omega)
  · exact concatenate_apply_piece (t := S8192x128) 1 _ _ _ 1 (by show 1 < 3; omega) S8192x32 q rfl rfl 32 rfl (ix2 r ⟨l.val % 32, by omega⟩)
      (fun b hb => by match b with | ⟨0, _⟩ => rfl | ⟨1, _⟩ => exact absurd rfl hb)
      (by show 32 + l.val % 32 = l.val; omega)

/-- The padded weights of any weights, where they are the weights. -/
theorem padded_apply (w : FVec Ideal S2048x1088 .f32) (z : FVec Ideal S_ .f32) (k : Fin 2048) (j : Fin 1088) :
    concatenate S2048x1152 1
      [⟨S2048x1024, extractStridedSlice S2048x1024 ![0, 0] w slices_S2048x1088_S2048x1024_0_0⟩,
       ⟨S2048x128, pad S2048x128 ![0, 0] ![0, 64] ![0, 0]
          (extractStridedSlice S2048x64 ![0, 1024] w slices_S2048x1088_S2048x64_0_1024) z pads_S2048x64_S2048x128_000_0640 h_S_⟩]
      concatenates_S2048x1024_S2048x128_S2048x1152_d1 (ix2 k ⟨j.val, by omega⟩) = w (ix2 k j) := by
  have hj := j.isLt
  by_cases h : j.val < 1024
  · refine (concatenate_pair_apply_left (t := S2048x1152) (s₁ := S2048x1024) (s₂ := S2048x128) 1 _ _ _ _ rfl (ix2 k ⟨j.val, h⟩)
      (fun b => by match b with | ⟨0, _⟩ => rfl | ⟨1, _⟩ => rfl)).trans ?_
    refine extractStridedSlice_apply ![0, 0] _ _ _ (ix2 k j) (fun a => ?_)
    match a with
    | ⟨0, _⟩ => show k.val = 0 + k.val; omega
    | ⟨1, _⟩ => show j.val = 0 + j.val; omega
  · refine (concatenate_pair_apply_right (t := S2048x1152) (s₁ := S2048x1024) (s₂ := S2048x128) 1 _ _ _ _ rfl rfl (ix2 k ⟨j.val - 1024, by omega⟩)
      (fun b hb => by match b with | ⟨0, _⟩ => rfl | ⟨1, _⟩ => exact absurd rfl hb) (by show j.val - 1024 + 1024 = j.val; omega)).trans ?_
    refine (pad_apply_of_inside (s := S2048x64) _ _ _ _ _ _ _ _ (ix2 k ⟨j.val - 1024, by omega⟩) (fun a => by
      match a with
      | ⟨0, _⟩ => show k.val = 0 + k.val * 1; omega
      | ⟨1, _⟩ => show j.val - 1024 = 0 + (j.val - 1024) * 1; omega)).trans ?_
    refine extractStridedSlice_apply ![0, 1024] _ _ _ (ix2 k j) (fun a => ?_)
    match a with
    | ⟨0, _⟩ => show k.val = 0 + k.val; omega
    | ⟨1, _⟩ => show j.val = 1024 + (j.val - 1024); omega

/-- The weights the host hands over. -/
theorem weights_apply (k : Fin 2048) (j : Fin 1088) : V m c main_v28 (ix2 k ⟨j.val, by omega⟩) = argW m c (ix2 k j) := by
  rw [entryW]
  exact padded_apply (argW m c) _ k j

/-! ## The blocks -/

/-- The row block of a point: rows `512 * t + r` of the stream. -/
abbrev rowOf (t : Fin cfg0.N) (r : Fin 512) : Fin 8192 := ⟨512 * t.val + r.val, by have := pts t; omega⟩

/-- A row of the stream: the two sequences one after the other. -/
abbrev xrow (r : Fin 8192) (k : Fin 2048) : EReal := argX m c (ix3 ⟨r.val / 4096, by omega⟩ ⟨r.val % 4096, by omega⟩ k)

theorem blkX (t : Fin cfg0.N) (r : Fin 512) (k : Fin 2048) : iblk m c 0 t (ix2 r k) = xrow m c (rowOf t r) k := by
  obtain ⟨e0, e1⟩ := idx0 t
  refine (congrArg (V m c main_v22) (?_ : _ = (ix2 (rowOf t r) k : S8192x2048.Idx))).trans ?_
  · funext a
    match a with
    | ⟨0, _⟩ => exact Fin.ext (by show win0_0.index t (0 : Fin 2) * 512 + 1 * r.val = 512 * t.val + r.val; rw [e0]; omega)
    | ⟨1, _⟩ => exact Fin.ext (by show win0_0.index t (1 : Fin 2) * 2048 + 1 * k.val = k.val; rw [e1]; omega)
  rw [entryX]
  pointwise []

theorem blkG (t : Fin cfg0.N) (k : Fin 2048) : iblk m c 1 t (ix2 0 k) = argG m c (ix1 k) := by
  obtain ⟨e0, e1⟩ := idx1 t
  refine (congrArg (V m c main_v23) (?_ : _ = (ix2 0 k : S1x2048.Idx))).trans ?_
  · funext a
    match a with
    | ⟨0, _⟩ => exact Fin.ext (by show win0_1.index t (0 : Fin 2) * 1 + 1 * 0 = 0; rw [e0])
    | ⟨1, _⟩ => exact Fin.ext (by show win0_1.index t (1 : Fin 2) * 2048 + 1 * k.val = k.val; rw [e1]; omega)
  rw [entryG]
  pointwise []

theorem blkQ (t : Fin cfg0.N) (k : Fin 512) : iblk m c 3 t (ix2 0 k) = argQ m c (ix1 k) := by
  obtain ⟨e0, e1⟩ := idx3 t
  refine (congrArg (V m c main_v29) (?_ : _ = (ix2 0 k : S1x512.Idx))).trans ?_
  · funext a
    match a with
    | ⟨0, _⟩ => exact Fin.ext (by show win0_3.index t (0 : Fin 2) * 1 + 1 * 0 = 0; rw [e0])
    | ⟨1, _⟩ => exact Fin.ext (by show win0_3.index t (1 : Fin 2) * 512 + 1 * k.val = k.val; rw [e1]; omega)
  rw [entryQ]
  pointwise []

theorem blkL (t : Fin cfg0.N) (k : Fin 512) : iblk m c 4 t (ix2 0 k) = argL m c (ix1 k) := by
  obtain ⟨e0, e1⟩ := idx4 t
  refine (congrArg (V m c main_v30) (?_ : _ = (ix2 0 k : S1x512.Idx))).trans ?_
  · funext a
    match a with
    | ⟨0, _⟩ => exact Fin.ext (by show win0_4.index t (0 : Fin 2) * 1 + 1 * 0 = 0; rw [e0])
    | ⟨1, _⟩ => exact Fin.ext (by show win0_4.index t (1 : Fin 2) * 512 + 1 * k.val = k.val; rw [e1]; omega)
  rw [entryL]
  pointwise []

theorem blkW (t : Fin cfg0.N) (k : Fin 2048) (j : Fin 1088) :
    iblk m c 2 t (ix2 k ⟨j.val, by omega⟩) = argW m c (ix2 k j) := by
  obtain ⟨e0, e1⟩ := idx2 t
  refine (congrArg (V m c main_v28) (?_ : _ = (ix2 k ⟨j.val, by omega⟩ : S2048x1152.Idx))).trans (weights_apply m c k j)
  funext a
  match a with
  | ⟨0, _⟩ => exact Fin.ext (by show win0_2.index t (0 : Fin 2) * 2048 + 1 * k.val = k.val; rw [e0]; omega)
  | ⟨1, _⟩ => exact Fin.ext (by show win0_2.index t (1 : Fin 2) * 1152 + 1 * j.val = j.val; rw [e1]; omega)

/-- The cosines and sines of a row. -/
abbrev cosOf (r : Fin 8192) (l : Fin 32) : EReal := Ideal.cos (Cert.Layer.angle (BitVec.ofNat 32 (r.val % 4096)) l)
abbrev sinOf (r : Fin 8192) (l : Fin 32) : EReal := Ideal.sin (Cert.Layer.angle (BitVec.ofNat 32 (r.val % 4096)) l)

theorem blkC (t : Fin cfg0.N) (r : Fin 512) (l : Fin 64) :
    iblk m c 5 t (ix2 r ⟨l.val, by omega⟩) = cosOf (rowOf t r) ⟨l.val % 32, by omega⟩ := by
  obtain ⟨e0, e1⟩ := idx5 t
  refine (congrArg (V m c main_v19) (?_ : _ = (ix2 (rowOf t r) ⟨l.val, by omega⟩ : S8192x128.Idx))).trans ?_
  · funext a
    match a with
    | ⟨0, _⟩ => exact Fin.ext (by show win0_5.index t (0 : Fin 2) * 512 + 1 * r.val = 512 * t.val + r.val; rw [e0]; omega)
    | ⟨1, _⟩ => exact Fin.ext (by show win0_5.index t (1 : Fin 2) * 128 + 1 * l.val = l.val; rw [e1]; omega)
  rw [entryC, table_apply, ite_self]
  exact congrArg Ideal.cos (angles_apply _ _)

theorem blkS (t : Fin cfg0.N) (r : Fin 512) (l : Fin 64) :
    iblk m c 6 t (ix2 r ⟨l.val, by omega⟩)
      = if l.val < 32 then -sinOf (rowOf t r) ⟨l.val % 32, by omega⟩ else sinOf (rowOf t r) ⟨l.val % 32, by omega⟩ := by
  obtain ⟨e0, e1⟩ := idx6 t
  refine (congrArg (V m c main_v21) (?_ : _ = (ix2 (rowOf t r) ⟨l.val, by omega⟩ : S8192x128.Idx))).trans ?_
  · funext a
    match a with
    | ⟨0, _⟩ => exact Fin.ext (by show win0_6.index t (0 : Fin 2) * 512 + 1 * r.val = 512 * t.val + r.val; rw [e0]; omega)
    | ⟨1, _⟩ => exact Fin.ext (by show win0_6.index t (1 : Fin 2) * 128 + 1 * l.val = l.val; rw [e1]; omega)
  rw [entryS, table_apply]
  have e := congrArg Ideal.sin (angles_apply (rowOf t r) ⟨l.val % 32, by omega⟩)
  split
  · exact congrArg (fun z : EReal => -z) e
  · exact e

/-! ## The rows -/

/-- A row's projection. -/
def proj (r : Fin 8192) (j : Fin 1088) : EReal :=
  ∑ k : Fin 2048, Cert.Layer.rms (xrow m c r) (fun j => argG m c (ix1 j)) k * argW m c (ix2 k j)

/-- A row's latent query, its latent part and its turned part. -/
abbrev query (r : Fin 8192) : Fin 512 → EReal :=
  Cert.Layer.rms512 (fun j => proj m c r ⟨j.val, by omega⟩) (fun j => argQ m c (ix1 j))
abbrev latent (r : Fin 8192) : Fin 512 → EReal :=
  Cert.Layer.rms512 (fun j => proj m c r ⟨512 + j.val, by omega⟩) (fun j => argL m c (ix1 j))
abbrev turn (r : Fin 8192) : Fin 64 → EReal :=
  Cert.Layer.turned (fun j => proj m c r ⟨1024 + j.val, by omega⟩) (cosOf r) (sinOf r)

/-- The two arrays of all the rows. -/
def G7 : Vec Ideal S8192x512 .bf16 := fun i => query m c (i 0) (i 1)
def G8 : Vec Ideal S8192x576 .f32 := fun i =>
  if h : (i 1).val < 512 then latent m c (i 0) ⟨(i 1).val, h⟩
  else turn m c (i 0) ⟨(i 1).val - 512, by have : (i 1).val < 576 := (i 1).isLt; omega⟩

theorem proj_at (t : Fin cfg0.N) (r : Fin 512) (j : Fin 1088) :
    k0_pay3 (iblk m c 0 t) (iblk m c 1 t) (iblk m c 2 t) (ix2 r ⟨j.val, by omega⟩) = proj m c (rowOf t r) j := by
  rw [proj_apply]
  unfold proj
  refine Finset.sum_congr rfl fun k _ => ?_
  rw [blkW]
  simp only [blkX, blkG]

/-- The queries' block of a point. -/
theorem queries_at (t : Fin cfg0.N) (r k : Fin 512) :
    k0_pay4 (iblk m c 0 t) (iblk m c 1 t) (iblk m c 2 t) (iblk m c 3 t) (ix2 r k) = query m c (rowOf t r) k := by
  rw [queries_apply]
  unfold query
  congr 1
  · funext j; exact proj_at m c t r ⟨j.val, by omega⟩
  · funext j; exact blkQ m c t j

/-- The latent rows' block of a point, its two parts. -/
theorem latent_at (t : Fin cfg0.N) (r k : Fin 512) :
    k0_pay1 (k0_pay5 (iblk m c 0 t) (iblk m c 1 t) (iblk m c 2 t)) (iblk m c 4 t) (ix2 r k) = latent m c (rowOf t r) k := by
  rw [latent_apply]
  unfold latent
  congr 1
  · funext j; exact proj_at m c t r ⟨512 + j.val, by omega⟩
  · funext j; exact blkL m c t j

theorem turn_at (t : Fin cfg0.N) (r : Fin 512) (l : Fin 64) :
    k0_pay2 (k0_pay3 (iblk m c 0 t) (iblk m c 1 t) (iblk m c 2 t)) (iblk m c 5 t) (iblk m c 6 t) (ix2 r l)
      = turn m c (rowOf t r) l := by
  rw [rot_apply]
  have e := proj_at m c t r ⟨1024 + l.val, by omega⟩
  refine (congrArg₂ (· + ·) (congrArg (· * _) e) rfl).trans ?_
  exact Cert.Layer.turned_eq (fun j => proj m c (rowOf t r) ⟨1024 + j.val, by omega⟩) _ _ l _ _ _ (blkC m c t r l) (blkS m c t r l)
    (proj_at m c t r ⟨1024 + (if l.val < 32 then l.val + 32 else l.val - 32), by split <;> omega⟩)

/-! ## The arrays -/

theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- The blocks a point writes back are its blocks of the arrays. -/
theorem flushed7_eq (t : Fin cfg0.N) :
    (dats m 0 c).flushed 7 t = ((cfg0.win 7).blk t).view.read (Elt Ideal) (G7 m c) := by
  rw [flushed7_A, queries_found]
  funext y
  have h0 : (y 0).val < 512 := (y 0).isLt
  have h1 : (y 1).val < 512 := (y 1).isLt
  obtain ⟨e0, e1⟩ := idx7 t
  refine Eq.trans (Eq.trans (congrArg _ ?_) (queries_at m c t ⟨(y 0).val, h0⟩ ⟨(y 1).val, h1⟩)) ?_
  · funext a
    match a with
    | ⟨0, _⟩ => rfl
    | ⟨1, _⟩ => rfl
  show _ = G7 m c (((cfg0.win 7).blk t).view.emb y)
  unfold G7
  congr 1 <;> apply Fin.ext
  · show 512 * t.val + (y 0).val = win0_7.index t (0 : Fin 2) * 512 + 1 * (y 0).val
    rw [e0]; omega
  · show (y 1).val = win0_7.index t (1 : Fin 2) * 512 + 1 * (y 1).val
    rw [e1]; omega

theorem flushed8_eq (t : Fin cfg0.N) :
    (dats m 0 c).flushed 8 t = ((cfg0.win 8).blk t).view.read (Elt Ideal) (G8 m c) := by
  rw [flushed8_A, rows_found]
  funext y
  have h0 : (y 0).val < 512 := (y 0).isLt
  have h1 : (y 1).val < 576 := (y 1).isLt
  obtain ⟨e0, e1⟩ := idx8 t
  have hp := pts t
  have g0 : (((cfg0.win 8).blk t).view.emb y 0).val = 512 * t.val + (y 0).val := by
    show win0_8.index t (0 : Fin 2) * 512 + 1 * (y 0).val = _
    rw [e0]; omega
  have g1 : (((cfg0.win 8).blk t).view.emb y 1).val = (y 1).val := by
    show win0_8.index t (1 : Fin 2) * 576 + 1 * (y 1).val = _
    rw [e1]; omega
  show _ = G8 m c (((cfg0.win 8).blk t).view.emb y)
  have hr : ((cfg0.win 8).blk t).view.emb y 0 = rowOf t ⟨(y 0).val, h0⟩ := Fin.ext g0
  by_cases h : (y 1).val < 512
  · refine Eq.trans (Eq.trans (congrArg _ ?_) ((canon_low _ _ ⟨(y 0).val, h0⟩ ⟨(y 1).val, h⟩).trans (latent_at m c t ⟨(y 0).val, h0⟩ ⟨(y 1).val, h⟩))) ?_
    · funext a
      match a with
      | ⟨0, _⟩ => rfl
      | ⟨1, _⟩ => rfl
    unfold G8
    rw [dif_pos (lt_of_eq_of_lt g1 h)]
    exact congrArg₂ (latent m c) hr.symm (Fin.ext g1.symm)
  · refine Eq.trans (Eq.trans (congrArg _ ?_) ((canon_high _ _ ⟨(y 0).val, h0⟩ ⟨(y 1).val - 512, by omega⟩).trans (turn_at m c t ⟨(y 0).val, h0⟩ ⟨(y 1).val - 512, by omega⟩))) ?_
    · funext a
      match a with
      | ⟨0, _⟩ => rfl
      | ⟨1, _⟩ => exact Fin.ext (by show (y 1).val = 512 + ((y 1).val - 512); omega)
    unfold G8
    rw [dif_neg (by rw [g1]; exact h)]
    exact congrArg₂ (turn m c) hr.symm (Fin.ext (by show (y 1).val - 512 = _ - 512; rw [g1]))

/-- The arrays the call leaves. -/
theorem arr7_eq : (dats m 0 c).arrAt 7 cfg0.N = G7 m c :=
  (dats m 0 c).arrAt_eq_of_cover 7 (G7 m c) (fun t _ => flushed7_eq m c t) (fun i => by
    have h0 : (i 0).val < 8192 := (i 0).isLt
    have h1 : (i 1).val < 512 := (i 1).isLt
    have hN : (i 0).val / 512 < cfg0.N := lt_of_lt_of_eq (by show _ < 16; omega) N_0.symm
    obtain ⟨t, ht⟩ : ∃ t : Fin cfg0.N, t.val = (i 0).val / 512 := ⟨⟨_, hN⟩, rfl⟩
    refine ⟨t, (by decide +kernel : ∀ t : Fin grid0.N, win0_7.flush t = true) t, ?_⟩
    have hm : i ∈ ((View.whole main_v31_0).slice (win0_7.rect t)).set
        ↔ ∀ a : Fin 2, win0_7.index t a * S512x512.size a ≤ (i a).val ∧ (i a).val < win0_7.index t a * S512x512.size a + S512x512.size a := by
      rw [View.set_slice_whole, Rect.mem_set_unit]; exact Iff.rfl
    refine hm.mpr fun a => ?_
    obtain ⟨e0, e1⟩ := idx7 t
    match a with
    | ⟨0, _⟩ =>
      show win0_7.index t (0 : Fin 2) * 512 ≤ (i 0).val ∧ (i 0).val < win0_7.index t (0 : Fin 2) * 512 + 512
      rw [e0]; omega
    | ⟨1, _⟩ =>
      show win0_7.index t (1 : Fin 2) * 512 ≤ (i 1).val ∧ (i 1).val < win0_7.index t (1 : Fin 2) * 512 + 512
      rw [e1]; omega)

theorem arr8_eq : (dats m 0 c).arrAt 8 cfg0.N = G8 m c :=
  (dats m 0 c).arrAt_eq_of_cover 8 (G8 m c) (fun t _ => flushed8_eq m c t) (fun i => by
    have h0 : (i 0).val < 8192 := (i 0).isLt
    have h1 : (i 1).val < 576 := (i 1).isLt
    have hN : (i 0).val / 512 < cfg0.N := lt_of_lt_of_eq (by show _ < 16; omega) N_0.symm
    obtain ⟨t, ht⟩ : ∃ t : Fin cfg0.N, t.val = (i 0).val / 512 := ⟨⟨_, hN⟩, rfl⟩
    refine ⟨t, (by decide +kernel : ∀ t : Fin grid0.N, win0_8.flush t = true) t, ?_⟩
    have hm : i ∈ ((View.whole main_v31_1).slice (win0_8.rect t)).set
        ↔ ∀ a : Fin 2, win0_8.index t a * S512x576.size a ≤ (i a).val ∧ (i a).val < win0_8.index t a * S512x576.size a + S512x576.size a := by
      rw [View.set_slice_whole, Rect.mem_set_unit]; exact Iff.rfl
    refine hm.mpr fun a => ?_
    obtain ⟨e0, e1⟩ := idx8 t
    match a with
    | ⟨0, _⟩ =>
      show win0_8.index t (0 : Fin 2) * 512 ≤ (i 0).val ∧ (i 0).val < win0_8.index t (0 : Fin 2) * 512 + 512
      rw [e0]; omega
    | ⟨1, _⟩ =>
      show win0_8.index t (1 : Fin 2) * 576 ≤ (i 1).val ∧ (i 1).val < win0_8.index t (1 : Fin 2) * 576 + 576
      rw [e1]; omega)

end Cert.MlaInIdeal.Band

end
-- ==== Proof.MlaInRef.lean ====
/-
  The prompt's latent projection, the reference's two arrays row by row: the queries, the latent rows and the turned
  columns are those of `MlaInValue`.
-/
module

public import proofs.«01_k».proof.Proof.MlaInValue

@[expose] public section

noncomputable section

namespace Cert.MlaInIdeal.Band

open Cert.MlaInIdeal Idealize.ShloMosaic Idealize.ShloMosaic.TcCoe Idealize.SL.Sem Cert.MlaInRefIdeal.Read
open Cert.MlaInRefIdeal (S2x4096x576 S2x4096x512 S2x4096x64 S2x4096x32)

variable (m : (ℓ : Loc nD τ sig) → Buf (Elt Ideal) ℓ) (c : Dev nD)

/-- The reference's projection, one entry. -/
theorem ref_proj (r : Fin 8192) (j : Fin 1088) :
    val_main_v14 (F := Ideal) (argX m c) (argG m c) (argW m c) (ix3 ⟨r.val / 4096, by omega⟩ ⟨r.val % 4096, by omega⟩ j) = proj m c r j := by
  unfold proj Cert.Layer.rms
  pointwise [val_main_v1, val_main_cst, val_main_v2, val_main_v3, val_main_cst_0, val_main_v4, val_main_v5, val_main_cst_1, val_main_v6, val_main_v7, val_main_v8, val_main_v9, val_main_v10, val_main_v11, val_main_v12, val_main_v13, val_main_v14]

theorem ref_query (r : Fin 8192) (k : Fin 512) :
    val_main_v75 (F := Ideal) (argX m c) (argG m c) (argW m c) (argQ m c) (ix3 ⟨r.val / 4096, by omega⟩ ⟨r.val % 4096, by omega⟩ k) = query m c r k := by
  unfold query Cert.Layer.rms512
  simp only [← ref_proj]
  pointwise [val_main_v62, val_main_v63, val_main_cst_7, val_main_v64, val_main_v65, val_main_cst_8, val_main_v66, val_main_v67, val_main_cst_9, val_main_v68, val_main_v69, val_main_v70, val_main_v71, val_main_v72, val_main_v73, val_main_v74, val_main_v75]

theorem ref_latent (r : Fin 8192) (k : Fin 512) :
    val_main_v28 (F := Ideal) (argX m c) (argG m c) (argW m c) (argL m c) (ix3 ⟨r.val / 4096, by omega⟩ ⟨r.val % 4096, by omega⟩ k) = latent m c r k := by
  unfold latent Cert.Layer.rms512
  simp only [← ref_proj]
  pointwise [val_main_v15, val_main_v16, val_main_cst_2, val_main_v17, val_main_v18, val_main_cst_3, val_main_v19, val_main_v20, val_main_cst_4, val_main_v21, val_main_v22, val_main_v23, val_main_v24, val_main_v25, val_main_v26, val_main_v27, val_main_v28]

theorem ref_angle (p : Fin 4096) (l : Fin 32) :
    val_main_v41 (F := Ideal) (ix2 p l) = Cert.Layer.angle (BitVec.ofNat 32 p.val) l := by
  unfold Cert.Layer.angle
  pointwise [val_main_v30, val_main_v31, val_main_cst_5, val_main_v32, val_main_v33, val_main_cst_6, val_main_v34, val_main_v35, val_main_v36, val_main_v37, val_main_v38, val_main_v39, val_main_v40, val_main_v41, val_main_v0]

theorem ref_first (r : Fin 8192) (l : Fin 32) :
    val_main_v52 (F := Ideal) (argX m c) (argG m c) (argW m c) (ix3 ⟨r.val / 4096, by omega⟩ ⟨r.val % 4096, by omega⟩ l)
      = proj m c r ⟨1024 + l.val, by omega⟩ * cosOf r l - proj m c r ⟨1024 + (32 + l.val), by omega⟩ * sinOf r l := by
  unfold cosOf sinOf
  simp only [← ref_proj, ← ref_angle ⟨r.val % 4096, by omega⟩ l]
  pointwise [val_main_v42, val_main_v43, val_main_v44, val_main_v45, val_main_v46, val_main_v47, val_main_v48, val_main_v49, val_main_v50, val_main_v51, val_main_v52, val_main_v29]

theorem ref_second (r : Fin 8192) (l : Fin 32) :
    val_main_v59 (F := Ideal) (argX m c) (argG m c) (argW m c) (ix3 ⟨r.val / 4096, by omega⟩ ⟨r.val % 4096, by omega⟩ l)
      = proj m c r ⟨1024 + l.val, by omega⟩ * sinOf r l + proj m c r ⟨1024 + (32 + l.val), by omega⟩ * cosOf r l := by
  unfold cosOf sinOf
  simp only [← ref_proj, ← ref_angle ⟨r.val % 4096, by omega⟩ l]
  pointwise [val_main_v42, val_main_v43, val_main_v44, val_main_v45, val_main_v53, val_main_v54, val_main_v55, val_main_v56, val_main_v57, val_main_v58, val_main_v59, val_main_v29]

theorem ref_turn (r : Fin 8192) (l : Fin 64) :
    val_main_v60 (F := Ideal) (argX m c) (argG m c) (argW m c) (ix3 ⟨r.val / 4096, by omega⟩ ⟨r.val % 4096, by omega⟩ l) = turn m c r l := by
  have hl := l.isLt
  unfold turn Cert.Layer.turned
  by_cases h : l.val < 32
  · rw [dif_pos h]
    have e : (⟨1024 + (32 + l.val), by omega⟩ : Fin 1088) = ⟨1024 + (l.val + 32), by omega⟩ := Fin.ext (by dsimp only; omega)
    refine Eq.trans ?_ ((ref_first m c r ⟨l.val, h⟩).trans (by rw [e]))
    exact concatenate_pair_apply_left (t := S2x4096x64) (s₁ := S2x4096x32) (s₂ := S2x4096x32) 2 _ _ _ _ rfl
      (ix3 ⟨r.val / 4096, by omega⟩ ⟨r.val % 4096, by omega⟩ ⟨l.val, h⟩)
      (fun b => by match b with | ⟨0, _⟩ => rfl | ⟨1, _⟩ => rfl | ⟨2, _⟩ => rfl)
  · rw [dif_neg h]
    have e : (⟨1024 + (32 + (l.val - 32)), by omega⟩ : Fin 1088) = ⟨1024 + l.val, by omega⟩ := Fin.ext (by dsimp only; omega)
    refine Eq.trans ?_ ((ref_second m c r ⟨l.val - 32, by omega⟩).trans (by rw [e]))
    exact concatenate_pair_apply_right (t := S2x4096x64) (s₁ := S2x4096x32) (s₂ := S2x4096x32) 2 _ _ _ _ rfl rfl
      (ix3 ⟨r.val / 4096, by omega⟩ ⟨r.val % 4096, by omega⟩ ⟨l.val - 32, by omega⟩)
      (fun b hb => by match b with | ⟨0, _⟩ => rfl | ⟨1, _⟩ => rfl | ⟨2, _⟩ => exact absurd rfl hb)
      (by show l.val - 32 + 32 = l.val; omega)

/-- The reference's queries. -/
theorem ref7_eq : val_main_v77 (F := Ideal) (argX m c) (argG m c) (argW m c) (argQ m c) = G7 m c := by
  funext i
  refine Eq.trans ?_ (ref_query m c (i 0) (i 1))
  pointwise [val_main_v77, val_main_v76]

/-- The reference's rows. -/
theorem ref8_eq : val_main_v78 (F := Ideal) (argX m c) (argG m c) (argW m c) (argL m c) = G8 m c := by
  funext i
  have h1 : (i 1).val < 576 := (i 1).isLt
  have h0 : (i 0).val < 8192 := (i 0).isLt
  have e : val_main_v78 (F := Ideal) (argX m c) (argG m c) (argW m c) (argL m c) i
      = val_main_v61 (F := Ideal) (argX m c) (argG m c) (argW m c) (argL m c)
          (ix3 ⟨(i 0).val / 4096, by omega⟩ ⟨(i 0).val % 4096, by omega⟩ ⟨(i 1).val, h1⟩) := by
    pointwise [val_main_v78]
  rw [e]
  unfold G8
  by_cases h : (i 1).val < 512
  · rw [dif_pos h]
    refine Eq.trans ?_ (ref_latent m c (i 0) ⟨(i 1).val, h⟩)
    exact concatenate_pair_apply_left (t := S2x4096x576) (s₁ := S2x4096x512) (s₂ := S2x4096x64) 2 _ _ _ _ rfl
      (ix3 ⟨(i 0).val / 4096, by omega⟩ ⟨(i 0).val % 4096, by omega⟩ ⟨(i 1).val, h⟩)
      (fun b => by match b with | ⟨0, _⟩ => rfl | ⟨1, _⟩ => rfl | ⟨2, _⟩ => rfl)
  · rw [dif_neg h]
    refine Eq.trans ?_ (ref_turn m c (i 0) ⟨(i 1).val - 512, by omega⟩)
    exact concatenate_pair_apply_right (t := S2x4096x576) (s₁ := S2x4096x512) (s₂ := S2x4096x64) 2 _ _ _ _ rfl rfl
      (ix3 ⟨(i 0).val / 4096, by omega⟩ ⟨(i 0).val % 4096, by omega⟩ ⟨(i 1).val - 512, by omega⟩)
      (fun b hb => by match b with | ⟨0, _⟩ => rfl | ⟨1, _⟩ => rfl | ⟨2, _⟩ => exact absurd rfl hb)
      (by show (i 1).val - 512 + 512 = (i 1).val; omega)

end Cert.MlaInIdeal.Band

end
-- ==== Proof.MlaInSBody.lean ====
/-
  The sample's latent projection, one grid point of 128 rows: the rows are normalised and multiplied by the padded weights; the first 512
  columns are normalised to the latent queries, the next 512 to the latent rows, and the last 128 are rotated, of
  which the first 64 are kept.
-/
module

public import proofs.«01_k».proof.Proof.RowNorm
public import proofs.«01_k».proof.Proof.Gen.MlaInSIdeal.Frame
public import Idealize.ShloMosaic.Lib.Tactic
public import Idealize.ShloMosaic.Lib.KernelVsHost
public import Idealize.ShloMosaic.Lib.WordCmp
public import Idealize.ShloMosaic.Lib.Pipeline.ValueKit.Point

@[expose] public section

noncomputable section

namespace Cert.MlaInSIdeal.Band

open Cert.MlaInSIdeal Cert.MlaInSIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a1 : Memref sig .tc .vmem S128x2048 .f32) (h1 : a1.IsWhole)
  (a2 : Memref sig .tc .vmem S1x2048 .f32) (h2 : a2.IsWhole) (a3 : Memref sig .tc .vmem S2048x1152 .bf16) (h3 : a3.IsWhole)
  (a4 : Memref sig .tc .vmem S1x512 .f32) (h4 : a4.IsWhole) (a5 : Memref sig .tc .vmem S1x512 .f32) (h5 : a5.IsWhole)
  (a6 : Memref sig .tc .vmem S128x128 .f32) (h6 : a6.IsWhole) (a7 : Memref sig .tc .vmem S128x128 .f32) (h7 : a7.IsWhole)
  (a8 : Memref sig .tc .vmem S128x512 .bf16) (h8 : a8.IsWhole) (a9 : Memref sig .tc .vmem S128x576 .f32) (h9 : a9.IsWhole)
  (x0 : Vec F S128x2048 .f32) (x1 : Vec F S1x2048 .f32) (x2 : Vec F S2048x1152 .bf16) (x3 x4 : Vec F S1x512 .f32)
  (x5 x6 : Vec F S128x128 .f32)

/-- The latent queries' block. -/
theorem queries_found :
    out0_A_7 c i a1 h1 a2 h2 a3 h3 a4 h4 a5 h5 a6 h6 a7 h7 a8 h8 a9 h9 x0 x1 x2 x3 x4 x5 x6 = k0_pay4 x0 x1 x2 x3 := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  rw [View.canon_unit_zero hz2]
  simp only [View.readAt_eq_ld, h1.read_unread, h2.read_unread, h3.read_unread, h4.read_unread,
    View.ld_unit_zero (S := S128x2048) hz2, View.ld_unit_zero (S := S1x2048) hz2, View.ld_unit_zero (S := S2048x1152) hz2,
    View.ld_unit_zero (S := S1x512) hz2]

/-- The latent rows' block: two pieces side by side. -/
theorem rows_found :
    out0_A_8 c i a1 h1 a2 h2 a3 h3 a4 h4 a5 h5 a6 h6 a7 h7 a8 h8 a9 h9 x0 x1 x2 x3 x4 x5 x6
      = View.canon (Val := Elt F) [⟨Rect.unit (s := S128x576) ![0, 512] S128x64.size inb_S128x576_S128x64_0_512, k0_pay2 (k0_pay3 x0 x1 x2) x5 x6⟩,
          ⟨Rect.unit (s := S128x576) ![0, 0] S128x512.size inb_S128x576_S128x512_0_0, k0_pay1 (k0_pay5 x0 x1 x2) x4⟩] := by
  unfold out0_A_8
  rw [View.read_writes_eq_canon _ _ _ (cover0_A_8 c i a1 h1 a2 h2 a3 h3 a4 h4 a5 h5 a6 h6 a7 h7 a8 h8 a9 h9 x0 x1 x2 x3 x4 x5 x6)]
  unfold kernelRun0_A
  dsimp only
  sl_unfold_words
  simp only [View.readAt_eq_ld, h1.read_unread, h2.read_unread, h3.read_unread, h5.read_unread, h6.read_unread, h7.read_unread,
    View.ld_unit_zero (S := S128x2048) hz2, View.ld_unit_zero (S := S1x2048) hz2, View.ld_unit_zero (S := S2048x1152) hz2,
    View.ld_unit_zero (S := S1x512) hz2, View.ld_unit_zero (S := S128x128) hz2]

/-- They, at the two kinds of column. -/
theorem canon_low (p : Vec F S128x64 .f32) (q : Vec F S128x512 .f32) (r : Fin 128) (k : Fin 512) :
    View.canon (Val := Elt F) [⟨Rect.unit (s := S128x576) ![0, 512] S128x64.size inb_S128x576_S128x64_0_512, p⟩,
      ⟨Rect.unit (s := S128x576) ![0, 0] S128x512.size inb_S128x576_S128x512_0_0, q⟩] (ix2 r ⟨k.val, by omega⟩) = q (ix2 r k) := by
  rw [View.canon_cons_of_not_mem]
  · have e : (ix2 r ⟨k.val, by omega⟩ : S128x576.Idx)
        = (Rect.unit (s := S128x576) ![0, 0] S128x512.size inb_S128x576_S128x512_0_0).emb (ix2 r k) := by
      funext a; match a with | ⟨0, _⟩ => exact Fin.ext (by show r.val = 0 + 1 * r.val; omega) | ⟨1, _⟩ => exact Fin.ext (by show k.val = 0 + 1 * k.val; omega)
    exact (congrArg _ e).trans (View.canon_cons_emb (Val := Elt F) (s := S128x576)
      (Rect.unit (s := S128x576) ![0, 0] S128x512.size inb_S128x576_S128x512_0_0) q [] (ix2 r k))
  · intro hm
    have h : 512 ≤ k.val := ((Rect.mem_set_unit (inb := inb_S128x576_S128x64_0_512)).1 hm 1).1
    omega

theorem canon_high (p : Vec F S128x64 .f32) (q : Vec F S128x512 .f32) (r : Fin 128) (l : Fin 64) :
    View.canon (Val := Elt F) [⟨Rect.unit (s := S128x576) ![0, 512] S128x64.size inb_S128x576_S128x64_0_512, p⟩,
      ⟨Rect.unit (s := S128x576) ![0, 0] S128x512.size inb_S128x576_S128x512_0_0, q⟩] (ix2 r ⟨512 + l.val, by omega⟩) = p (ix2 r l) := by
  have e : (ix2 r ⟨512 + l.val, by omega⟩ : S128x576.Idx)
      = (Rect.unit (s := S128x576) ![0, 512] S128x64.size inb_S128x576_S128x64_0_512).emb (ix2 r l) := by
    funext a; match a with | ⟨0, _⟩ => exact Fin.ext (by show r.val = 0 + 1 * r.val; omega) | ⟨1, _⟩ => exact Fin.ext (by show 512 + l.val = 512 + 1 * l.val; omega)
  rw [e]
  exact View.canon_cons_emb _ _ _ _

end Found

/-- The projection, one entry. -/
theorem proj_apply (x : Vec Ideal S128x2048 .f32) (g : Vec Ideal S1x2048 .f32) (w : Vec Ideal S2048x1152 .bf16)
    (r : Fin 128) (j : Fin 1152) :
    k0_pay3 x g w (ix2 r j)
      = ∑ k : Fin 2048, Cert.Layer.rms (fun j => x (ix2 r j)) (fun j => g (ix2 0 j)) k * w (ix2 k j) := by
  unfold Cert.Layer.rms
  pointwise [k0_pay3]

/-- The latent queries, one entry. -/
theorem queries_apply (x : Vec Ideal S128x2048 .f32) (g : Vec Ideal S1x2048 .f32) (w : Vec Ideal S2048x1152 .bf16)
    (q : Vec Ideal S1x512 .f32) (r : Fin 128) (k : Fin 512) :
    k0_pay4 x g w q (ix2 r k)
      = Cert.Layer.rms512 (fun j => k0_pay3 x g w (ix2 r ⟨j.val, by omega⟩)) (fun j => q (ix2 0 j)) k := by
  unfold Cert.Layer.rms512 k0_pay4
  generalize k0_pay3 x g w = a
  pointwise []

/-- The latent rows before the rotated part, one entry. -/
theorem latent_apply (x : Vec Ideal S128x2048 .f32) (g : Vec Ideal S1x2048 .f32) (w : Vec Ideal S2048x1152 .bf16)
    (q : Vec Ideal S1x512 .f32) (r : Fin 128) (k : Fin 512) :
    k0_pay1 (k0_pay5 x g w) q (ix2 r k)
      = Cert.Layer.rms512 (fun j => k0_pay3 x g w (ix2 r ⟨512 + j.val, by omega⟩)) (fun j => q (ix2 0 j)) k := by
  unfold Cert.Layer.rms512 k0_pay1 k0_pay5
  generalize k0_pay3 x g w = a
  pointwise []

/-- The rotated part, one entry: the partner is 32 columns away, in the other half. -/
theorem rot_apply (a : Vec Ideal S128x1152 .f32) (cs sn : Vec Ideal S128x128 .f32) (r : Fin 128) (l : Fin 64) :
    k0_pay2 a cs sn (ix2 r l)
      = a (ix2 r ⟨1024 + l.val, by omega⟩) * cs (ix2 r ⟨l.val, by omega⟩)
        + a (ix2 r ⟨1024 + (if l.val < 32 then l.val + 32 else l.val - 32), by split <;> omega⟩) * sn (ix2 r ⟨l.val, by omega⟩) := by
  pointwise [k0_pay2]
  congr 2
  have hc : IntOp.cmpi .slt (BitVec.ofNat 32 l.val) 32#32 = BitVec.ofBool (decide (l.val < 32)) :=
    WordCmp.cmpi_slt_ofNat (by omega) (by omega)
  rw [hc]
  have hl := l.isLt
  by_cases h : l.val < 32
  · simp only [h, decide_true, if_true]
    refine (?_ : _ = _)
    rw [show Scalar.select (BitVec.ofBool true) _ _ = _ from rfl]
    exact congrArg (fun z => a (ix2 r z)) (Fin.ext (by dsimp only; omega))
  · simp only [h, decide_false, if_false]
    rw [show Scalar.select (BitVec.ofBool false) _ _ = _ from rfl]
    exact congrArg (fun z => a (ix2 r z)) (Fin.ext (by dsimp only; omega))

end Cert.MlaInSIdeal.Band

end
-- ==== Proof.MlaInSValue.lean ====
/-
  The sample's latent projection, the whole arrays: the latent queries and the latent rows the call leaves are the
  reference's. The tables of cosines and sines come from the host, the weights padded to 1152 columns.
-/
module

public import proofs.«01_k».proof.Proof.MlaInSBody
public import proofs.«01_k».proof.Proof.MlaInValue
public import proofs.«01_k».proof.Proof.Gen.MlaInSIdeal.Value
public import proofs.«01_k».proof.Proof.Gen.MlaInSRefIdeal.Read
public import Idealize.ShloMosaic.Lib.Pipeline.ValueKit.Point
public import Idealize.ShloMosaic.Lib.StableHlo.RunRead

@[expose] public section

noncomputable section

namespace Cert.MlaInSIdeal.Band

open Cert.MlaInSIdeal Cert.MlaInSIdeal.Gen Cert.MlaInSIdeal.Value Idealize.ShloMosaic Idealize.ShloMosaic.TcCoe Idealize.SL.Sem

variable (m : (ℓ : Loc nD τ sig) → Buf (Elt Ideal) ℓ) (c : Dev nD)

/-- The five arguments as launched, as arrays of extended reals. -/
abbrev argX : Vec Ideal S128x1x2048 .f32 := m ((c : Thread nD τ).loc main_arg0)
abbrev argG : Vec Ideal S2048 .f32 := m ((c : Thread nD τ).loc main_arg1)
abbrev argW : Vec Ideal S2048x1088 .f32 := m ((c : Thread nD τ).loc main_arg2)
abbrev argQ : Vec Ideal S512 .f32 := m ((c : Thread nD τ).loc main_arg3)
abbrev argL : Vec Ideal S512 .f32 := m ((c : Thread nD τ).loc main_arg4)

theorem pts (t : Fin cfg0.N) : t.val = 0 := by have h : t.val < 1 := t.isLt.trans_eq N_0; omega

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The angles of the rows' positions, as the host computes them. -/
def angles : FVec Ideal S128x32 .f32 :=
  mulf (broadcastInDim S128x32 ![0, 1] bcast_S128x1_S128x32_0_1 (broadcastInDim S128x1 ![0] bcast_S128_S128x1_0
      (sitofp .f32 (broadcastInDim S128 ![] bcast_S_S128 (constantI S_ 32 16384#32)))))
    (broadcastInDim S128x32 ![0, 1] bcast_S1x32_S128x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The padding's zeros. -/
def zeros : FVec Ideal S128x64 .f32 := broadcastInDim S128x64 ![] bcast_S_S128x64 (constant S_ .f32 0x00000000#32)

theorem angles_apply (r : Fin 128) (l : Fin 32) : angles (ix2 r l) = Cert.Layer.angle (16384#32) l := by
  unfold Cert.Layer.angle
  pointwise [angles]

/-! ## What the host hands over -/

section Tables
variable (b : Ref sig .tc)

/-- The contents after the first `n` of the host's operations. -/
abbrev partway (n : ℕ) : Valuation τ sig (Elt Ideal) :=
  StableHlo.upto (List.flatten [hostOps0, hostOps0_1, hostOps0_2]) (fun b => m (c, b)) n

theorem entryC : V m c main_v16 = concatenate S128x128 1 [⟨S128x32, Host.cos (F := Ideal) angles⟩,
    ⟨S128x32, Host.cos (F := Ideal) angles⟩, ⟨S128x64, zeros⟩] concatenates_S128x32_S128x32_S128x64_S128x128_d1 := by
  have h : partway m c 20 main_v13 = Host.cos (F := Ideal) angles := by after_reads_simp; rfl
  have h' : partway m c 20 main_v15 = zeros := by after_reads_simp; rfl
  unfold V
  after_reads_simp
  rw [← h, ← h']
  rfl

theorem entryS : V m c main_v18 = concatenate S128x128 1 [⟨S128x32, Host.negf (F := Ideal) (Host.sin angles)⟩,
    ⟨S128x32, Host.sin (F := Ideal) angles⟩, ⟨S128x64, zeros⟩] concatenates_S128x32_S128x32_S128x64_S128x128_d1 := by
  have h : partway m c 22 main_v17 = Host.negf (F := Ideal) (Host.sin angles) := by after_reads_simp; rfl
  have h₁ : partway m c 22 main_v14 = Host.sin (F := Ideal) angles := by after_reads_simp; rfl
  have h' : partway m c 22 main_v15 = zeros := by after_reads_simp; rfl
  unfold V
  after_reads_simp
  rw [← h, ← h₁, ← h']
  rfl

theorem entryW : V m c main_v25 = truncf .bf16 (concatenate S2048x1152 1
    [⟨S2048x1024, extractStridedSlice S2048x1024 ![0, 0] (argW m c) slices_S2048x1088_S2048x1024_0_0⟩,
     ⟨S2048x128, pad S2048x128 ![0, 0] ![0, 64] ![0, 0]
        (extractStridedSlice S2048x64 ![0, 1024] (argW m c) slices_S2048x1088_S2048x64_0_1024)
        (sitofp (F := Ideal) .f32 (constantI S_ 32 0#32)) pads_S2048x64_S2048x128_000_0640 h_S_⟩]
    concatenates_S2048x1024_S2048x128_S2048x1152_d1) bitsLt_bf16_f32 := by
  unfold V
  after_reads_simp
  rfl

theorem entryX : V m c main_v19 = shapeCast S128x2048 (argX m c) shapeCasts_S128x1x2048_S128x2048 := by
  unfold V
  after_reads_simp
  rfl
theorem entryG : V m c main_v20 = shapeCast S1x2048 (argG m c) shapeCasts_S2048_S1x2048 := by
  unfold V
  after_reads_simp
  rfl
theorem entryQ : V m c main_v26 = shapeCast S1x512 (argQ m c) shapeCasts_S512_S1x512 := by
  unfold V
  after_reads_simp
  rfl
theorem entryL : V m c main_v27 = shapeCast S1x512 (argL m c) shapeCasts_S512_S1x512 := by
  unfold V
  after_reads_simp
  rfl

end Tables

/-- A table's entry: three pieces side by side, of which only the first two are looked at. -/
theorem table_apply (p q : FVec Ideal S128x32 .f32) (z : FVec Ideal S128x64 .f32) (r : Fin 128) (l : Fin 64) :
    concatenate S128x128 1 [⟨S128x32, p⟩, ⟨S128x32, q⟩, ⟨S128x64, z⟩] concatenates_S128x32_S128x32_S128x64_S128x128_d1
        (ix2 r ⟨l.val, by omega⟩)
      = if l.val < 32 then p (ix2 r ⟨l.val % 32, by omega⟩) else q (ix2 r ⟨l.val % 32, by omega⟩) := by
  have hl := l.isLt
  split
  · exact concatenate_apply_piece (t := S128x128) 1 _ _ _ 0 (by show 0 < 3; omega) S128x32 p rfl rfl 0 rfl (ix2 r ⟨l.val % 32, by omega⟩)
      (fun b hb => by match b with | ⟨0, _⟩ => rfl | ⟨1, _⟩ => exact absurd rfl hb)
      (by show 0 + l.val % 32 = l.val; omega)
  · exact concatenate_apply_piece (t := S128x128) 1 _ _ _ 1 (by show 1 < 3; omega) S128x32 q rfl rfl 32 rfl (ix2 r ⟨l.val % 32, by omega⟩)
      (fun b hb => by match b with | ⟨0, _⟩ => rfl | ⟨1, _⟩ => exact absurd rfl hb)
      (by show 32 + l.val % 32 = l.val; omega)

/-- The weights the host hands over. -/
theorem weights_apply (k : Fin 2048) (j : Fin 1088) : V m c main_v25 (ix2 k ⟨j.val, by omega⟩) = argW m c (ix2 k j) := by
  rw [entryW]
  exact Cert.MlaInIdeal.Band.padded_apply (argW m c) _ k j

/-! ## The blocks -/

/-- The row block of a point: rows `128 * t + r` of the stream. -/
abbrev rowOf (t : Fin cfg0.N) (r : Fin 128) : Fin 128 := ⟨128 * t.val + r.val, by have := pts t; omega⟩

/-- A row of the stream: one row a sequence. -/
abbrev xrow (r : Fin 128) (k : Fin 2048) : EReal := argX m c (ix3 r 0 k)

theorem blkX (t : Fin cfg0.N) (r : Fin 128) (k : Fin 2048) : iblk m c 0 t (ix2 r k) = xrow m c (rowOf t r) k := by
  obtain ⟨e0, e1⟩ := idx0 t
  refine (congrArg (V m c main_v19) (?_ : _ = (ix2 (rowOf t r) k : S128x2048.Idx))).trans ?_
  · funext a
    match a with
    | ⟨0, _⟩ => exact Fin.ext (by show win0_0.index t (0 : Fin 2) * 128 + 1 * r.val = 128 * t.val + r.val; rw [e0]; omega)
    | ⟨1, _⟩ => exact Fin.ext (by show win0_0.index t (1 : Fin 2) * 2048 + 1 * k.val = k.val; rw [e1]; omega)
  rw [entryX]
  pointwise []

theorem blkG (t : Fin cfg0.N) (k : Fin 2048) : iblk m c 1 t (ix2 0 k) = argG m c (ix1 k) := by
  obtain ⟨e0, e1⟩ := idx1 t
  refine (congrArg (V m c main_v20) (?_ : _ = (ix2 0 k : S1x2048.Idx))).trans ?_
  · funext a
    match a with
    | ⟨0, _⟩ => exact Fin.ext (by show win0_1.index t (0 : Fin 2) * 1 + 1 * 0 = 0; rw [e0])
    | ⟨1, _⟩ => exact Fin.ext (by show win0_1.index t (1 : Fin 2) * 2048 + 1 * k.val = k.val; rw [e1]; omega)
  rw [entryG]
  pointwise []

theorem blkQ (t : Fin cfg0.N) (k : Fin 512) : iblk m c 3 t (ix2 0 k) = argQ m c (ix1 k) := by
  obtain ⟨e0, e1⟩ := idx3 t
  refine (congrArg (V m c main_v26) (?_ : _ = (ix2 0 k : S1x512.Idx))).trans ?_
  · funext a
    match a with
    | ⟨0, _⟩ => exact Fin.ext (by show win0_3.index t (0 : Fin 2) * 1 + 1 * 0 = 0; rw [e0])
    | ⟨1, _⟩ => exact Fin.ext (by show win0_3.index t (1 : Fin 2) * 512 + 1 * k.val = k.val; rw [e1]; omega)
  rw [entryQ]
  pointwise []

theorem blkL (t : Fin cfg0.N) (k : Fin 512) : iblk m c 4 t (ix2 0 k) = argL m c (ix1 k) := by
  obtain ⟨e0, e1⟩ := idx4 t
  refine (congrArg (V m c main_v27) (?_ : _ = (ix2 0 k : S1x512.Idx))).trans ?_
  · funext a
    match a with
    | ⟨0, _⟩ => exact Fin.ext (by show win0_4.index t (0 : Fin 2) * 1 + 1 * 0 = 0; rw [e0])
    | ⟨1, _⟩ => exact Fin.ext (by show win0_4.index t (1 : Fin 2) * 512 + 1 * k.val = k.val; rw [e1]; omega)
  rw [entryL]
  pointwise []

theorem blkW (t : Fin cfg0.N) (k : Fin 2048) (j : Fin 1088) :
    iblk m c 2 t (ix2 k ⟨j.val, by omega⟩) = argW m c (ix2 k j) := by
  obtain ⟨e0, e1⟩ := idx2 t
  refine (congrArg (V m c main_v25) (?_ : _ = (ix2 k ⟨j.val, by omega⟩ : S2048x1152.Idx))).trans (weights_apply m c k j)
  funext a
  match a with
  | ⟨0, _⟩ => exact Fin.ext (by show win0_2.index t (0 : Fin 2) * 2048 + 1 * k.val = k.val; rw [e0]; omega)
  | ⟨1, _⟩ => exact Fin.ext (by show win0_2.index t (1 : Fin 2) * 1152 + 1 * j.val = j.val; rw [e1]; omega)

/-- The cosines and sines of a row. -/
abbrev cosOf (r : Fin 128) (l : Fin 32) : EReal := Ideal.cos (Cert.Layer.angle (16384#32) l)
abbrev sinOf (r : Fin 128) (l : Fin 32) : EReal := Ideal.sin (Cert.Layer.angle (16384#32) l)

theorem blkC (t : Fin cfg0.N) (r : Fin 128) (l : Fin 64) :
    iblk m c 5 t (ix2 r ⟨l.val, by omega⟩) = cosOf (rowOf t r) ⟨l.val % 32, by omega⟩ := by
  obtain ⟨e0, e1⟩ := idx5 t
  refine (congrArg (V m c main_v16) (?_ : _ = (ix2 (rowOf t r) ⟨l.val, by omega⟩ : S128x128.Idx))).trans ?_
  · funext a
    match a with
    | ⟨0, _⟩ => exact Fin.ext (by show win0_5.index t (0 : Fin 2) * 128 + 1 * r.val = 128 * t.val + r.val; rw [e0]; omega)
    | ⟨1, _⟩ => exact Fin.ext (by show win0_5.index t (1 : Fin 2) * 128 + 1 * l.val = l.val; rw [e1]; omega)
  rw [entryC, table_apply, ite_self]
  exact congrArg Ideal.cos (angles_apply _ _)

theorem blkS (t : Fin cfg0.N) (r : Fin 128) (l : Fin 64) :
    iblk m c 6 t (ix2 r ⟨l.val, by omega⟩)
      = if l.val < 32 then -sinOf (rowOf t r) ⟨l.val % 32, by omega⟩ else sinOf (rowOf t r) ⟨l.val % 32, by omega⟩ := by
  obtain ⟨e0, e1⟩ := idx6 t
  refine (congrArg (V m c main_v18) (?_ : _ = (ix2 (rowOf t r) ⟨l.val, by omega⟩ : S128x128.Idx))).trans ?_
  · funext a
    match a with
    | ⟨0, _⟩ => exact Fin.ext (by show win0_6.index t (0 : Fin 2) * 128 + 1 * r.val = 128 * t.val + r.val; rw [e0]; omega)
    | ⟨1, _⟩ => exact Fin.ext (by show win0_6.index t (1 : Fin 2) * 128 + 1 * l.val = l.val; rw [e1]; omega)
  rw [entryS, table_apply]
  have e := congrArg Ideal.sin (angles_apply (rowOf t r) ⟨l.val % 32, by omega⟩)
  split
  · exact congrArg (fun z : EReal => -z) e
  · exact e

/-! ## The rows -/

/-- A row's projection. -/
def proj (r : Fin 128) (j : Fin 1088) : EReal :=
  ∑ k : Fin 2048, Cert.Layer.rms (xrow m c r) (fun j => argG m c (ix1 j)) k * argW m c (ix2 k j)

/-- A row's latent query, its latent part and its turned part. -/
abbrev query (r : Fin 128) : Fin 512 → EReal :=
  Cert.Layer.rms512 (fun j => proj m c r ⟨j.val, by omega⟩) (fun j => argQ m c (ix1 j))
abbrev latent (r : Fin 128) : Fin 512 → EReal :=
  Cert.Layer.rms512 (fun j => proj m c r ⟨512 + j.val, by omega⟩) (fun j => argL m c (ix1 j))
abbrev turn (r : Fin 128) : Fin 64 → EReal :=
  Cert.Layer.turned (fun j => proj m c r ⟨1024 + j.val, by omega⟩) (cosOf r) (sinOf r)

/-- The two arrays of all the rows. -/
def G7 : Vec Ideal S128x512 .bf16 := fun i => query m c (i 0) (i 1)
def G8 : Vec Ideal S128x576 .f32 := fun i =>
  if h : (i 1).val < 512 then latent m c (i 0) ⟨(i 1).val, h⟩
  else turn m c (i 0) ⟨(i 1).val - 512, by have : (i 1).val < 576 := (i 1).isLt; omega⟩

theorem proj_at (t : Fin cfg0.N) (r : Fin 128) (j : Fin 1088) :
    k0_pay3 (iblk m c 0 t) (iblk m c 1 t) (iblk m c 2 t) (ix2 r ⟨j.val, by omega⟩) = proj m c (rowOf t r) j := by
  rw [proj_apply]
  unfold proj
  refine Finset.sum_congr rfl fun k _ => ?_
  rw [blkW]
  simp only [blkX, blkG]

/-- The queries' block of a point. -/
theorem queries_at (t : Fin cfg0.N) (r : Fin 128) (k : Fin 512) :
    k0_pay4 (iblk m c 0 t) (iblk m c 1 t) (iblk m c 2 t) (iblk m c 3 t) (ix2 r k) = query m c (rowOf t r) k := by
  rw [queries_apply]
  unfold query
  congr 1
  · funext j; exact proj_at m c t r ⟨j.val, by omega⟩
  · funext j; exact blkQ m c t j

/-- The latent rows' block of a point, its two parts. -/
theorem latent_at (t : Fin cfg0.N) (r : Fin 128) (k : Fin 512) :
    k0_pay1 (k0_pay5 (iblk m c 0 t) (iblk m c 1 t) (iblk m c 2 t)) (iblk m c 4 t) (ix2 r k) = latent m c (rowOf t r) k := by
  rw [latent_apply]
  unfold latent
  congr 1
  · funext j; exact proj_at m c t r ⟨512 + j.val, by omega⟩
  · funext j; exact blkL m c t j

theorem turn_at (t : Fin cfg0.N) (r : Fin 128) (l : Fin 64) :
    k0_pay2 (k0_pay3 (iblk m c 0 t) (iblk m c 1 t) (iblk m c 2 t)) (iblk m c 5 t) (iblk m c 6 t) (ix2 r l)
      = turn m c (rowOf t r) l := by
  rw [rot_apply]
  have e := proj_at m c t r ⟨1024 + l.val, by omega⟩
  refine (congrArg₂ (· + ·) (congrArg (· * _) e) rfl).trans ?_
  exact Cert.Layer.turned_eq (fun j => proj m c (rowOf t r) ⟨1024 + j.val, by omega⟩) _ _ l _ _ _ (blkC m c t r l) (blkS m c t r l)
    (proj_at m c t r ⟨1024 + (if l.val < 32 then l.val + 32 else l.val - 32), by split <;> omega⟩)

/-! ## The arrays -/

theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- The blocks a point writes back are its blocks of the arrays. -/
theorem flushed7_eq (t : Fin cfg0.N) :
    (dats m 0 c).flushed 7 t = ((cfg0.win 7).blk t).view.read (Elt Ideal) (G7 m c) := by
  rw [flushed7_A, queries_found]
  funext y
  have h0 : (y 0).val < 128 := (y 0).isLt
  have h1 : (y 1).val < 512 := (y 1).isLt
  obtain ⟨e0, e1⟩ := idx7 t
  refine Eq.trans (Eq.trans (congrArg _ ?_) (queries_at m c t ⟨(y 0).val, h0⟩ ⟨(y 1).val, h1⟩)) ?_
  · funext a
    match a with
    | ⟨0, _⟩ => rfl
    | ⟨1, _⟩ => rfl
  show _ = G7 m c (((cfg0.win 7).blk t).view.emb y)
  unfold G7
  congr 1 <;> apply Fin.ext
  · show 128 * t.val + (y 0).val = win0_7.index t (0 : Fin 2) * 128 + 1 * (y 0).val
    rw [e0]; omega
  · show (y 1).val = win0_7.index t (1 : Fin 2) * 512 + 1 * (y 1).val
    rw [e1]; omega

theorem flushed8_eq (t : Fin cfg0.N) :
    (dats m 0 c).flushed 8 t = ((cfg0.win 8).blk t).view.read (Elt Ideal) (G8 m c) := by
  rw [flushed8_A, rows_found]
  funext y
  have h0 : (y 0).val < 128 := (y 0).isLt
  have h1 : (y 1).val < 576 := (y 1).isLt
  obtain ⟨e0, e1⟩ := idx8 t
  have hp := pts t
  have g0 : (((cfg0.win 8).blk t).view.emb y 0).val = 128 * t.val + (y 0).val := by
    show win0_8.index t (0 : Fin 2) * 128 + 1 * (y 0).val = _
    rw [e0]; omega
  have g1 : (((cfg0.win 8).blk t).view.emb y 1).val = (y 1).val := by
    show win0_8.index t (1 : Fin 2) * 576 + 1 * (y 1).val = _
    rw [e1]; omega
  show _ = G8 m c (((cfg0.win 8).blk t).view.emb y)
  have hr : ((cfg0.win 8).blk t).view.emb y 0 = rowOf t ⟨(y 0).val, h0⟩ := Fin.ext g0
  by_cases h : (y 1).val < 512
  · refine Eq.trans (Eq.trans (congrArg _ ?_) ((canon_low _ _ ⟨(y 0).val, h0⟩ ⟨(y 1).val, h⟩).trans (latent_at m c t ⟨(y 0).val, h0⟩ ⟨(y 1).val, h⟩))) ?_
    · funext a
      match a with
      | ⟨0, _⟩ => rfl
      | ⟨1, _⟩ => rfl
    unfold G8
    rw [dif_pos (lt_of_eq_of_lt g1 h)]
    exact congrArg₂ (latent m c) hr.symm (Fin.ext g1.symm)
  · refine Eq.trans (Eq.trans (congrArg _ ?_) ((canon_high _ _ ⟨(y 0).val, h0⟩ ⟨(y 1).val - 512, by omega⟩).trans (turn_at m c t ⟨(y 0).val, h0⟩ ⟨(y 1).val - 512, by omega⟩))) ?_
    · funext a
      match a with
      | ⟨0, _⟩ => rfl
      | ⟨1, _⟩ => exact Fin.ext (by show (y 1).val = 512 + ((y 1).val - 512); omega)
    unfold G8
    rw [dif_neg (by rw [g1]; exact h)]
    exact congrArg₂ (turn m c) hr.symm (Fin.ext (by show (y 1).val - 512 = _ - 512; rw [g1]))

/-- The arrays the call leaves. -/
theorem arr7_eq : (dats m 0 c).arrAt 7 cfg0.N = G7 m c :=
  (dats m 0 c).arrAt_eq_of_cover 7 (G7 m c) (fun t _ => flushed7_eq m c t) (fun i => by
    have h0 : (i 0).val < 128 := (i 0).isLt
    have h1 : (i 1).val < 512 := (i 1).isLt
    have hN : (i 0).val / 128 < cfg0.N := lt_of_lt_of_eq (by show _ < 1; omega) N_0.symm
    obtain ⟨t, ht⟩ : ∃ t : Fin cfg0.N, t.val = (i 0).val / 128 := ⟨⟨_, hN⟩, rfl⟩
    refine ⟨t, (by decide +kernel : ∀ t : Fin grid0.N, win0_7.flush t = true) t, ?_⟩
    have hm : i ∈ ((View.whole main_v28_0).slice (win0_7.rect t)).set
        ↔ ∀ a : Fin 2, win0_7.index t a * S128x512.size a ≤ (i a).val ∧ (i a).val < win0_7.index t a * S128x512.size a + S128x512.size a := by
      rw [View.set_slice_whole, Rect.mem_set_unit]; exact Iff.rfl
    refine hm.mpr fun a => ?_
    obtain ⟨e0, e1⟩ := idx7 t
    match a with
    | ⟨0, _⟩ =>
      show win0_7.index t (0 : Fin 2) * 128 ≤ (i 0).val ∧ (i 0).val < win0_7.index t (0 : Fin 2) * 128 + 128
      rw [e0]; omega
    | ⟨1, _⟩ =>
      show win0_7.index t (1 : Fin 2) * 512 ≤ (i 1).val ∧ (i 1).val < win0_7.index t (1 : Fin 2) * 512 + 512
      rw [e1]; omega)

theorem arr8_eq : (dats m 0 c).arrAt 8 cfg0.N = G8 m c :=
  (dats m 0 c).arrAt_eq_of_cover 8 (G8 m c) (fun t _ => flushed8_eq m c t) (fun i => by
    have h0 : (i 0).val < 128 := (i 0).isLt
    have h1 : (i 1).val < 576 := (i 1).isLt
    have hN : (i 0).val / 128 < cfg0.N := lt_of_lt_of_eq (by show _ < 1; omega) N_0.symm
    obtain ⟨t, ht⟩ : ∃ t : Fin cfg0.N, t.val = (i 0).val / 128 := ⟨⟨_, hN⟩, rfl⟩
    refine ⟨t, (by decide +kernel : ∀ t : Fin grid0.N, win0_8.flush t = true) t, ?_⟩
    have hm : i ∈ ((View.whole main_v28_1).slice (win0_8.rect t)).set
        ↔ ∀ a : Fin 2, win0_8.index t a * S128x576.size a ≤ (i a).val ∧ (i a).val < win0_8.index t a * S128x576.size a + S128x576.size a := by
      rw [View.set_slice_whole, Rect.mem_set_unit]; exact Iff.rfl
    refine hm.mpr fun a => ?_
    obtain ⟨e0, e1⟩ := idx8 t
    match a with
    | ⟨0, _⟩ =>
      show win0_8.index t (0 : Fin 2) * 128 ≤ (i 0).val ∧ (i 0).val < win0_8.index t (0 : Fin 2) * 128 + 128
      rw [e0]; omega
    | ⟨1, _⟩ =>
      show win0_8.index t (1 : Fin 2) * 576 ≤ (i 1).val ∧ (i 1).val < win0_8.index t (1 : Fin 2) * 576 + 576
      rw [e1]; omega)

end Cert.MlaInSIdeal.Band

end
-- ==== Proof.MlaInSRef.lean ====
/-
  The sample's latent projection, the reference's two arrays row by row: the queries, the latent rows and the turned
  columns are those of `MlaInSValue`.
-/
module

public import proofs.«01_k».proof.Proof.MlaInSValue

@[expose] public section

noncomputable section

namespace Cert.MlaInSIdeal.Band

open Cert.MlaInSIdeal Idealize.ShloMosaic Idealize.ShloMosaic.TcCoe Idealize.SL.Sem Cert.MlaInSRefIdeal.Read
open Cert.MlaInSRefIdeal (S128x1x576 S128x1x512 S128x1x64 S128x1x32)

variable (m : (ℓ : Loc nD τ sig) → Buf (Elt Ideal) ℓ) (c : Dev nD)

/-- The reference's projection, one entry. -/
theorem ref_proj (r : Fin 128) (j : Fin 1088) :
    val_main_v16 (F := Ideal) (argX m c) (argG m c) (argW m c) (ix3 r 0 j) = proj m c r j := by
  unfold proj Cert.Layer.rms
  pointwise [val_main_v3, val_main_cst, val_main_v4, val_main_v5, val_main_cst_0, val_main_v6, val_main_v7, val_main_cst_1, val_main_v8, val_main_v9, val_main_v10, val_main_v11, val_main_v12, val_main_v13, val_main_v14, val_main_v15, val_main_v16]

theorem ref_query (r : Fin 128) (k : Fin 512) :
    val_main_v76 (F := Ideal) (argX m c) (argG m c) (argW m c) (argQ m c) (ix3 r 0 k) = query m c r k := by
  unfold query Cert.Layer.rms512
  simp only [← ref_proj]
  pointwise [val_main_v63, val_main_v64, val_main_cst_7, val_main_v65, val_main_v66, val_main_cst_8, val_main_v67, val_main_v68, val_main_cst_9, val_main_v69, val_main_v70, val_main_v71, val_main_v72, val_main_v73, val_main_v74, val_main_v75, val_main_v76]

theorem ref_latent (r : Fin 128) (k : Fin 512) :
    val_main_v30 (F := Ideal) (argX m c) (argG m c) (argW m c) (argL m c) (ix3 r 0 k) = latent m c r k := by
  unfold latent Cert.Layer.rms512
  simp only [← ref_proj]
  pointwise [val_main_v17, val_main_v18, val_main_cst_2, val_main_v19, val_main_v20, val_main_cst_3, val_main_v21, val_main_v22, val_main_cst_4, val_main_v23, val_main_v24, val_main_v25, val_main_v26, val_main_v27, val_main_v28, val_main_v29, val_main_v30]

theorem ref_angle (p : Fin 1) (l : Fin 32) :
    val_main_v42 (F := Ideal) (ix2 p l) = Cert.Layer.angle (16384#32) l := by
  unfold Cert.Layer.angle
  pointwise [val_main_v32, val_main_v33, val_main_cst_5, val_main_v34, val_main_v35, val_main_cst_6, val_main_v36, val_main_v37, val_main_v37, val_main_v38, val_main_v39, val_main_v40, val_main_v41, val_main_v42, val_main_v0, val_main_v1, val_main_v2, val_main_c, val_main_v38]
  rw [show IntOp.addi 16384#32 0#32 = 16384#32 from rfl]

theorem ref_first (r : Fin 128) (l : Fin 32) :
    val_main_v53 (F := Ideal) (argX m c) (argG m c) (argW m c) (ix3 r 0 l)
      = proj m c r ⟨1024 + l.val, by omega⟩ * cosOf r l - proj m c r ⟨1024 + (32 + l.val), by omega⟩ * sinOf r l := by
  unfold cosOf sinOf
  simp only [← ref_proj, ← ref_angle 0 l]
  pointwise [val_main_v43, val_main_v44, val_main_v45, val_main_v46, val_main_v47, val_main_v48, val_main_v49, val_main_v50, val_main_v51, val_main_v52, val_main_v53, val_main_v31]

theorem ref_second (r : Fin 128) (l : Fin 32) :
    val_main_v60 (F := Ideal) (argX m c) (argG m c) (argW m c) (ix3 r 0 l)
      = proj m c r ⟨1024 + l.val, by omega⟩ * sinOf r l + proj m c r ⟨1024 + (32 + l.val), by omega⟩ * cosOf r l := by
  unfold cosOf sinOf
  simp only [← ref_proj, ← ref_angle 0 l]
  pointwise [val_main_v43, val_main_v44, val_main_v45, val_main_v46, val_main_v54, val_main_v55, val_main_v56, val_main_v57, val_main_v58, val_main_v59, val_main_v60, val_main_v31]

theorem ref_turn (r : Fin 128) (l : Fin 64) :
    val_main_v61 (F := Ideal) (argX m c) (argG m c) (argW m c) (ix3 r 0 l) = turn m c r l := by
  have hl := l.isLt
  unfold turn Cert.Layer.turned
  by_cases h : l.val < 32
  · rw [dif_pos h]
    have e : (⟨1024 + (32 + l.val), by omega⟩ : Fin 1088) = ⟨1024 + (l.val + 32), by omega⟩ := Fin.ext (by dsimp only; omega)
    refine Eq.trans ?_ ((ref_first m c r ⟨l.val, h⟩).trans (by rw [e]))
    exact concatenate_pair_apply_left (t := S128x1x64) (s₁ := S128x1x32) (s₂ := S128x1x32) 2 _ _ _ _ rfl
      (ix3 r 0 ⟨l.val, h⟩)
      (fun b => by match b with | ⟨0, _⟩ => rfl | ⟨1, _⟩ => rfl | ⟨2, _⟩ => rfl)
  · rw [dif_neg h]
    have e : (⟨1024 + (32 + (l.val - 32)), by omega⟩ : Fin 1088) = ⟨1024 + l.val, by omega⟩ := Fin.ext (by dsimp only; omega)
    refine Eq.trans ?_ ((ref_second m c r ⟨l.val - 32, by omega⟩).trans (by rw [e]))
    exact concatenate_pair_apply_right (t := S128x1x64) (s₁ := S128x1x32) (s₂ := S128x1x32) 2 _ _ _ _ rfl rfl
      (ix3 r 0 ⟨l.val - 32, by omega⟩)
      (fun b hb => by match b with | ⟨0, _⟩ => rfl | ⟨1, _⟩ => rfl | ⟨2, _⟩ => exact absurd rfl hb)
      (by show l.val - 32 + 32 = l.val; omega)

/-- The reference's queries. -/
theorem ref7_eq : val_main_v78 (F := Ideal) (argX m c) (argG m c) (argW m c) (argQ m c) = G7 m c := by
  funext i
  refine Eq.trans ?_ (ref_query m c (i 0) (i 1))
  pointwise [val_main_v78, val_main_v77]

/-- The reference's rows. -/
theorem ref8_eq : val_main_v79 (F := Ideal) (argX m c) (argG m c) (argW m c) (argL m c) = G8 m c := by
  funext i
  have h1 : (i 1).val < 576 := (i 1).isLt
  have h0 : (i 0).val < 128 := (i 0).isLt
  have e : val_main_v79 (F := Ideal) (argX m c) (argG m c) (argW m c) (argL m c) i
      = val_main_v62 (F := Ideal) (argX m c) (argG m c) (argW m c) (argL m c)
          (ix3 ⟨(i 0).val, h0⟩ 0 ⟨(i 1).val, h1⟩) := by
    pointwise [val_main_v79]
  rw [e]
  unfold G8
  by_cases h : (i 1).val < 512
  · rw [dif_pos h]
    refine Eq.trans ?_ (ref_latent m c (i 0) ⟨(i 1).val, h⟩)
    exact concatenate_pair_apply_left (t := S128x1x576) (s₁ := S128x1x512) (s₂ := S128x1x64) 2 _ _ _ _ rfl
      (ix3 ⟨(i 0).val, h0⟩ 0 ⟨(i 1).val, h⟩)
      (fun b => by match b with | ⟨0, _⟩ => rfl | ⟨1, _⟩ => rfl | ⟨2, _⟩ => rfl)
  · rw [dif_neg h]
    refine Eq.trans ?_ (ref_turn m c (i 0) ⟨(i 1).val - 512, by omega⟩)
    exact concatenate_pair_apply_right (t := S128x1x576) (s₁ := S128x1x512) (s₂ := S128x1x64) 2 _ _ _ _ rfl rfl
      (ix3 ⟨(i 0).val, h0⟩ 0 ⟨(i 1).val - 512, by omega⟩)
      (fun b hb => by match b with | ⟨0, _⟩ => rfl | ⟨1, _⟩ => rfl | ⟨2, _⟩ => exact absurd rfl hb)
      (by show (i 1).val - 512 + 512 = (i 1).val; omega)

end Cert.MlaInSIdeal.Band

end
-- ==== Proof.QBBody.lean ====
/-
  The dilated layer's queries, one grid point of the normalise-and-multiply call with wider columns: at the first column of a row band the body stores the band's
  normalised rows in the scratch; at every column it leaves the scratch times the weight block in the output block.
-/
module

public import proofs.«01_k».proof.Proof.RowNorm
public import proofs.«01_k».proof.Proof.Gen.QBIdeal.Frame
public import Idealize.ShloMosaic.Lib.Tactic

@[expose] public section

noncomputable section

namespace Cert.QBIdeal.Band

open Cert.QBIdeal Cert.QBIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x768 .bf16) (h4 : a4.IsWhole)
  (a5 : Memref sig .tc .vmem S1024x768 .bf16) (h5 : a5.IsWhole) (a6 : Memref sig .tc .vmem S1024x2048 .bf16) (h6 : a6.IsWhole)
  (x0 : Vec F S1024x2048 .f32) (x1 : Vec F S1x2048 .f32) (x2 : Vec F S2048x768 .bf16)

/-- First column: the scratch ends at the normalised rows. -/
theorem scratch_first (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S1024x2048) hz2,
    View.ld_unit_zero (S := S1x2048) hz2]

/-- First column: the output block ends at the product of the rows just normalised with the weight block. -/
theorem out_first (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S1024x2048) _ hz2]
  simp only [View.readAt_eq_ld, h2.read_unread, h3.read_unread, h4.read_unread, View.ld_unit_zero (S := S1024x2048) hz2,
    View.ld_unit_zero (S := S1x2048) hz2, View.ld_unit_zero (S := S2048x768) hz2]

/-- A later column: the scratch stays, -/
theorem scratch_later (hc : ¬cond0_0 i) (xs : Vec F S1024x2048 .bf16) :
    sout0_B_0 c i a2 h2 a3 h3 a4 h4 a5 h5 a6 h6 hc x0 x1 x2 xs = xs := rfl

/-- and the output block ends at the scratch times the weight block. -/
theorem out_later (hc : ¬cond0_0 i) (xs : Vec F S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h4.read_unread, h6.read_unread, View.ld_unit_zero (S := S1024x2048) hz2,
    View.ld_unit_zero (S := S2048x768) hz2]

end Found

/-- The normalised rows, one entry. -/
theorem rows_apply (x : Vec Ideal S1024x2048 .f32) (g : Vec Ideal S1x2048 .f32) (r : Fin 1024) (k : Fin 2048) :
    k0_pay1 x g (ix2 r k) = Cert.Layer.rms (fun j => x (ix2 r j)) (fun j => g (ix2 0 j)) k := by
  unfold Cert.Layer.rms
  pointwise [k0_pay1]

/-- The product block, one entry. -/
theorem prod_apply (y : Vec Ideal S1024x2048 .bf16) (w : Vec Ideal S2048x768 .bf16) (r : Fin 1024) (l : Fin 768) :
    k0_pay2 y w (ix2 r l) = ∑ k : Fin 2048, y (ix2 r k) * w (ix2 k l) := by
  pointwise [k0_pay2]

end Cert.QBIdeal.Band

end
-- ==== Proof.QBValue.lean ====
/-
  The dilated layer's queries, the whole array: the scratch of a row band is kept over its columns, so every
  output block is the band's normalised rows times the columns of the weights, and the array is the reference's product.
-/
module

public import proofs.«01_k».proof.Proof.QBBody
public import proofs.«01_k».proof.Proof.Gen.QBIdeal.Value
public import proofs.«01_k».proof.Proof.Gen.QBRefIdeal.Read
public import Idealize.ShloMosaic.Lib.Pipeline.ValueKit.Point

@[expose] public section

noncomputable section

namespace Cert.QBIdeal.Band

open Cert.QBIdeal Cert.QBIdeal.Gen Cert.QBIdeal.Value Idealize.ShloMosaic Idealize.ShloMosaic.TcCoe Idealize.SL.Sem

variable (m : (ℓ : Loc nD τ sig) → Buf (Elt Ideal) ℓ) (c : Dev nD)

/-- The three arguments as launched, as arrays of extended reals. -/
abbrev argX : Vec Ideal S8192x2048 .f32 := m ((c : Thread nD τ).loc main_arg0)
abbrev argG : Vec Ideal S2048 .f32 := m ((c : Thread nD τ).loc main_arg1)
abbrev argW : Vec Ideal S2048x2304 .f32 := m ((c : Thread nD τ).loc main_arg2)

theorem pts (t : Fin cfg0.N) : t.val < 24 := t.isLt.trans_eq N_0

theorem idx0 : ∀ t : Fin cfg0.N, win0_0.index t (0 : Fin 2) = t.val / 3 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 3 :=
  (by decide +kernel : ∀ t : Fin grid0.N, _)

/-- The row block of a point: rows `1024 * (t / 3) + r` of the stream. -/
theorem blkX (t : Fin cfg0.N) (r : Fin 1024) (k : Fin 2048) :
    iblk m c 0 t (ix2 r k) = argX m c (ix2 ⟨1024 * (t.val / 3) + r.val, by have := pts t; omega⟩ k) := by
  obtain ⟨e0, e1⟩ := idx0 t
  blk_ext! [iblk, V, e0, e1]

/-- The gains' block: the gains, as one row. -/
theorem blkG (t : Fin cfg0.N) (k : Fin 2048) : iblk m c 1 t (ix2 0 k) = argG m c (ix1 k) := by
  obtain ⟨e0, e1⟩ := idx1 t
  blk_ext! [iblk, V, e0, e1]

/-- The weight block of a point: columns `768 * (t % 3) + l`. -/
theorem blkW (t : Fin cfg0.N) (k : Fin 2048) (l : Fin 768) :
    iblk m c 2 t (ix2 k l) = argW m c (ix2 k ⟨768 * (t.val % 3) + l.val, by omega⟩) := by
  obtain ⟨e0, e1⟩ := idx2 t
  blk_ext! [iblk, V, e0, e1]

/-- One normalised row of the stream. -/
abbrev row (r : Fin 8192) : Fin 2048 → EReal :=
  Cert.Layer.rms (fun j => argX m c (ix2 r j)) (fun j => argG m c (ix1 j))

/-- The scratch after every point: its band's normalised rows. -/
theorem scratch_at : ∀ (n : ℕ) (hn : n < cfg0.N) (r : Fin 1024) (k : Fin 2048),
    (outsAt0 m c n hn).2 (ix2 r k)
      = row m c ⟨1024 * (n / 3) + r.val, by have := pts ⟨n, hn⟩; simp only at this; omega⟩ k := by
  intro n
  induction n with
  | zero =>
    intro hn r k
    rw [outsAt0_A m c ⟨0, hn⟩ rfl]
    dsimp only
    rw [scratch_first, rows_apply]
    simp only [blkX, blkG]
  | succ n ih =>
    intro hn r k
    by_cases h0 : (n + 1) % 3 = 0
    · rw [outsAt0_A m c ⟨n + 1, hn⟩ h0]
      dsimp only
      rw [scratch_first, rows_apply]
      simp only [blkX, blkG]
    · rw [outsAt0_B m c ⟨n + 1, hn⟩ h0]
      dsimp only
      rw [scratch_later]
      refine (ih _ r k).trans ?_
      congr 1
      apply Fin.ext
      dsimp only
      omega

/-- The output block after every point. -/
theorem out_at (t : Fin cfg0.N) (r : Fin 1024) (l : Fin 768) :
    (outsAt0 m c t.val t.isLt).1 (ix2 r l)
      = ∑ k : Fin 2048, row m c ⟨1024 * (t.val / 3) + r.val, by have := pts t; omega⟩ k
          * argW m c (ix2 k ⟨768 * (t.val % 3) + l.val, by omega⟩) := by
  have hs := scratch_at m c t.val t.isLt r
  by_cases h0 : t.val % 3 = 0
  · rw [outsAt0_A m c t h0] at hs ⊢
    dsimp only at hs ⊢
    rw [out_first, prod_apply]
    rw [scratch_first] at hs
    simp only [hs, blkW]
  · rw [outsAt0_B m c t h0] at hs ⊢
    dsimp only at hs ⊢
    rw [out_later, prod_apply]
    rw [scratch_later] at hs
    simp only [hs, blkW]

/-- The array the call leaves, at an index. -/
theorem array_apply (i : S8192x2304.Idx) :
    G3 m c i = ∑ k : Fin 2048, row m c (i 0) k * argW m c (ix2 k (i 1)) := by
  have h0 : (i 0).val < 8192 := (i 0).isLt
  have h1 : (i 1).val < 2304 := (i 1).isLt
  have hp : pt3Of i < cfg0.N := lt_of_lt_of_eq (by show run3Of i < 24; unfold run3Of; omega) N_0.symm
  unfold G3
  rw [dif_pos hp]
  rw [← outsAt0_sweep m c (pt3Of i) hp]
  have hl : loc3Of i = ix2 (⟨(i 0).val % 1024, by omega⟩ : Fin 1024) (⟨(i 1).val % 768, by omega⟩ : Fin 768) := by
    funext a; match a with | ⟨0, _⟩ => rfl | ⟨1, _⟩ => rfl
  rw [hl, out_at m c ⟨pt3Of i, hp⟩]
  have e0 : (⟨1024 * (pt3Of i / 3) + (i 0).val % 1024, by show _ < 8192; unfold pt3Of run3Of; omega⟩ : Fin 8192) = i 0 :=
    Fin.ext (by dsimp only; unfold pt3Of run3Of; omega)
  have e1 : (⟨768 * (pt3Of i % 3) + (i 1).val % 768, by show _ < 2304; omega⟩ : Fin 2304) = i 1 :=
    Fin.ext (by dsimp only; unfold pt3Of run3Of; omega)
  dsimp only
  rw [e0, e1]

/-- The reference's product, at an index. -/
theorem ref_apply (x : Vec Ideal S8192x2048 .f32) (g : Vec Ideal S2048 .f32) (w : Vec Ideal S2048x2304 .f32)
    (i : S8192x2304.Idx) :
    Cert.QBRefIdeal.Read.val_main_v14 (F := Ideal) x g w i
      = ∑ k : Fin 2048, Cert.Layer.rms (fun j => x (ix2 (i 0) j)) (fun j => g (ix1 j)) k * w (ix2 k (i 1)) := by
  unfold Cert.Layer.rms
  pointwise [Cert.QBRefIdeal.Read.val_main_v0, Cert.QBRefIdeal.Read.val_main_v1, Cert.QBRefIdeal.Read.val_main_v2, Cert.QBRefIdeal.Read.val_main_v3, Cert.QBRefIdeal.Read.val_main_v4, Cert.QBRefIdeal.Read.val_main_v5, Cert.QBRefIdeal.Read.val_main_v6, Cert.QBRefIdeal.Read.val_main_v7, Cert.QBRefIdeal.Read.val_main_v8, Cert.QBRefIdeal.Read.val_main_v9, Cert.QBRefIdeal.Read.val_main_v10, Cert.QBRefIdeal.Read.val_main_v11, Cert.QBRefIdeal.Read.val_main_v12, Cert.QBRefIdeal.Read.val_main_v13, Cert.QBRefIdeal.Read.val_main_v14, Cert.QBRefIdeal.Read.val_main_cst, Cert.QBRefIdeal.Read.val_main_cst_0, Cert.QBRefIdeal.Read.val_main_cst_1]

/-- The call's array is the reference's. -/
theorem array_eq :
    G3 m c = Cert.QBRefIdeal.Read.val_main_v14 (F := Ideal) (argX m c) (argG m c) (argW m c) := by
  funext i
  exact (array_apply m c i).trans (ref_apply _ _ _ i).symm

end Cert.QBIdeal.Band

end
-- ==== Proof.OutBody.lean ====
/-
  The output projection of the latent attention, one grid point: at the first block of features of a row block the body
  stores the block's product in the output block, at a later one it adds it, and at the last it then normalises the sum
  and adds the rows of the stream.
-/
module

public import proofs.«01_k».proof.Proof.RowNorm
public import proofs.«01_k».proof.Proof.Gen.OutIdeal.Frame
public import Idealize.ShloMosaic.Lib.Tactic

@[expose] public section

noncomputable section

namespace Cert.OutIdeal.Band

open Cert.OutIdeal Cert.OutIdeal.Gen Idealize.ShloMosaic Idealize.ShloMosaic.TcCoe Idealize.SL.Sem

theorem hz2 : (![0, 0] : Fin 2 → Nat) = fun _ => 0 := funext fun a => by fin_cases a <;> rfl

section Found
variable {F : FTy → Type} [FloatOps F]
variable (c : Dev nD) (i : grid0.Coords) (a2 : Memref sig .tc .vmem S1024x512 .bf16) (h2 : a2.IsWhole)
  (a3 : Memref sig .tc .vmem S512x2048 .bf16) (h3 : a3.IsWhole) (a4 : Memref sig .tc .vmem S1024x2048 .f32) (h4 : a4.IsWhole)
  (a5 : Memref sig .tc .vmem S1x2048 .f32) (h5 : a5.IsWhole) (a6 : Memref sig .tc .vmem S1024x2048 .f32) (h6 : a6.IsWhole)
  (x0 : Vec F S1024x512 .bf16) (x1 : Vec F S512x2048 .bf16) (x2 : Vec F S1024x2048 .f32) (x3 : Vec F S1x2048 .f32)

/-- First block of features: the output block ends at the block's product. -/
theorem out_first (hc0 : cond0_0 i) (hc1 : ¬cond0_1 i) (hc2 : ¬cond0_2 i) :
    out0_A_4 c i a2 h2 a3 h3 a4 h4 a5 h5 a6 h6 hc0 hc1 hc2 x0 x1 x2 x3 = k0_pay1 x0 x1 := by
  unfold out0_A_4
  rw [View.read_writes_eq_canon _ _ _ (cover0_A_4 c i a2 h2 a3 h3 a4 h4 a5 h5 a6 h6 hc0 hc1 hc2 x0 x1 x2 x3)]
  unfold kernelRun0_A
  dsimp only
  sl_unfold_words
  rw [View.canon_unit_zero hz2]
  simp only [View.readAt_eq_ld, h2.read_unread, h3.read_unread, View.ld_unit_zero (S := S1024x512) hz2,
    View.ld_unit_zero (S := S512x2048) hz2]

/-- A block between: the product is added. -/
theorem out_between (hc0 : ¬cond0_0 i) (hc1 : cond0_1 i) (hc2 : ¬cond0_2 i) (xo : Vec F S1024x2048 .f32) :
    out0_B_4 c i a2 h2 a3 h3 a4 h4 a5 h5 a6 h6 hc0 hc1 hc2 x0 x1 x2 x3 xo = k0_pay2 x0 x1 xo := by
  unfold out0_B_4
  rw [View.read_writes_eq_canon _ _ _ (cover0_B_4 c i a2 h2 a3 h3 a4 h4 a5 h5 a6 h6 hc0 hc1 hc2 x0 x1 x2 x3 xo)]
  unfold kernelRun0_B
  dsimp only
  sl_unfold_words
  rw [View.canon_unit_zero hz2]
  simp only [View.readAt_eq_ld, h2.read_unread, h3.read_unread, h6.read_unread, View.ld_unit_zero (S := S1024x512) hz2,
    View.ld_unit_zero (S := S512x2048) hz2, View.ld_unit_zero (S := S1024x2048) hz2]

/-- The last block: the output block ends at the rows plus the normalised sum. -/
theorem out_last (hc0 : ¬cond0_0 i) (hc1 : cond0_1 i) (hc2 : cond0_2 i) (xo : Vec F S1024x2048 .f32) :
    out0_C_4 c i a2 h2 a3 h3 a4 h4 a5 h5 a6 h6 hc0 hc1 hc2 x0 x1 x2 x3 xo = k0_pay3 x2 (k0_pay2 x0 x1 xo) x3 := by
  unfold out0_C_4
  rw [View.read_writes_eq_canon _ _ _ (cover0_C_4 c i a2 h2 a3 h3 a4 h4 a5 h5 a6 h6 hc0 hc1 hc2 x0 x1 x2 x3 xo)]
  unfold kernelRun0_C
  dsimp only
  sl_unfold_words
  rw [View.canon_cons_unit_zero (S := S1024x2048) hz2, View.readCov_unit_zero (S := S1024x2048) _ hz2]
  simp only [View.readAt_eq_ld, h2.read_unread, h3.read_unread, h4.read_unread, h5.read_unread, h6.read_unread,
    View.ld_unit_zero (S := S1024x512) hz2, View.ld_unit_zero (S := S512x2048) hz2, View.ld_unit_zero (S := S1024x2048) hz2,
    View.ld_unit_zero (S := S1x2048) hz2]

end Found

/-- A block's product, one entry. -/
theorem part_apply (a : Vec Ideal S1024x512 .bf16) (w : Vec Ideal S512x2048 .bf16) (r : Fin 1024) (d : Fin 2048) :
    k0_pay1 a w (ix2 r d) = ∑ f : Fin 512, a (ix2 r f) * w (ix2 f d) := by
  pointwise [k0_pay1]

/-- The product added to what was there. -/
theorem acc_apply (a : Vec Ideal S1024x512 .bf16) (w : Vec Ideal S512x2048 .bf16) (o : Vec Ideal S1024x2048 .f32)
    (r : Fin 1024) (d : Fin 2048) : k0_pay2 a w o (ix2 r d) = o (ix2 r d) + k0_pay1 a w (ix2 r d) := by
  unfold k0_pay2
  rw [shapeCast_self]
  rfl

/-- The rows plus the normalised sum, one entry. -/
theorem last_apply (x s : Vec Ideal S1024x2048 .f32) (g : Vec Ideal S1x2048 .f32) (r : Fin 1024) (d : Fin 2048) :
    k0_pay3 x s g (ix2 r d) = x (ix2 r d) + Cert.Layer.rms (fun j => s (ix2 r j)) (fun j => g (ix2 0 j)) d := by
  unfold Cert.Layer.rms
  pointwise [k0_pay3]

end Cert.OutIdeal.Band

end
-- ==== Proof.OutValue.lean ====
/-
  The output projection of the latent attention, the whole array: over the blocks of features of a row block the output
  block gathers the products, so that at the last one the sum is over all features; the array is the reference's.
-/
module

public import proofs.«01_k».proof.Proof.OutBody
public import proofs.«01_k».proof.Proof.Gen.OutIdeal.Value
public import proofs.«01_k».proof.Proof.Gen.OutRefIdeal.Read
public import Idealize.ShloMosaic.Lib.Pipeline.ValueKit.Point

@[expose] public section

noncomputable section

namespace Cert.OutIdeal.Band

open Cert.OutIdeal Cert.OutIdeal.Gen Cert.OutIdeal.Value Idealize.ShloMosaic Idealize.ShloMosaic.TcCoe Idealize.SL.Sem

variable (m : (ℓ : Loc nD τ sig) → Buf (Elt Ideal) ℓ) (c : Dev nD)

/-- The four arguments as launched, as arrays of extended reals. -/
abbrev argA : Vec Ideal S8192x2048 .bf16 := m ((c : Thread nD τ).loc main_arg0)
abbrev argW : Vec Ideal S2048x2048 .f32 := m ((c : Thread nD τ).loc main_arg1)
abbrev argX : Vec Ideal S8192x2048 .f32 := m ((c : Thread nD τ).loc main_arg2)
abbrev argG : Vec Ideal S2048 .f32 := m ((c : Thread nD τ).loc main_arg3)

theorem pts (t : Fin cfg0.N) : t.val < 32 := t.isLt.trans_eq N_0

theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)

/-- A point writes back only at its row block's last block of features. -/
theorem last_of_flush : ∀ t : Fin cfg0.N, (cfg0.win 4).flush t = true → t.val % 4 = 3 :=
  (by decide +kernel : ∀ t : Fin grid0.N, win0_4.flush t = true → t.val % 4 = 3)
theorem flush_of_last : ∀ t : Fin cfg0.N, t.val % 4 = 3 → (cfg0.win 4).flush t = true :=
  (by decide +kernel : ∀ t : Fin grid0.N, t.val % 4 = 3 → win0_4.flush t = true)

/-- The heads' outputs of a point: rows `1024 * (t / 4) + r`, features `512 * (t % 4) + f`. -/
theorem blkA (t : Fin cfg0.N) (r : Fin 1024) (f : Fin 512) :
    iblk m c 0 t (ix2 r f)
      = argA m c (ix2 ⟨1024 * (t.val / 4) + r.val, by have := pts t; omega⟩ ⟨512 * (t.val % 4) + f.val, by omega⟩) := by
  obtain ⟨e0, e1⟩ := idx0 t
  blk_ext! [iblk, V, e0, e1]

/-- The weights of a point: rows `512 * (t % 4) + f`. -/
theorem blkW (t : Fin cfg0.N) (f : Fin 512) (d : Fin 2048) :
    iblk m c 1 t (ix2 f d) = argW m c (ix2 ⟨512 * (t.val % 4) + f.val, by omega⟩ d) := by
  obtain ⟨e0, e1⟩ := idx1 t
  blk_ext! [iblk, V, e0, e1]

/-- The stream's rows of a point: rows `1024 * (t / 4) + r`. -/
theorem blkX (t : Fin cfg0.N) (r : Fin 1024) (d : Fin 2048) :
    iblk m c 2 t (ix2 r d) = argX m c (ix2 ⟨1024 * (t.val / 4) + r.val, by have := pts t; omega⟩ d) := by
  obtain ⟨e0, e1⟩ := idx2 t
  blk_ext! [iblk, V, e0, e1]

/-- The gains' block: the gains, as one row. -/
theorem blkG (t : Fin cfg0.N) (k : Fin 2048) : iblk m c 3 t (ix2 0 k) = argG m c (ix1 k) := by
  obtain ⟨e0, e1⟩ := idx3 t
  blk_ext! [iblk, V, e0, e1]

/-- What feature `f` gives output feature `d` of row `r`, at a natural number too, and their sums. -/
def term (r : Fin 8192) (d f : Fin 2048) : EReal := argA m c (ix2 r f) * argW m c (ix2 f d)
def termN (r : Fin 8192) (d : Fin 2048) (n : ℕ) : EReal := if h : n < 2048 then term m c r d ⟨n, h⟩ else 0
def upto (r : Fin 8192) (d : Fin 2048) (n : ℕ) : EReal := ∑ f ∈ Finset.range n, termN m c r d f

theorem upto_add (r : Fin 8192) (d : Fin 2048) (n : ℕ) :
    upto m c r d (n + 512) = upto m c r d n + ∑ f ∈ Finset.range 512, termN m c r d (n + f) :=
  Finset.sum_range_add _ n 512
theorem upto_all (r : Fin 8192) (d : Fin 2048) : upto m c r d 2048 = ∑ f : Fin 2048, term m c r d f := by
  unfold upto
  rw [Finset.sum_range]
  exact Finset.sum_congr rfl fun f _ => dif_pos f.isLt

/-- A point's product: its 512 features' terms. -/
theorem part_at (t : Fin cfg0.N) (r : Fin 1024) (d : Fin 2048) :
    k0_pay1 (iblk m c 0 t) (iblk m c 1 t) (ix2 r d)
      = ∑ f ∈ Finset.range 512,
          termN m c ⟨1024 * (t.val / 4) + r.val, by have := pts t; omega⟩ d (512 * (t.val % 4) + f) := by
  rw [part_apply, Finset.sum_range]
  refine Finset.sum_congr rfl fun f _ => ?_
  have hf : 512 * (t.val % 4) + f.val < 2048 := by omega
  unfold termN
  rw [dif_pos hf]
  unfold term
  rw [blkA, blkW]

/-- The first block of features of a row block. -/
theorem out_start (t : Fin cfg0.N) (h0 : t.val % 4 = 0) (r : Fin 1024) (d : Fin 2048) :
    outsAt0 m c t.val t.isLt (ix2 r d)
      = upto m c ⟨1024 * (t.val / 4) + r.val, by have := pts t; omega⟩ d (512 * (t.val % 4 + 1)) := by
  rw [outsAt0_A m c t h0 (by omega) (by omega), out_first, part_at]
  unfold upto
  simp only [h0, Nat.mul_zero, Nat.zero_add, Nat.mul_one]

/-- The output block after every point but a row block's last: the sum over the features so far. -/
theorem out_at : ∀ (n : ℕ) (hn : n < cfg0.N) (_ : ¬n % 4 = 3) (r : Fin 1024) (d : Fin 2048),
    outsAt0 m c n hn (ix2 r d)
      = upto m c ⟨1024 * (n / 4) + r.val, by have := pts ⟨n, hn⟩; simp only at this; omega⟩ d (512 * (n % 4 + 1)) := by
  intro n
  induction n with
  | zero => exact fun hn h3 r d => out_start m c ⟨0, hn⟩ rfl r d
  | succ n ih =>
    intro hn h3 r d
    have hpt := pts ⟨n + 1, hn⟩
    by_cases h0 : (n + 1) % 4 = 0
    · exact out_start m c ⟨n + 1, hn⟩ h0 r d
    · rw [outsAt0_B m c ⟨n + 1, hn⟩ h0 (by dsimp only; omega) h3, out_between, acc_apply, part_at m c ⟨n + 1, hn⟩]
      have e := ih (Nat.lt_of_succ_lt hn) (by omega) r d
      rw [show (n + 1) % 4 = n % 4 + 1 by omega, show 512 * (n % 4 + 1 + 1) = 512 * (n % 4 + 1) + 512 by omega, upto_add]
      refine congrArg₂ (· + ·) (e.trans ?_) ?_
      · congr 1
        apply Fin.ext
        dsimp only
        omega
      · rfl

/-- The array, at a row and a feature: the row plus the normalised product. -/
def entry (r : Fin 8192) (d : Fin 2048) : EReal :=
  argX m c (ix2 r d) + Cert.Layer.rms (fun d' => ∑ f : Fin 2048, term m c r d' f) (fun d' => argG m c (ix1 d')) d
def G4 : Vec Ideal S8192x2048 .f32 := fun i => entry m c (i 0) (i 1)

/-- The output block after a row block's last point. -/
theorem out_end (t : Fin cfg0.N) (h3 : t.val % 4 = 3) (r : Fin 1024) (d : Fin 2048) :
    outsAt0 m c t.val t.isLt (ix2 r d) = entry m c ⟨1024 * (t.val / 4) + r.val, by have := pts t; omega⟩ d := by
  have hpt := pts t
  rw [outsAt0_C m c t (by omega) (by omega) h3, out_last, last_apply]
  have hsum : ∀ d' : Fin 2048,
      k0_pay2 (iblk m c 0 t) (iblk m c 1 t) (outsAt0 m c (t.val - 1) (Nat.lt_of_le_of_lt (Nat.sub_le _ _) t.isLt)) (ix2 r d')
        = ∑ f : Fin 2048, term m c ⟨1024 * (t.val / 4) + r.val, by omega⟩ d' f := fun d' => by
    rw [acc_apply, part_at m c t r d', ← upto_all]
    refine Eq.trans ?_ (upto_add m c _ _ 1536).symm
    have e := out_at m c (t.val - 1) (Nat.lt_of_le_of_lt (Nat.sub_le _ _) t.isLt) (by omega) r d'
    rw [show (t.val - 1) % 4 = 2 by omega] at e
    refine congrArg₂ (· + ·) (e.trans ?_) ?_
    · congr 1
      apply Fin.ext
      dsimp only
      omega
    · rw [h3]
  unfold entry
  simp only [hsum, blkX, blkG]

/-- The block a row block's last point writes back is its block of the array. -/
theorem flushed4_eq (t : Fin cfg0.N) (h3 : t.val % 4 = 3) :
    (dats m 0 c).flushed 4 t = ((cfg0.win 4).blk t).view.read (Elt Ideal) (G4 m c) := by
  rw [flushed4]
  funext y
  have h0 : (y 0).val < 1024 := (y 0).isLt
  have h1 : (y 1).val < 2048 := (y 1).isLt
  obtain ⟨e0, e1⟩ := idx4 t
  refine Eq.trans (Eq.trans (congrArg _ ?_) (out_end m c t h3 ⟨(y 0).val, h0⟩ ⟨(y 1).val, h1⟩)) ?_
  · funext a
    match a with
    | ⟨0, _⟩ => rfl
    | ⟨1, _⟩ => rfl
  show _ = G4 m c (((cfg0.win 4).blk t).view.emb y)
  unfold G4
  congr 1 <;> apply Fin.ext
  · show 1024 * (t.val / 4) + (y 0).val = win0_4.index t (0 : Fin 2) * 1024 + 1 * (y 0).val
    rw [e0]; omega
  · show (y 1).val = win0_4.index t (1 : Fin 2) * 2048 + 1 * (y 1).val
    rw [e1]; omega

/-- The array the call leaves. -/
theorem arr4_eq : (dats m 0 c).arrAt 4 cfg0.N = G4 m c :=
  (dats m 0 c).arrAt_eq_of_cover 4 (G4 m c) (fun t ht => flushed4_eq m c t (last_of_flush t ht)) (fun i => by
    have h0 : (i 0).val < 8192 := (i 0).isLt
    have h1 : (i 1).val < 2048 := (i 1).isLt
    have hN : 4 * ((i 0).val / 1024) + 3 < cfg0.N := lt_of_lt_of_eq (by show _ < 32; omega) N_0.symm
    obtain ⟨t, ht⟩ : ∃ t : Fin cfg0.N, t.val = 4 * ((i 0).val / 1024) + 3 := ⟨⟨_, hN⟩, rfl⟩
    refine ⟨t, flush_of_last t (by omega), ?_⟩
    have hm : i ∈ ((View.whole main_v2).slice (win0_4.rect t)).set
        ↔ ∀ a : Fin 2, win0_4.index t a * S1024x2048.size a ≤ (i a).val ∧ (i a).val < win0_4.index t a * S1024x2048.size a + S1024x2048.size a := by
      rw [View.set_slice_whole, Rect.mem_set_unit]; exact Iff.rfl
    refine hm.mpr fun a => ?_
    obtain ⟨e0, e1⟩ := idx4 t
    match a with
    | ⟨0, _⟩ =>
      show win0_4.index t (0 : Fin 2) * 1024 ≤ (i 0).val ∧ (i 0).val < win0_4.index t (0 : Fin 2) * 1024 + 1024
      rw [e0]; omega
    | ⟨1, _⟩ =>
      show win0_4.index t (1 : Fin 2) * 2048 ≤ (i 1).val ∧ (i 1).val < win0_4.index t (1 : Fin 2) * 2048 + 2048
      rw [e1]; omega)

section Ref
open Cert.OutRefIdeal.Read

/-- The reference's result, at an index. -/
theorem ref_apply (a : Vec Ideal S8192x2048 .bf16) (w : Vec Ideal S2048x2048 .f32) (x : Vec Ideal S8192x2048 .f32)
    (g : Vec Ideal S2048 .f32) (i : S8192x2048.Idx) :
    val_main_v15 (F := Ideal) a w x g i
      = x (ix2 (i 0) (i 1)) + Cert.Layer.rms (fun d => ∑ f : Fin 2048, a (ix2 (i 0) f) * w (ix2 f d)) (fun d => g (ix1 d)) (i 1) := by
  unfold Cert.Layer.rms
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_cst, val_main_cst_0, val_main_cst_1]

end Ref

/-- The call's array is the reference's. -/
theorem array_eq :
    G4 m c = Cert.OutRefIdeal.Read.val_main_v15 (F := Ideal) (argA m c) (argW m c) (argX m c) (argG m c) := by
  funext i
  rw [ref_apply]
  rfl

end Cert.OutIdeal.Band

end
-- ==== Proof.lean ====
module

public import proofs.«01_k».proof.Defs
public import proofs.«01_k».proof.Proof.AttnValue
public import proofs.«01_k».proof.Proof.KvBValue
public import proofs.«01_k».proof.Proof.FfnValue
public import proofs.«01_k».proof.Proof.FfnSValue
public import proofs.«01_k».proof.Proof.KvBSValue
public import proofs.«01_k».proof.Proof.MlaInRef
public import proofs.«01_k».proof.Proof.MlaInSRef
public import proofs.«01_k».proof.Proof.QBValue
public import proofs.«01_k».proof.Proof.OutValue
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.KvB.Frame
public import proofs.«01_k».proof.Proof.Gen.KvBIdeal.Frame
public import proofs.«01_k».proof.Proof.Gen.KvBIdeal.Value
public import proofs.«01_k».proof.Proof.Gen.KvBRefIdeal.Run
public import proofs.«01_k».proof.Proof.Gen.KvBRefIdeal.Read
public import proofs.«01_k».proof.Proof.Gen.FfnS.Frame
public import proofs.«01_k».proof.Proof.Gen.FfnSIdeal.Frame
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.KvBS.Frame
public import proofs.«01_k».proof.Proof.Gen.KvBSIdeal.Frame
public import proofs.«01_k».proof.Proof.Gen.KvBSIdeal.Value
public import proofs.«01_k».proof.Proof.Gen.KvBSRefIdeal.Run
public import proofs.«01_k».proof.Proof.Gen.KvBSRefIdeal.Read
public import proofs.«01_k».proof.Proof.Gen.MlaIn.Frame
public import proofs.«01_k».proof.Proof.Gen.MlaInIdeal.Frame
public import proofs.«01_k».proof.Proof.Gen.MlaInIdeal.Value
public import proofs.«01_k».proof.Proof.Gen.MlaInRefIdeal.Run
public import proofs.«01_k».proof.Proof.Gen.MlaInRefIdeal.Read
public import proofs.«01_k».proof.Proof.Gen.MlaInS.Frame
public import proofs.«01_k».proof.Proof.Gen.MlaInSIdeal.Frame
public import proofs.«01_k».proof.Proof.Gen.MlaInSIdeal.Value
public import proofs.«01_k».proof.Proof.Gen.MlaInSRefIdeal.Run
public import proofs.«01_k».proof.Proof.Gen.MlaInSRefIdeal.Read
public import proofs.«01_k».proof.Proof.Gen.QB.Frame
public import proofs.«01_k».proof.Proof.Gen.QBIdeal.Frame
public import proofs.«01_k».proof.Proof.Gen.QBIdeal.Value
public import proofs.«01_k».proof.Proof.Gen.QBRefIdeal.Run
public import proofs.«01_k».proof.Proof.Gen.QBRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read

@[expose] public section

noncomputable section

namespace Cert.Proof

open Idealize.ShloMosaic Idealize.ShloMosaic.TcCoe Idealize.SL.Sem

/-- The frames of the references: host operations only, so no counter moves. -/
theorem frame_AttnRefIdeal : Cert.quiescent_AttnRefIdeal (hAttnRefIdeal := Cert.AttnRefIdeal.Gen.facts) :=
  fun m ρ _ => (θ_run Cert.AttnRefIdeal.defs _ _).mono (fun r h => ⟨fun c => (h c).2, Idealize.ShloMosaic.sem_eq_zero_of_no_sems (by decide) r.2⟩)
    (Cert.AttnRefIdeal.Value.run (F := Ideal) m ρ)
theorem frame_FfnRefIdeal : Cert.quiescent_FfnRefIdeal (hFfnRefIdeal := Cert.FfnRefIdeal.Gen.facts) :=
  fun m ρ _ => (θ_run Cert.FfnRefIdeal.defs _ _).mono (fun r h => ⟨fun c => (h c).2, Idealize.ShloMosaic.sem_eq_zero_of_no_sems (by decide) r.2⟩)
    (Cert.FfnRefIdeal.Value.run (F := Ideal) m ρ)
theorem frame_KvBRefIdeal : Cert.quiescent_KvBRefIdeal (hKvBRefIdeal := Cert.KvBRefIdeal.Gen.facts) :=
  fun m ρ _ => (θ_run Cert.KvBRefIdeal.defs _ _).mono (fun r h => ⟨fun c => (h c).2, Idealize.ShloMosaic.sem_eq_zero_of_no_sems (by decide) r.2⟩)
    (Cert.KvBRefIdeal.Value.run (F := Ideal) m ρ)
theorem frame_FfnSRefIdeal : Cert.quiescent_FfnSRefIdeal (hFfnSRefIdeal := Cert.FfnSRefIdeal.Gen.facts) :=
  fun m ρ _ => (θ_run Cert.FfnSRefIdeal.defs _ _).mono (fun r h => ⟨fun c => (h c).2, Idealize.ShloMosaic.sem_eq_zero_of_no_sems (by decide) r.2⟩)
    (Cert.FfnSRefIdeal.Value.run (F := Ideal) m ρ)
theorem frame_KvBSRefIdeal : Cert.quiescent_KvBSRefIdeal (hKvBSRefIdeal := Cert.KvBSRefIdeal.Gen.facts) :=
  fun m ρ _ => (θ_run Cert.KvBSRefIdeal.defs _ _).mono (fun r h => ⟨fun c => (h c).2, Idealize.ShloMosaic.sem_eq_zero_of_no_sems (by decide) r.2⟩)
    (Cert.KvBSRefIdeal.Value.run (F := Ideal) m ρ)
theorem frame_MlaInRefIdeal : Cert.quiescent_MlaInRefIdeal (hMlaInRefIdeal := Cert.MlaInRefIdeal.Gen.facts) :=
  fun m ρ _ => (θ_run Cert.MlaInRefIdeal.defs _ _).mono (fun r h => ⟨fun c => (h c).2.2, Idealize.ShloMosaic.sem_eq_zero_of_no_sems (by decide) r.2⟩)
    (Cert.MlaInRefIdeal.Value.run (F := Ideal) m ρ)
theorem frame_MlaInSRefIdeal : Cert.quiescent_MlaInSRefIdeal (hMlaInSRefIdeal := Cert.MlaInSRefIdeal.Gen.facts) :=
  fun m ρ _ => (θ_run Cert.MlaInSRefIdeal.defs _ _).mono (fun r h => ⟨fun c => (h c).2.2, Idealize.ShloMosaic.sem_eq_zero_of_no_sems (by decide) r.2⟩)
    (Cert.MlaInSRefIdeal.Value.run (F := Ideal) m ρ)
theorem frame_QBRefIdeal : Cert.quiescent_QBRefIdeal (hQBRefIdeal := Cert.QBRefIdeal.Gen.facts) :=
  fun m ρ _ => (θ_run Cert.QBRefIdeal.defs _ _).mono (fun r h => ⟨fun c => (h c).2, Idealize.ShloMosaic.sem_eq_zero_of_no_sems (by decide) r.2⟩)
    (Cert.QBRefIdeal.Value.run (F := Ideal) m ρ)
theorem frame_OutRefIdeal : Cert.quiescent_OutRefIdeal (hOutRefIdeal := Cert.OutRefIdeal.Gen.facts) :=
  fun m ρ _ => (θ_run Cert.OutRefIdeal.defs _ _).mono (fun r h => ⟨fun c => (h c).2, Idealize.ShloMosaic.sem_eq_zero_of_no_sems (by decide) r.2⟩)
    (Cert.OutRefIdeal.Value.run (F := Ideal) m ρ)

/-- The side conditions of the precondition's operations. -/
theorem pre_facts : Cert.Pre_finite_queries_and_keys.Facts where
  bcast_S_S8192x4096 := by decide
  slices_S8192x6144_S8192x4096_0_0 := by decide

/-- The prompt's latent attention leaves its reference's array, of finite queries and keys. -/
theorem algebraic_Attn : Cert.algebraic_AttnIdeal_AttnRefIdeal_pre_finite_queries_and_keys
    (hAttnIdeal := Cert.AttnIdeal.Gen.facts) (hAttnRefIdeal := Cert.AttnRefIdeal.Gen.facts) (hPre_finite_queries_and_keys := pre_facts) := by
  haveI := pre_facts
  intro m ρ m' ρ' hpre hagree
  refine ⟨fun c => Cert.AttnIdeal.Band.G3 m c, ?_, ?_⟩
  · refine (θ_run _ _ _).mono (fun _ h c => ⟨(h c).1.trans ?_, (h c).2⟩) (Cert.AttnIdeal.Value.run_blocks (F := Ideal) m ρ)
    exact Cert.AttnIdeal.Band.array_eq m c (Cert.AttnIdeal.Band.queries_real m c (hpre c).1) (Cert.AttnIdeal.Band.keys_real m c (hpre c).2)
  · refine (θ_run _ _ _).mono (fun _ h c => ⟨(h c).1.trans ?_, (h c).2⟩) (Cert.AttnRefIdeal.Value.run (F := Ideal) m' ρ')
    obtain ⟨e0, e1⟩ := hagree c
    rw [Cert.AttnRefIdeal.Read.val_main_v38_eq, e0, e1]
    exact Cert.AttnIdeal.Band.ref_eq m c

/-- The normalise-and-multiply call leaves its reference's array. -/
theorem algebraic_KvB : Cert.algebraic_KvBIdeal_KvBRefIdeal (hKvBIdeal := Cert.KvBIdeal.Gen.facts) (hKvBRefIdeal := Cert.KvBRefIdeal.Gen.facts) := by
  intro m ρ m' ρ' _ hagree
  refine ⟨fun c => Cert.KvBIdeal.Value.G3 m c, Cert.KvBIdeal.Value.run (F := Ideal) m ρ, ?_⟩
  refine (θ_run _ _ _).mono (fun _ h c => ⟨(h c).1.trans ?_, (h c).2⟩) (Cert.KvBRefIdeal.Value.run (F := Ideal) m' ρ')
  obtain ⟨e0, e1, e2⟩ := hagree c
  rw [Cert.KvBRefIdeal.Read.val_main_v13_eq, e0, e1, e2]
  exact (Cert.KvBIdeal.Band.array_eq m c).symm

/-- The feed-forward call leaves its reference's array. -/
theorem algebraic_Ffn : Cert.algebraic_FfnIdeal_FfnRefIdeal (hFfnIdeal := Cert.FfnIdeal.Gen.facts) (hFfnRefIdeal := Cert.FfnRefIdeal.Gen.facts) := by
  intro m ρ m' ρ' _ hagree
  refine ⟨fun c => Cert.FfnIdeal.Value.G6 m c, Cert.FfnIdeal.Value.run (F := Ideal) m ρ, ?_⟩
  refine (θ_run _ _ _).mono (fun _ h c => ⟨(h c).1.trans ?_, (h c).2⟩) (Cert.FfnRefIdeal.Value.run (F := Ideal) m' ρ')
  obtain ⟨e0, e1, e2, e3, e4⟩ := hagree c
  rw [Cert.FfnRefIdeal.Read.val_main_v32_eq, e0, e1, e2, e3, e4]
  exact (Cert.FfnIdeal.Band.array_eq m c).symm

/-- The sample's feed-forward call leaves its reference's array. -/
theorem algebraic_FfnS : Cert.algebraic_FfnSIdeal_FfnSRefIdeal (hFfnSIdeal := Cert.FfnSIdeal.Gen.facts) (hFfnSRefIdeal := Cert.FfnSRefIdeal.Gen.facts) := by
  intro m ρ m' ρ' _ hagree
  refine ⟨fun c => Cert.FfnSIdeal.Value.G6 m c, Cert.FfnSIdeal.Value.run (F := Ideal) m ρ, ?_⟩
  refine (θ_run _ _ _).mono (fun _ h c => ⟨(h c).1.trans ?_, (h c).2⟩) (Cert.FfnSRefIdeal.Value.run (F := Ideal) m' ρ')
  obtain ⟨e0, e1, e2, e3, e4⟩ := hagree c
  rw [Cert.FfnSRefIdeal.Read.val_main_v32_eq, e0, e1, e2, e3, e4]
  exact (Cert.FfnSIdeal.Band.array_eq m c).symm

/-- The sample's normalise-and-multiply call leaves its reference's array. -/
theorem algebraic_KvBS : Cert.algebraic_KvBSIdeal_KvBSRefIdeal (hKvBSIdeal := Cert.KvBSIdeal.Gen.facts) (hKvBSRefIdeal := Cert.KvBSRefIdeal.Gen.facts) := by
  intro m ρ m' ρ' _ hagree
  refine ⟨fun c => Cert.KvBSIdeal.Value.G3 m c, Cert.KvBSIdeal.Value.run (F := Ideal) m ρ, ?_⟩
  refine (θ_run _ _ _).mono (fun _ h c => ⟨(h c).1.trans ?_, (h c).2⟩) (Cert.KvBSRefIdeal.Value.run (F := Ideal) m' ρ')
  obtain ⟨e0, e1, e2⟩ := hagree c
  rw [Cert.KvBSRefIdeal.Read.val_main_v13_eq, e0, e1, e2]
  exact (Cert.KvBSIdeal.Band.array_eq m c).symm

/-- The prompt's latent projection leaves its reference's two arrays. -/
theorem algebraic_MlaIn : Cert.algebraic_MlaInIdeal_MlaInRefIdeal (hMlaInIdeal := Cert.MlaInIdeal.Gen.facts) (hMlaInRefIdeal := Cert.MlaInRefIdeal.Gen.facts) := by
  intro m ρ m' ρ' _ hagree
  refine ⟨fun c => Cert.MlaInIdeal.Band.G7 m c, fun c => Cert.MlaInIdeal.Band.G8 m c, ?_, ?_⟩
  · exact (θ_run _ _ _).mono (fun _ h c => ⟨(h c).1.trans (Cert.MlaInIdeal.Band.arr7_eq m c),
      (h c).2.1.trans (Cert.MlaInIdeal.Band.arr8_eq m c), (h c).2.2⟩) (Cert.MlaInIdeal.Value.run_blocks (F := Ideal) m ρ)
  · refine (θ_run _ _ _).mono (fun _ h c => ⟨(h c).1.trans ?_, (h c).2.1.trans ?_, (h c).2.2⟩) (Cert.MlaInRefIdeal.Value.run (F := Ideal) m' ρ')
    · obtain ⟨e0, e1, e2, e3, e4⟩ := hagree c
      rw [Cert.MlaInRefIdeal.Read.val_main_v77_eq, e0, e1, e2, e3]
      exact Cert.MlaInIdeal.Band.ref7_eq m c
    · obtain ⟨e0, e1, e2, e3, e4⟩ := hagree c
      rw [Cert.MlaInRefIdeal.Read.val_main_v78_eq, e0, e1, e2, e4]
      exact Cert.MlaInIdeal.Band.ref8_eq m c

/-- The sample's latent projection leaves its reference's two arrays. -/
theorem algebraic_MlaInS : Cert.algebraic_MlaInSIdeal_MlaInSRefIdeal (hMlaInSIdeal := Cert.MlaInSIdeal.Gen.facts) (hMlaInSRefIdeal := Cert.MlaInSRefIdeal.Gen.facts) := by
  intro m ρ m' ρ' _ hagree
  refine ⟨fun c => Cert.MlaInSIdeal.Band.G7 m c, fun c => Cert.MlaInSIdeal.Band.G8 m c, ?_, ?_⟩
  · exact (θ_run _ _ _).mono (fun _ h c => ⟨(h c).1.trans (Cert.MlaInSIdeal.Band.arr7_eq m c),
      (h c).2.1.trans (Cert.MlaInSIdeal.Band.arr8_eq m c), (h c).2.2⟩) (Cert.MlaInSIdeal.Value.run_blocks (F := Ideal) m ρ)
  · refine (θ_run _ _ _).mono (fun _ h c => ⟨(h c).1.trans ?_, (h c).2.1.trans ?_, (h c).2.2⟩) (Cert.MlaInSRefIdeal.Value.run (F := Ideal) m' ρ')
    · obtain ⟨e0, e1, e2, e3, e4⟩ := hagree c
      rw [Cert.MlaInSRefIdeal.Read.val_main_v78_eq, e0, e1, e2, e3]
      exact Cert.MlaInSIdeal.Band.ref7_eq m c
    · obtain ⟨e0, e1, e2, e3, e4⟩ := hagree c
      rw [Cert.MlaInSRefIdeal.Read.val_main_v79_eq, e0, e1, e2, e4]
      exact Cert.MlaInSIdeal.Band.ref8_eq m c

/-- The dilated layer's queries: the call leaves its reference's array. -/
theorem algebraic_QB : Cert.algebraic_QBIdeal_QBRefIdeal (hQBIdeal := Cert.QBIdeal.Gen.facts) (hQBRefIdeal := Cert.QBRefIdeal.Gen.facts) := by
  intro m ρ m' ρ' _ hagree
  refine ⟨fun c => Cert.QBIdeal.Value.G3 m c, Cert.QBIdeal.Value.run (F := Ideal) m ρ, ?_⟩
  refine (θ_run _ _ _).mono (fun _ h c => ⟨(h c).1.trans ?_, (h c).2⟩) (Cert.QBRefIdeal.Value.run (F := Ideal) m' ρ')
  obtain ⟨e0, e1, e2⟩ := hagree c
  rw [Cert.QBRefIdeal.Read.val_main_v14_eq, e0, e1, e2]
  exact (Cert.QBIdeal.Band.array_eq m c).symm

/-- The latent attention's output projection: the call leaves its reference's array. -/
theorem algebraic_Out : Cert.algebraic_OutIdeal_OutRefIdeal (hOutIdeal := Cert.OutIdeal.Gen.facts) (hOutRefIdeal := Cert.OutRefIdeal.Gen.facts) := by
  intro m ρ m' ρ' _ hagree
  refine ⟨fun c => Cert.OutIdeal.Band.G4 m c, ?_, ?_⟩
  · exact (θ_run _ _ _).mono (fun _ h c => ⟨(h c).1.trans (Cert.OutIdeal.Band.arr4_eq m c), (h c).2⟩)
      (Cert.OutIdeal.Value.run_blocks (F := Ideal) m ρ)
  · refine (θ_run _ _ _).mono (fun _ h c => ⟨(h c).1.trans ?_, (h c).2⟩) (Cert.OutRefIdeal.Value.run (F := Ideal) m' ρ')
    obtain ⟨e0, e1, e2, e3⟩ := hagree c
    rw [Cert.OutRefIdeal.Read.val_main_v15_eq, e0, e1, e2, e3]
    exact (Cert.OutIdeal.Band.array_eq m c).symm

theorem preserves_Attn : Cert.preserves_Attn_AttnIdeal :=
  IdealRules.named_const.statement Cert.AttnIdeal.κ "mask" .f32 0xF149F2CA#32 ⊥ rfl

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.KvB.Gen.facts, Cert.KvBIdeal.Gen.facts, Cert.KvBRefIdeal.Gen.facts,
    Cert.FfnS.Gen.facts, Cert.FfnSIdeal.Gen.facts, Cert.FfnSRefIdeal.Gen.facts,
    Cert.KvBS.Gen.facts, Cert.KvBSIdeal.Gen.facts, Cert.KvBSRefIdeal.Gen.facts,
    Cert.MlaIn.Gen.facts, Cert.MlaInIdeal.Gen.facts, Cert.MlaInRefIdeal.Gen.facts,
    Cert.MlaInS.Gen.facts, Cert.MlaInSIdeal.Gen.facts, Cert.MlaInSRefIdeal.Gen.facts,
    Cert.QB.Gen.facts, Cert.QBIdeal.Gen.facts, Cert.QBRefIdeal.Gen.facts,
    Cert.Out.Gen.facts, Cert.OutIdeal.Gen.facts, Cert.OutRefIdeal.Gen.facts,
    pre_facts,
    fun m ρ _ => Cert.Attn.Gen.frame m ρ, fun m ρ _ => Cert.AttnIdeal.Gen.frame m ρ, fun m ρ _ => Cert.AttnIdeal.Gen.frame m ρ,
    frame_AttnRefIdeal, fun m ρ _ => frame_AttnRefIdeal m ρ trivial,
    fun m ρ _ => Cert.Ffn.Gen.frame m ρ, fun m ρ _ => Cert.FfnIdeal.Gen.frame m ρ, frame_FfnRefIdeal,
    fun m ρ _ => Cert.KvB.Gen.frame m ρ, fun m ρ _ => Cert.KvBIdeal.Gen.frame m ρ, frame_KvBRefIdeal,
    fun m ρ _ => Cert.FfnS.Gen.frame m ρ, fun m ρ _ => Cert.FfnSIdeal.Gen.frame m ρ, frame_FfnSRefIdeal,
    fun m ρ _ => Cert.KvBS.Gen.frame m ρ, fun m ρ _ => Cert.KvBSIdeal.Gen.frame m ρ, frame_KvBSRefIdeal,
    fun m ρ _ => Cert.MlaIn.Gen.frame m ρ, fun m ρ _ => Cert.MlaInIdeal.Gen.frame m ρ, frame_MlaInRefIdeal,
    fun m ρ _ => Cert.MlaInS.Gen.frame m ρ, fun m ρ _ => Cert.MlaInSIdeal.Gen.frame m ρ, frame_MlaInSRefIdeal,
    fun m ρ _ => Cert.QB.Gen.frame m ρ, fun m ρ _ => Cert.QBIdeal.Gen.frame m ρ, frame_QBRefIdeal,
    fun m ρ _ => Cert.Out.Gen.frame m ρ, fun m ρ _ => Cert.OutIdeal.Gen.frame m ρ, frame_OutRefIdeal,
    preserves_Attn, algebraic_Attn, trivial, algebraic_Ffn, trivial, algebraic_KvB,
    trivial, algebraic_FfnS, trivial, algebraic_KvBS, trivial, algebraic_MlaIn, trivial, algebraic_MlaInS,
    trivial, algebraic_QB, trivial, algebraic_Out⟩

end Cert.Proof

end
